-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![32768, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![32768, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S32 : Shape := ⟨1, ![32]⟩
abbrev S_ : Shape := ⟨0, ![]⟩
abbrev S1024x2x1 : Shape := ⟨3, ![1024, 2, 1]⟩
abbrev S1x1x32 : Shape := ⟨3, ![1, 1, 32]⟩
abbrev S1024x2x32 : Shape := ⟨3, ![1024, 2, 32]⟩

class Facts : Prop where
  bcast_S_S32 : S_.BroadcastsInDim S32 (![] : Fin 0 → Fin S32.rank)
  bcast_S1024x2_S1024x2x1_0_1 : S1024x2.BroadcastsInDim S1024x2x1 (![0, 1] : Fin 2 → Fin S1024x2x1.rank)
  bcast_S32_S1x1x32_2 : S32.BroadcastsInDim S1x1x32 (![2] : Fin 1 → Fin S1x1x32.rank)
  bcast_S1024x2x1_S1024x2x32_0_1_2 : S1024x2x1.BroadcastsInDim S1024x2x32 (![0, 1, 2] : Fin 3 → Fin S1024x2x32.rank)
  bcast_S1x1x32_S1024x2x32_0_1_2 : S1x1x32.BroadcastsInDim S1024x2x32 (![0, 1, 2] : Fin 3 → Fin S1024x2x32.rank)
  bitsLt_bf16_f32 : FTy.bits .bf16 < FTy.bits .f32
  bcast_S_S1024x256 : S_.BroadcastsInDim S1024x256 (![] : Fin 0 → Fin S1024x256.rank)
  bcast_S_S256x128 : S_.BroadcastsInDim S256x128 (![] : Fin 0 → Fin S256x128.rank)
  bcast_S_S1024x2 : S_.BroadcastsInDim S1024x2 (![] : Fin 0 → Fin S1024x2.rank)
  natLt_1_32 : 1 < 32
  reducesTo_S1024x2x32_S32_d0_1 : S1024x2x32.ReducesTo [0, 1] S32
  h_S_ : 0 < S_.numel

variable [Facts]

def fn_part1 {F : FTy → Type} [FloatOps F] (main_arg2 : IVec S1024x2 32) (main_v15 : IVec S1024x2x32 1) (main_v19 : IVec S1024x256 1) (main_v20 : FVec F S256x128 .f32) : IVec S1024x256 1 × IVec S256x128 1 × IVec S1024x2 1 × IVec S32 1 :=
  let main_v21 : FVec F S256x128 .f32 := Host.absf main_v20
  let main_cst_1 : FVec F S_ .f32 := constant S_ .f32 0x7F800000#32
  let main_v22 : FVec F S256x128 .f32 := broadcastInDim S256x128 ![] bcast_S_S256x128 main_cst_1
  let main_v23 : IVec S256x128 1 := cmpf .olt main_v21 main_v22
  let main_c_2 : IVec S_ 32 := constantI S_ 32 0#32
  let main_v24 : IVec S1024x2 32 := broadcastInDim S1024x2 ![] bcast_S_S1024x2 main_c_2
  let main_v25 : IVec S1024x2 1 := cmpi .sge main_arg2 main_v24
  let main_c_3 : IVec S_ 32 := constantI S_ 32 128#32
  let main_v26 : IVec S1024x2 32 := broadcastInDim S1024x2 ![] bcast_S_S1024x2 main_c_3
  let main_v27 : IVec S1024x2 1 := cmpi .slt main_arg2 main_v26
  let main_v28 : IVec S1024x2 1 := andi main_v25 main_v27
  let main_v29 : IVec S1024x2x32 32 := (extui 32 · natLt_1_32) main_v15
  let main_c_4 : IVec S_ 32 := constantI S_ 32 0#32
  let main_v30 : IVec S32 32 := (fun x v => Host.reduce IntOp.addi x v reducesTo_S1024x2x32_S32_d0_1 h_S_) main_v29 main_c_4
  let main_c_5 : IVec S_ 32 := constantI S_ 32 112#32
  let main_v31 : IVec S32 32 := broadcastInDim S32 ![] bcast_S_S32 main_c_5
  let main_v32 : IVec S32 1 := cmpi .sle main_v30 main_v31
  (main_v19, main_v23, main_v28, main_v32)

def fn {F : FTy → Type} [FloatOps F] (main_arg0 : FVec F S1024x256 .bf16) (main_arg1 : FVec F S256x128 .bf16) (main_arg2 : IVec S1024x2 32) (main_arg3 : FVec F S4x256x512 .bf16) : IVec S1024x256 1 × IVec S256x128 1 × IVec S1024x2 1 × IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := muli main_v1 main_v0
  let main_v3 : IVec S1024x2x1 32 := broadcastInDim S1024x2x1 ![0, 1] bcast_S1024x2_S1024x2x1_0_1 main_arg2
  let main_v4 : IVec S1x1x32 32 := broadcastInDim S1x1x32 ![2] bcast_S32_S1x1x32_2 main_v2
  let main_v5 : IVec S1024x2x32 32 := broadcastInDim S1024x2x32 ![0, 1, 2] bcast_S1024x2x1_S1024x2x32_0_1_2 main_v3
  let main_v6 : IVec S1024x2x32 32 := broadcastInDim S1024x2x32 ![0, 1, 2] bcast_S1x1x32_S1024x2x32_0_1_2 main_v4
  let main_v7 : IVec S1024x2x32 1 := cmpi .sge main_v5 main_v6
  let main_v8 : IVec S1024x2x1 32 := broadcastInDim S1024x2x1 ![0, 1] bcast_S1024x2_S1024x2x1_0_1 main_arg2
  let main_c_0 : IVec S_ 32 := constantI S_ 32 4#32
  let main_v9 : IVec S32 32 := broadcastInDim S32 ![] bcast_S_S32 main_c_0
  let main_v10 : IVec S32 32 := addi main_v2 main_v9
  let main_v11 : IVec S1x1x32 32 := broadcastInDim S1x1x32 ![2] bcast_S32_S1x1x32_2 main_v10
  let main_v12 : IVec S1024x2x32 32 := broadcastInDim S1024x2x32 ![0, 1, 2] bcast_S1024x2x1_S1024x2x32_0_1_2 main_v8
  let main_v13 : IVec S1024x2x32 32 := broadcastInDim S1024x2x32 ![0, 1, 2] bcast_S1x1x32_S1024x2x32_0_1_2 main_v11
  let main_v14 : IVec S1024x2x32 1 := cmpi .slt main_v12 main_v13
  let main_v15 : IVec S1024x2x32 1 := andi main_v7 main_v14
  let main_v16 : FVec F S1024x256 .f32 := (extf .f32 · bitsLt_bf16_f32) main_arg0
  let main_v17 : FVec F S1024x256 .f32 := Host.absf main_v16
  let main_cst : FVec F S_ .f32 := constant S_ .f32 0x7F800000#32
  let main_v18 : FVec F S1024x256 .f32 := broadcastInDim S1024x256 ![] bcast_S_S1024x256 main_cst
  let main_v19 : IVec S1024x256 1 := cmpf .olt main_v17 main_v18
  let main_v20 : FVec F S256x128 .f32 := (extf .f32 · bitsLt_bf16_f32) main_arg1
  fn_part1 (F := F) main_arg2 main_v15 main_v19 main_v20
-- ==== Pre_routed_ReferenceIdeal.lean ====
abbrev S32768x256 : Shape := ⟨2, ![32768, 256]⟩
abbrev S256x128 : Shape := ⟨2, ![256, 128]⟩
abbrev S32768x2 : Shape := ⟨2, ![32768, 2]⟩
abbrev S128x256x512 : Shape := ⟨3, ![128, 256, 512]⟩
abbrev S32 : Shape := ⟨1, ![32]⟩
abbrev S_ : Shape := ⟨0, ![]⟩
abbrev S32768x2x1 : Shape := ⟨3, ![32768, 2, 1]⟩
abbrev S1x1x32 : Shape := ⟨3, ![1, 1, 32]⟩
abbrev S32768x2x32 : Shape := ⟨3, ![32768, 2, 32]⟩

class Facts : Prop where
  bcast_S_S32 : S_.BroadcastsInDim S32 (![] : Fin 0 → Fin S32.rank)
  bcast_S32768x2_S32768x2x1_0_1 : S32768x2.BroadcastsInDim S32768x2x1 (![0, 1] : Fin 2 → Fin S32768x2x1.rank)
  bcast_S32_S1x1x32_2 : S32.BroadcastsInDim S1x1x32 (![2] : Fin 1 → Fin S1x1x32.rank)
  bcast_S32768x2x1_S32768x2x32_0_1_2 : S32768x2x1.BroadcastsInDim S32768x2x32 (![0, 1, 2] : Fin 3 → Fin S32768x2x32.rank)
  bcast_S1x1x32_S32768x2x32_0_1_2 : S1x1x32.BroadcastsInDim S32768x2x32 (![0, 1, 2] : Fin 3 → Fin S32768x2x32.rank)
  bitsLt_bf16_f32 : FTy.bits .bf16 < FTy.bits .f32
  bcast_S_S32768x256 : S_.BroadcastsInDim S32768x256 (![] : Fin 0 → Fin S32768x256.rank)
  bcast_S_S256x128 : S_.BroadcastsInDim S256x128 (![] : Fin 0 → Fin S256x128.rank)
  bcast_S_S32768x2 : S_.BroadcastsInDim S32768x2 (![] : Fin 0 → Fin S32768x2.rank)
  natLt_1_32 : 1 < 32
  reducesTo_S32768x2x32_S32_d0_1 : S32768x2x32.ReducesTo [0, 1] S32
  h_S_ : 0 < S_.numel

variable [Facts]

def fn_part1 {F : FTy → Type} [FloatOps F] (main_arg2 : IVec S32768x2 32) (main_v15 : IVec S32768x2x32 1) (main_v19 : IVec S32768x256 1) (main_v20 : FVec F S256x128 .f32) : IVec S32768x256 1 × IVec S256x128 1 × IVec S32768x2 1 × IVec S32 1 :=
  let main_v21 : FVec F S256x128 .f32 := Host.absf main_v20
  let main_cst_1 : FVec F S_ .f32 := constant S_ .f32 0x7F800000#32
  let main_v22 : FVec F S256x128 .f32 := broadcastInDim S256x128 ![] bcast_S_S256x128 main_cst_1
  let main_v23 : IVec S256x128 1 := cmpf .olt main_v21 main_v22
  let main_c_2 : IVec S_ 32 := constantI S_ 32 0#32
  let main_v24 : IVec S32768x2 32 := broadcastInDim S32768x2 ![] bcast_S_S32768x2 main_c_2
  let main_v25 : IVec S32768x2 1 := cmpi .sge main_arg2 main_v24
  let main_c_3 : IVec S_ 32 := constantI S_ 32 128#32
  let main_v26 : IVec S32768x2 32 := broadcastInDim S32768x2 ![] bcast_S_S32768x2 main_c_3
  let main_v27 : IVec S32768x2 1 := cmpi .slt main_arg2 main_v26
  let main_v28 : IVec S32768x2 1 := andi main_v25 main_v27
  let main_v29 : IVec S32768x2x32 32 := (extui 32 · natLt_1_32) main_v15
  let main_c_4 : IVec S_ 32 := constantI S_ 32 0#32
  let main_v30 : IVec S32 32 := (fun x v => Host.reduce IntOp.addi x v reducesTo_S32768x2x32_S32_d0_1 h_S_) main_v29 main_c_4
  let main_c_5 : IVec S_ 32 := constantI S_ 32 112#32
  let main_v31 : IVec S32 32 := broadcastInDim S32 ![] bcast_S_S32 main_c_5
  let main_v32 : IVec S32 1 := cmpi .sle main_v30 main_v31
  (main_v19, main_v23, main_v28, main_v32)

def fn {F : FTy → Type} [FloatOps F] (main_arg0 : FVec F S32768x256 .bf16) (main_arg1 : FVec F S256x128 .bf16) (main_arg2 : IVec S32768x2 32) (main_arg3 : FVec F S128x256x512 .bf16) : IVec S32768x256 1 × IVec S256x128 1 × IVec S32768x2 1 × IVec S32 1 :=
  let main_v0 : IVec S32 32 := iotaInDim S32 32 0
  let main_c : IVec S_ 32 := constantI S_ 32 4#32
  let main_v1 : IVec S32 32 := broadcastInDim S32 ![] bcast_S_S32 main_c
  let main_v2 : IVec S32 32 := muli main_v1 main_v0
  let main_v3 : IVec S32768x2x1 32 := broadcastInDim S32768x2x1 ![0, 1] bcast_S32768x2_S32768x2x1_0_1 main_arg2
  let main_v4 : IVec S1x1x32 32 := broadcastInDim S1x1x32 ![2] bcast_S32_S1x1x32_2 main_v2
  let main_v5 : IVec S32768x2x32 32 := broadcastInDim S32768x2x32 ![0, 1, 2] bcast_S32768x2x1_S32768x2x32_0_1_2 main_v3
  let main_v6 : IVec S32768x2x32 32 := broadcastInDim S32768x2x32 ![0, 1, 2] bcast_S1x1x32_S32768x2x32_0_1_2 main_v4
  let main_v7 : IVec S32768x2x32 1 := cmpi .sge main_v5 main_v6
  let main_v8 : IVec S32768x2x1 32 := broadcastInDim S32768x2x1 ![0, 1] bcast_S32768x2_S32768x2x1_0_1 main_arg2
  let main_c_0 : IVec S_ 32 := constantI S_ 32 4#32
  let main_v9 : IVec S32 32 := broadcastInDim S32 ![] bcast_S_S32 main_c_0
  let main_v10 : IVec S32 32 := addi main_v2 main_v9
  let main_v11 : IVec S1x1x32 32 := broadcastInDim S1x1x32 ![2] bcast_S32_S1x1x32_2 main_v10
  let main_v12 : IVec S32768x2x32 32 := broadcastInDim S32768x2x32 ![0, 1, 2] bcast_S32768x2x1_S32768x2x32_0_1_2 main_v8
  let main_v13 : IVec S32768x2x32 32 := broadcastInDim S32768x2x32 ![0, 1, 2] bcast_S1x1x32_S32768x2x32_0_1_2 main_v11
  let main_v14 : IVec S32768x2x32 1 := cmpi .slt main_v12 main_v13
  let main_v15 : IVec S32768x2x32 1 := andi main_v7 main_v14
  let main_v16 : FVec F S32768x256 .f32 := (extf .f32 · bitsLt_bf16_f32) main_arg0
  let main_v17 : FVec F S32768x256 .f32 := Host.absf main_v16
  let main_cst : FVec F S_ .f32 := constant S_ .f32 0x7F800000#32
  let main_v18 : FVec F S32768x256 .f32 := broadcastInDim S32768x256 ![] bcast_S_S32768x256 main_cst
  let main_v19 : IVec S32768x256 1 := cmpf .olt main_v17 main_v18
  let main_v20 : FVec F S256x128 .f32 := (extf .f32 · bitsLt_bf16_f32) main_arg1
  fn_part1 (F := F) main_arg2 main_v15 main_v19 main_v20
-- ==== Kernel.lean ====
abbrev S1024x256 : Shape := ⟨2, ![1024, 256]⟩
abbrev S256x128 : Shape := ⟨2, ![256, 128]⟩
abbrev S1024x2 : Shape := ⟨2, ![1024, 2]⟩
abbrev S4x256x512 : Shape := ⟨3, ![4, 256, 512]⟩
abbrev S1024x512 : Shape := ⟨2, ![1024, 512]⟩
abbrev S32x116x256 : Shape := ⟨3, ![32, 116, 256]⟩
abbrev S32x112x512 : Shape := ⟨3, ![32, 112, 512]⟩
abbrev S32 : Shape := ⟨1, ![32]⟩
abbrev S_ : Shape := ⟨0, ![]⟩
abbrev S1024x128 : Shape := ⟨2, ![1024, 128]⟩
abbrev S1024x1 : Shape := ⟨2, ![1024, 1]⟩
abbrev S1024 : Shape := ⟨1, ![1024]⟩
abbrev S1024x32 : Shape := ⟨2, ![1024, 32]⟩
abbrev S1024x1024 : Shape := ⟨2, ![1024, 1024]⟩
abbrev S1024x3584 : Shape := ⟨2, ![1024, 3584]⟩
abbrev S1024x4 : Shape := ⟨2, ![1024, 4]⟩
abbrev S1x256x512 : Shape := ⟨3, ![1, 256, 512]⟩
abbrev S256x512 : Shape := ⟨2, ![256, 512]⟩
abbrev S1024x896 : Shape := ⟨2, ![1024, 896]⟩
abbrev S896x256 : Shape := ⟨2, ![896, 256]⟩
abbrev S4x896 : Shape := ⟨2, ![4, 896]⟩
abbrev S8x112x256 : Shape := ⟨3, ![8, 112, 256]⟩
abbrev S4x112 : Shape := ⟨2, ![4, 112]⟩
abbrev S1x4x112 : Shape := ⟨3, ![1, 4, 112]⟩
abbrev S1 : Shape := ⟨1, ![1]⟩
abbrev S1x116x256 : Shape := ⟨3, ![1, 116, 256]⟩
abbrev S116x256 : Shape := ⟨2, ![116, 256]⟩
abbrev S112x112 : Shape := ⟨2, ![112, 112]⟩
abbrev S1x112x256 : Shape := ⟨3, ![1, 112, 256]⟩
abbrev S112x256 : Shape := ⟨2, ![112, 256]⟩
abbrev S112x4 : Shape := ⟨2, ![112, 4]⟩
abbrev S112x512 : Shape := ⟨2, ![112, 512]⟩
abbrev S112x1 : Shape := ⟨2, ![112, 1]⟩
abbrev S1x112x512 : Shape := ⟨3, ![1, 112, 512]⟩
abbrev S1024x112 : Shape := ⟨2, ![1024, 112]⟩

abbrev nBuf : Space → Nat
  | .hbm => 5
  | .vmem => 10
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x2, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S256x128, .bf16⟩
  | .local _ .vmem, ⟨2, _⟩ => ⟨S1024x2, .i32⟩
  | .local _ .vmem, ⟨3, _⟩ => ⟨S4x256x512, .bf16⟩
  | .local _ .vmem, ⟨4, _⟩ => ⟨S1024x512, .f32⟩
  | .local _ .vmem, ⟨5, _⟩ => ⟨S32x116x256, .bf16⟩
  | .local _ .vmem, ⟨6, _⟩ => ⟨S32x116x256, .bf16⟩
  | .local _ .vmem, ⟨7, _⟩ => ⟨S32x112x512, .bf16⟩
  | .local _ .vmem, ⟨8, _⟩ => ⟨S32x112x512, .bf16⟩
  | .local _ .vmem, ⟨9, _⟩ => ⟨S4x256x512, .bf16⟩
  | _, _ => ⟨S1024x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 133 → Bool
  | ⟨i, _⟩ => dmaSemScopedAt i

abbrev sig : RefSig :=
  (ofTc nBuf bufTy 1 133 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_228 : BitVec 32 := 1#32
  let v409 : BitVec 32 := Scalar.addi v2 c1_i32_228
  let c32_i32_229 : BitVec 32 := 32#32
  let v410 : BitVec 32 := Scalar.remsi v409 c32_i32_229
  let c1_i32_234 : BitVec 32 := 1#32
  let v411 : BitVec 32 := Scalar.muli v410 c1_i32_234
  let v412 : BitVec 32 := Scalar.addi c0_i32_235 v411
  v412.toNat
def k0_dev33 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_240 : BitVec 32 := 2#32
  let v421 : BitVec 32 := Scalar.addi v2 c2_i32_240
  let c32_i32_241 : BitVec 32 := 32#32
  let v422 : BitVec 32 := Scalar.remsi v421 c32_i32_241
  let c1_i32_246 : BitVec 32 := 1#32
  let v423 : BitVec 32 := Scalar.muli v422 c1_i32_246
  let v424 : BitVec 32 := Scalar.addi c0_i32_247 v423
  v424.toNat
def k0_dev34 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_252 : BitVec 32 := 3#32
  let v433 : BitVec 32 := Scalar.addi v2 c3_i32_252
  let c32_i32_253 : BitVec 32 := 32#32
  let v434 : BitVec 32 := Scalar.remsi v433 c32_i32_253
  let c1_i32_258 : BitVec 32 := 1#32
  let v435 : BitVec 32 := Scalar.muli v434 c1_i32_258
  let v436 : BitVec 32 := Scalar.addi c0_i32_259 v435
  v436.toNat
def k0_dev35 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_264 : BitVec 32 := 4#32
  let v445 : BitVec 32 := Scalar.addi v2 c4_i32_264
  let c32_i32_265 : BitVec 32 := 32#32
  let v446 : BitVec 32 := Scalar.remsi v445 c32_i32_265
  let c1_i32_270 : BitVec 32 := 1#32
  let v447 : BitVec 32 := Scalar.muli v446 c1_i32_270
  let v448 : BitVec 32 := Scalar.addi c0_i32_271 v447
  v448.toNat
def k0_dev36 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_276 : BitVec 32 := 5#32
  let v457 : BitVec 32 := Scalar.addi v2 c5_i32_276
  let c32_i32_277 : BitVec 32 := 32#32
  let v458 : BitVec 32 := Scalar.remsi v457 c32_i32_277
  let c1_i32_282 : BitVec 32 := 1#32
  let v459 : BitVec 32 := Scalar.muli v458 c1_i32_282
  let v460 : BitVec 32 := Scalar.addi c0_i32_283 v459
  v460.toNat
def k0_dev37 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_288 : BitVec 32 := 6#32
  let v469 : BitVec 32 := Scalar.addi v2 c6_i32_288
  let c32_i32_289 : BitVec 32 := 32#32
  let v470 : BitVec 32 := Scalar.remsi v469 c32_i32_289
  let c1_i32_294 : BitVec 32 := 1#32
  let v471 : BitVec 32 := Scalar.muli v470 c1_i32_294
  let v472 : BitVec 32 := Scalar.addi c0_i32_295 v471
  v472.toNat
def k0_dev38 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_300 : BitVec 32 := 7#32
  let v481 : BitVec 32 := Scalar.addi v2 c7_i32_300
  let c32_i32_301 : BitVec 32 := 32#32
  let v482 : BitVec 32 := Scalar.remsi v481 c32_i32_301
  let c1_i32_306 : BitVec 32 := 1#32
  let v483 : BitVec 32 := Scalar.muli v482 c1_i32_306
  let v484 : BitVec 32 := Scalar.addi c0_i32_307 v483
  v484.toNat
def k0_dev39 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_334 : BitVec 32 := 8#32
  let v538 : BitVec 32 := Scalar.addi v2 c8_i32_334
  let c32_i32_335 : BitVec 32 := 32#32
  let v539 : BitVec 32 := Scalar.remsi v538 c32_i32_335
  let c1_i32_340 : BitVec 32 := 1#32
  let v540 : BitVec 32 := Scalar.muli v539 c1_i32_340
  let v541 : BitVec 32 := Scalar.addi c0_i32_341 v540
  v541.toNat
def k0_dev40 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_346 : BitVec 32 := 9#32
  let v550 : BitVec 32 := Scalar.addi v2 c9_i32_346
  let c32_i32_347 : BitVec 32 := 32#32
  let v551 : BitVec 32 := Scalar.remsi v550 c32_i32_347
  let c1_i32_352 : BitVec 32 := 1#32
  let v552 : BitVec 32 := Scalar.muli v551 c1_i32_352
  let v553 : BitVec 32 := Scalar.addi c0_i32_353 v552
  v553.toNat
def k0_dev41 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_358 : BitVec 32 := 10#32
  let v562 : BitVec 32 := Scalar.addi v2 c10_i32_358
  let c32_i32_359 : BitVec 32 := 32#32
  let v563 : BitVec 32 := Scalar.remsi v562 c32_i32_359
  let c1_i32_364 : BitVec 32 := 1#32
  let v564 : BitVec 32 := Scalar.muli v563 c1_i32_364
  let v565 : BitVec 32 := Scalar.addi c0_i32_365 v564
  v565.toNat
def k0_dev42 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_370 : BitVec 32 := 11#32
  let v574 : BitVec 32 := Scalar.addi v2 c11_i32_370
  let c32_i32_371 : BitVec 32 := 32#32
  let v575 : BitVec 32 := Scalar.remsi v574 c32_i32_371
  let c1_i32_376 : BitVec 32 := 1#32
  let v576 : BitVec 32 := Scalar.muli v575 c1_i32_376
  let v577 : BitVec 32 := Scalar.addi c0_i32_377 v576
  v577.toNat
def k0_dev43 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_382 : BitVec 32 := 12#32
  let v586 : BitVec 32 := Scalar.addi v2 c12_i32_382
  let c32_i32_383 : BitVec 32 := 32#32
  let v587 : BitVec 32 := Scalar.remsi v586 c32_i32_383
  let c1_i32_388 : BitVec 32 := 1#32
  let v588 : BitVec 32 := Scalar.muli v587 c1_i32_388
  let v589 : BitVec 32 := Scalar.addi c0_i32_389 v588
  v589.toNat
def k0_dev44 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_394 : BitVec 32 := 13#32
  let v598 : BitVec 32 := Scalar.addi v2 c13_i32_394
  let c32_i32_395 : BitVec 32 := 32#32
  let v599 : BitVec 32 := Scalar.remsi v598 c32_i32_395
  let c1_i32_400 : BitVec 32 := 1#32
  let v600 : BitVec 32 := Scalar.muli v599 c1_i32_400
  let v601 : BitVec 32 := Scalar.addi c0_i32_401 v600
  v601.toNat
def k0_dev45 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_406 : BitVec 32 := 14#32
  let v610 : BitVec 32 := Scalar.addi v2 c14_i32_406
  let c32_i32_407 : BitVec 32 := 32#32
  let v611 : BitVec 32 := Scalar.remsi v610 c32_i32_407
  let c1_i32_412 : BitVec 32 := 1#32
  let v612 : BitVec 32 := Scalar.muli v611 c1_i32_412
  let v613 : BitVec 32 := Scalar.addi c0_i32_413 v612
  v613.toNat
def k0_dev46 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_418 : BitVec 32 := 15#32
  let v622 : BitVec 32 := Scalar.addi v2 c15_i32_418
  let c32_i32_419 : BitVec 32 := 32#32
  let v623 : BitVec 32 := Scalar.remsi v622 c32_i32_419
  let c1_i32_424 : BitVec 32 := 1#32
  let v624 : BitVec 32 := Scalar.muli v623 c1_i32_424
  let v625 : BitVec 32 := Scalar.addi c0_i32_425 v624
  v625.toNat
def k0_dev47 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_452 : BitVec 32 := 16#32
  let v679 : BitVec 32 := Scalar.addi v2 c16_i32_452
  let c32_i32_453 : BitVec 32 := 32#32
  let v680 : BitVec 32 := Scalar.remsi v679 c32_i32_453
  let c1_i32_458 : BitVec 32 := 1#32
  let v681 : BitVec 32 := Scalar.muli v680 c1_i32_458
  let v682 : BitVec 32 := Scalar.addi c0_i32_459 v681
  v682.toNat
def k0_dev48 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_464 : BitVec 32 := 17#32
  let v691 : BitVec 32 := Scalar.addi v2 c17_i32_464
  let c32_i32_465 : BitVec 32 := 32#32
  let v692 : BitVec 32 := Scalar.remsi v691 c32_i32_465
  let c1_i32_470 : BitVec 32 := 1#32
  let v693 : BitVec 32 := Scalar.muli v692 c1_i32_470
  let v694 : BitVec 32 := Scalar.addi c0_i32_471 v693
  v694.toNat
def k0_dev49 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_476 : BitVec 32 := 18#32
  let v703 : BitVec 32 := Scalar.addi v2 c18_i32_476
  let c32_i32_477 : BitVec 32 := 32#32
  let v704 : BitVec 32 := Scalar.remsi v703 c32_i32_477
  let c1_i32_482 : BitVec 32 := 1#32
  let v705 : BitVec 32 := Scalar.muli v704 c1_i32_482
  let v706 : BitVec 32 := Scalar.addi c0_i32_483 v705
  v706.toNat
def k0_dev50 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_488 : BitVec 32 := 19#32
  let v715 : BitVec 32 := Scalar.addi v2 c19_i32_488
  let c32_i32_489 : BitVec 32 := 32#32
  let v716 : BitVec 32 := Scalar.remsi v715 c32_i32_489
  let c1_i32_494 : BitVec 32 := 1#32
  let v717 : BitVec 32 := Scalar.muli v716 c1_i32_494
  let v718 : BitVec 32 := Scalar.addi c0_i32_495 v717
  v718.toNat
def k0_dev51 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_500 : BitVec 32 := 20#32
  let v727 : BitVec 32 := Scalar.addi v2 c20_i32_500
  let c32_i32_501 : BitVec 32 := 32#32
  let v728 : BitVec 32 := Scalar.remsi v727 c32_i32_501
  let c1_i32_506 : BitVec 32 := 1#32
  let v729 : BitVec 32 := Scalar.muli v728 c1_i32_506
  let v730 : BitVec 32 := Scalar.addi c0_i32_507 v729
  v730.toNat
def k0_dev52 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_512 : BitVec 32 := 21#32
  let v739 : BitVec 32 := Scalar.addi v2 c21_i32_512
  let c32_i32_513 : BitVec 32 := 32#32
  let v740 : BitVec 32 := Scalar.remsi v739 c32_i32_513
  let c1_i32_518 : BitVec 32 := 1#32
  let v741 : BitVec 32 := Scalar.muli v740 c1_i32_518
  let v742 : BitVec 32 := Scalar.addi c0_i32_519 v741
  v742.toNat
def k0_dev53 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_524 : BitVec 32 := 22#32
  let v751 : BitVec 32 := Scalar.addi v2 c22_i32_524
  let c32_i32_525 : BitVec 32 := 32#32
  let v752 : BitVec 32 := Scalar.remsi v751 c32_i32_525
  let c1_i32_530 : BitVec 32 := 1#32
  let v753 : BitVec 32 := Scalar.muli v752 c1_i32_530
  let v754 : BitVec 32 := Scalar.addi c0_i32_531 v753
  v754.toNat
def k0_dev54 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_536 : BitVec 32 := 23#32
  let v763 : BitVec 32 := Scalar.addi v2 c23_i32_536
  let c32_i32_537 : BitVec 32 := 32#32
  let v764 : BitVec 32 := Scalar.remsi v763 c32_i32_537
  let c1_i32_542 : BitVec 32 := 1#32
  let v765 : BitVec 32 := Scalar.muli v764 c1_i32_542
  let v766 : BitVec 32 := Scalar.addi c0_i32_543 v765
  v766.toNat
def k0_dev55 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_570 : BitVec 32 := 24#32
  let v820 : BitVec 32 := Scalar.addi v2 c24_i32_570
  let c32_i32_571 : BitVec 32 := 32#32
  let v821 : BitVec 32 := Scalar.remsi v820 c32_i32_571
  let c1_i32_576 : BitVec 32 := 1#32
  let v822 : BitVec 32 := Scalar.muli v821 c1_i32_576
  let v823 : BitVec 32 := Scalar.addi c0_i32_577 v822
  v823.toNat
def k0_dev56 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_582 : BitVec 32 := 25#32
  let v832 : BitVec 32 := Scalar.addi v2 c25_i32_582
  let c32_i32_583 : BitVec 32 := 32#32
  let v833 : BitVec 32 := Scalar.remsi v832 c32_i32_583
  let c1_i32_588 : BitVec 32 := 1#32
  let v834 : BitVec 32 := Scalar.muli v833 c1_i32_588
  let v835 : BitVec 32 := Scalar.addi c0_i32_589 v834
  v835.toNat
def k0_dev57 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_594 : BitVec 32 := 26#32
  let v844 : BitVec 32 := Scalar.addi v2 c26_i32_594
  let c32_i32_595 : BitVec 32 := 32#32
  let v845 : BitVec 32 := Scalar.remsi v844 c32_i32_595
  let c1_i32_600 : BitVec 32 := 1#32
  let v846 : BitVec 32 := Scalar.muli v845 c1_i32_600
  let v847 : BitVec 32 := Scalar.addi c0_i32_601 v846
  v847.toNat
def k0_dev58 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_606 : BitVec 32 := 27#32
  let v856 : BitVec 32 := Scalar.addi v2 c27_i32_606
  let c32_i32_607 : BitVec 32 := 32#32
  let v857 : BitVec 32 := Scalar.remsi v856 c32_i32_607
  let c1_i32_612 : BitVec 32 := 1#32
  let v858 : BitVec 32 := Scalar.muli v857 c1_i32_612
  let v859 : BitVec 32 := Scalar.addi c0_i32_613 v858
  v859.toNat
def k0_dev59 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_618 : BitVec 32 := 28#32
  let v868 : BitVec 32 := Scalar.addi v2 c28_i32_618
  let c32_i32_619 : BitVec 32 := 32#32
  let v869 : BitVec 32 := Scalar.remsi v868 c32_i32_619
  let c1_i32_624 : BitVec 32 := 1#32
  let v870 : BitVec 32 := Scalar.muli v869 c1_i32_624
  let v871 : BitVec 32 := Scalar.addi c0_i32_625 v870
  v871.toNat
def k0_dev60 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_630 : BitVec 32 := 29#32
  let v880 : BitVec 32 := Scalar.addi v2 c29_i32_630
  let c32_i32_631 : BitVec 32 := 32#32
  let v881 : BitVec 32 := Scalar.remsi v880 c32_i32_631
  let c1_i32_636 : BitVec 32 := 1#32
  let v882 : BitVec 32 := Scalar.muli v881 c1_i32_636
  let v883 : BitVec 32 := Scalar.addi c0_i32_637 v882
  v883.toNat
def k0_dev61 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_642 : BitVec 32 := 30#32
  let v892 : BitVec 32 := Scalar.addi v2 c30_i32_642
  let c32_i32_643 : BitVec 32 := 32#32
  let v893 : BitVec 32 := Scalar.remsi v892 c32_i32_643
  let c1_i32_648 : BitVec 32 := 1#32
  let v894 : BitVec 32 := Scalar.muli v893 c1_i32_648
  let v895 : BitVec 32 := Scalar.addi c0_i32_649 v894
  v895.toNat
def k0_dev62 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_654 : BitVec 32 := 31#32
  let v904 : BitVec 32 := Scalar.addi v2 c31_i32_654
  let c32_i32_655 : BitVec 32 := 32#32
  let v905 : BitVec 32 := Scalar.remsi v904 c32_i32_655
  let c1_i32_660 : BitVec 32 := 1#32
  let v906 : BitVec 32 := Scalar.muli v905 c1_i32_660
  let v907 : BitVec 32 := Scalar.addi c0_i32_661 v906
  v907.toNat
def k0_dev63 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_751 : BitVec 32 := 1#32
  let v1022 : BitVec 32 := Scalar.subi v2 c1_i32_751
  let c32_i32_752 : BitVec 32 := 32#32
  let v1023 : BitVec 32 := Scalar.addi v1022 c32_i32_752
  let c32_i32_753 : BitVec 32 := 32#32
  let v1024 : BitVec 32 := Scalar.remsi v1023 c32_i32_753
  let c1_i32_758 : BitVec 32 := 1#32
  let v1025 : BitVec 32 := Scalar.muli v1024 c1_i32_758
  let v1026 : BitVec 32 := Scalar.addi c0_i32_759 v1025
  v1026.toNat
def k0_dev64 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_810 : BitVec 32 := 2#32
  let v1087 : BitVec 32 := Scalar.subi v2 c2_i32_810
  let c32_i32_811 : BitVec 32 := 32#32
  let v1088 : BitVec 32 := Scalar.addi v1087 c32_i32_811
  let c32_i32_812 : BitVec 32 := 32#32
  let v1089 : BitVec 32 := Scalar.remsi v1088 c32_i32_812
  let c1_i32_817 : BitVec 32 := 1#32
  let v1090 : BitVec 32 := Scalar.muli v1089 c1_i32_817
  let v1091 : BitVec 32 := Scalar.addi c0_i32_818 v1090
  v1091.toNat
def k0_dev65 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_869 : BitVec 32 := 3#32
  let v1152 : BitVec 32 := Scalar.subi v2 c3_i32_869
  let c32_i32_870 : BitVec 32 := 32#32
  let v1153 : BitVec 32 := Scalar.addi v1152 c32_i32_870
  let c32_i32_871 : BitVec 32 := 32#32
  let v1154 : BitVec 32 := Scalar.remsi v1153 c32_i32_871
  let c1_i32_876 : BitVec 32 := 1#32
  let v1155 : BitVec 32 := Scalar.muli v1154 c1_i32_876
  let v1156 : BitVec 32 := Scalar.addi c0_i32_877 v1155
  v1156.toNat
def k0_dev66 (d0 : Dev nD) : Nat :=
  let c0_i32_936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_928 : BitVec 32 := 4#32
  let v1217 : BitVec 32 := Scalar.subi v2 c4_i32_928
  let c32_i32_929 : BitVec 32 := 32#32
  let v1218 : BitVec 32 := Scalar.addi v1217 c32_i32_929
  let c32_i32_930 : BitVec 32 := 32#32
  let v1219 : BitVec 32 := Scalar.remsi v1218 c32_i32_930
  let c1_i32_935 : BitVec 32 := 1#32
  let v1220 : BitVec 32 := Scalar.muli v1219 c1_i32_935
  let v1221 : BitVec 32 := Scalar.addi c0_i32_936 v1220
  v1221.toNat
def k0_dev67 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_987 : BitVec 32 := 5#32
  let v1282 : BitVec 32 := Scalar.subi v2 c5_i32_987
  let c32_i32_988 : BitVec 32 := 32#32
  let v1283 : BitVec 32 := Scalar.addi v1282 c32_i32_988
  let c32_i32_989 : BitVec 32 := 32#32
  let v1284 : BitVec 32 := Scalar.remsi v1283 c32_i32_989
  let c1_i32_994 : BitVec 32 := 1#32
  let v1285 : BitVec 32 := Scalar.muli v1284 c1_i32_994
  let v1286 : BitVec 32 := Scalar.addi c0_i32_995 v1285
  v1286.toNat
def k0_dev68 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1046 : BitVec 32 := 6#32
  let v1347 : BitVec 32 := Scalar.subi v2 c6_i32_1046
  let c32_i32_1047 : BitVec 32 := 32#32
  let v1348 : BitVec 32 := Scalar.addi v1347 c32_i32_1047
  let c32_i32_1048 : BitVec 32 := 32#32
  let v1349 : BitVec 32 := Scalar.remsi v1348 c32_i32_1048
  let c1_i32_1053 : BitVec 32 := 1#32
  let v1350 : BitVec 32 := Scalar.muli v1349 c1_i32_1053
  let v1351 : BitVec 32 := Scalar.addi c0_i32_1054 v1350
  v1351.toNat
def k0_dev69 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1105 : BitVec 32 := 7#32
  let v1412 : BitVec 32 := Scalar.subi v2 c7_i32_1105
  let c32_i32_1106 : BitVec 32 := 32#32
  let v1413 : BitVec 32 := Scalar.addi v1412 c32_i32_1106
  let c32_i32_1107 : BitVec 32 := 32#32
  let v1414 : BitVec 32 := Scalar.remsi v1413 c32_i32_1107
  let c1_i32_1112 : BitVec 32 := 1#32
  let v1415 : BitVec 32 := Scalar.muli v1414 c1_i32_1112
  let v1416 : BitVec 32 := Scalar.addi c0_i32_1113 v1415
  v1416.toNat
def k0_dev70 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1164 : BitVec 32 := 8#32
  let v1477 : BitVec 32 := Scalar.subi v2 c8_i32_1164
  let c32_i32_1165 : BitVec 32 := 32#32
  let v1478 : BitVec 32 := Scalar.addi v1477 c32_i32_1165
  let c32_i32_1166 : BitVec 32 := 32#32
  let v1479 : BitVec 32 := Scalar.remsi v1478 c32_i32_1166
  let c1_i32_1171 : BitVec 32 := 1#32
  let v1480 : BitVec 32 := Scalar.muli v1479 c1_i32_1171
  let v1481 : BitVec 32 := Scalar.addi c0_i32_1172 v1480
  v1481.toNat
def k0_dev71 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1223 : BitVec 32 := 9#32
  let v1542 : BitVec 32 := Scalar.subi v2 c9_i32_1223
  let c32_i32_1224 : BitVec 32 := 32#32
  let v1543 : BitVec 32 := Scalar.addi v1542 c32_i32_1224
  let c32_i32_1225 : BitVec 32 := 32#32
  let v1544 : BitVec 32 := Scalar.remsi v1543 c32_i32_1225
  let c1_i32_1230 : BitVec 32 := 1#32
  let v1545 : BitVec 32 := Scalar.muli v1544 c1_i32_1230
  let v1546 : BitVec 32 := Scalar.addi c0_i32_1231 v1545
  v1546.toNat
def k0_dev72 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1607 : BitVec 32 := Scalar.subi v2 c10_i32_1282
  let c32_i32_1283 : BitVec 32 := 32#32
  let v1608 : BitVec 32 := Scalar.addi v1607 c32_i32_1283
  let c32_i32_1284 : BitVec 32 := 32#32
  let v1609 : BitVec 32 := Scalar.remsi v1608 c32_i32_1284
  let c1_i32_1289 : BitVec 32 := 1#32
  let v1610 : BitVec 32 := Scalar.muli v1609 c1_i32_1289
  let v1611 : BitVec 32 := Scalar.addi c0_i32_1290 v1610
  v1611.toNat
def k0_dev73 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1341 : BitVec 32 := 11#32
  let v1672 : BitVec 32 := Scalar.subi v2 c11_i32_1341
  let c32_i32_1342 : BitVec 32 := 32#32
  let v1673 : BitVec 32 := Scalar.addi v1672 c32_i32_1342
  let c32_i32_1343 : BitVec 32 := 32#32
  let v1674 : BitVec 32 := Scalar.remsi v1673 c32_i32_1343
  let c1_i32_1348 : BitVec 32 := 1#32
  let v1675 : BitVec 32 := Scalar.muli v1674 c1_i32_1348
  let v1676 : BitVec 32 := Scalar.addi c0_i32_1349 v1675
  v1676.toNat
def k0_dev74 (d0 : Dev nD) : Nat :=
  let c0_i32_1408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1400 : BitVec 32 := 12#32
  let v1737 : BitVec 32 := Scalar.subi v2 c12_i32_1400
  let c32_i32_1401 : BitVec 32 := 32#32
  let v1738 : BitVec 32 := Scalar.addi v1737 c32_i32_1401
  let c32_i32_1402 : BitVec 32 := 32#32
  let v1739 : BitVec 32 := Scalar.remsi v1738 c32_i32_1402
  let c1_i32_1407 : BitVec 32 := 1#32
  let v1740 : BitVec 32 := Scalar.muli v1739 c1_i32_1407
  let v1741 : BitVec 32 := Scalar.addi c0_i32_1408 v1740
  v1741.toNat
def k0_dev75 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1459 : BitVec 32 := 13#32
  let v1802 : BitVec 32 := Scalar.subi v2 c13_i32_1459
  let c32_i32_1460 : BitVec 32 := 32#32
  let v1803 : BitVec 32 := Scalar.addi v1802 c32_i32_1460
  let c32_i32_1461 : BitVec 32 := 32#32
  let v1804 : BitVec 32 := Scalar.remsi v1803 c32_i32_1461
  let c1_i32_1466 : BitVec 32 := 1#32
  let v1805 : BitVec 32 := Scalar.muli v1804 c1_i32_1466
  let v1806 : BitVec 32 := Scalar.addi c0_i32_1467 v1805
  v1806.toNat
def k0_dev76 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1518 : BitVec 32 := 14#32
  let v1867 : BitVec 32 := Scalar.subi v2 c14_i32_1518
  let c32_i32_1519 : BitVec 32 := 32#32
  let v1868 : BitVec 32 := Scalar.addi v1867 c32_i32_1519
  let c32_i32_1520 : BitVec 32 := 32#32
  let v1869 : BitVec 32 := Scalar.remsi v1868 c32_i32_1520
  let c1_i32_1525 : BitVec 32 := 1#32
  let v1870 : BitVec 32 := Scalar.muli v1869 c1_i32_1525
  let v1871 : BitVec 32 := Scalar.addi c0_i32_1526 v1870
  v1871.toNat
def k0_dev77 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1577 : BitVec 32 := 15#32
  let v1932 : BitVec 32 := Scalar.subi v2 c15_i32_1577
  let c32_i32_1578 : BitVec 32 := 32#32
  let v1933 : BitVec 32 := Scalar.addi v1932 c32_i32_1578
  let c32_i32_1579 : BitVec 32 := 32#32
  let v1934 : BitVec 32 := Scalar.remsi v1933 c32_i32_1579
  let c1_i32_1584 : BitVec 32 := 1#32
  let v1935 : BitVec 32 := Scalar.muli v1934 c1_i32_1584
  let v1936 : BitVec 32 := Scalar.addi c0_i32_1585 v1935
  v1936.toNat
def k0_dev78 (d0 : Dev nD) : Nat :=
  let c0_i32_1644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1636 : BitVec 32 := 16#32
  let v1997 : BitVec 32 := Scalar.subi v2 c16_i32_1636
  let c32_i32_1637 : BitVec 32 := 32#32
  let v1998 : BitVec 32 := Scalar.addi v1997 c32_i32_1637
  let c32_i32_1638 : BitVec 32 := 32#32
  let v1999 : BitVec 32 := Scalar.remsi v1998 c32_i32_1638
  let c1_i32_1643 : BitVec 32 := 1#32
  let v2000 : BitVec 32 := Scalar.muli v1999 c1_i32_1643
  let v2001 : BitVec 32 := Scalar.addi c0_i32_1644 v2000
  v2001.toNat
def k0_dev79 (d0 : Dev nD) : Nat :=
  let c0_i32_1703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1695 : BitVec 32 := 17#32
  let v2062 : BitVec 32 := Scalar.subi v2 c17_i32_1695
  let c32_i32_1696 : BitVec 32 := 32#32
  let v2063 : BitVec 32 := Scalar.addi v2062 c32_i32_1696
  let c32_i32_1697 : BitVec 32 := 32#32
  let v2064 : BitVec 32 := Scalar.remsi v2063 c32_i32_1697
  let c1_i32_1702 : BitVec 32 := 1#32
  let v2065 : BitVec 32 := Scalar.muli v2064 c1_i32_1702
  let v2066 : BitVec 32 := Scalar.addi c0_i32_1703 v2065
  v2066.toNat
def k0_dev80 (d0 : Dev nD) : Nat :=
  let c0_i32_1762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1754 : BitVec 32 := 18#32
  let v2127 : BitVec 32 := Scalar.subi v2 c18_i32_1754
  let c32_i32_1755 : BitVec 32 := 32#32
  let v2128 : BitVec 32 := Scalar.addi v2127 c32_i32_1755
  let c32_i32_1756 : BitVec 32 := 32#32
  let v2129 : BitVec 32 := Scalar.remsi v2128 c32_i32_1756
  let c1_i32_1761 : BitVec 32 := 1#32
  let v2130 : BitVec 32 := Scalar.muli v2129 c1_i32_1761
  let v2131 : BitVec 32 := Scalar.addi c0_i32_1762 v2130
  v2131.toNat
def k0_dev81 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1813 : BitVec 32 := 19#32
  let v2192 : BitVec 32 := Scalar.subi v2 c19_i32_1813
  let c32_i32_1814 : BitVec 32 := 32#32
  let v2193 : BitVec 32 := Scalar.addi v2192 c32_i32_1814
  let c32_i32_1815 : BitVec 32 := 32#32
  let v2194 : BitVec 32 := Scalar.remsi v2193 c32_i32_1815
  let c1_i32_1820 : BitVec 32 := 1#32
  let v2195 : BitVec 32 := Scalar.muli v2194 c1_i32_1820
  let v2196 : BitVec 32 := Scalar.addi c0_i32_1821 v2195
  v2196.toNat
def k0_dev82 (d0 : Dev nD) : Nat :=
  let c0_i32_1880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1872 : BitVec 32 := 20#32
  let v2257 : BitVec 32 := Scalar.subi v2 c20_i32_1872
  let c32_i32_1873 : BitVec 32 := 32#32
  let v2258 : BitVec 32 := Scalar.addi v2257 c32_i32_1873
  let c32_i32_1874 : BitVec 32 := 32#32
  let v2259 : BitVec 32 := Scalar.remsi v2258 c32_i32_1874
  let c1_i32_1879 : BitVec 32 := 1#32
  let v2260 : BitVec 32 := Scalar.muli v2259 c1_i32_1879
  let v2261 : BitVec 32 := Scalar.addi c0_i32_1880 v2260
  v2261.toNat
def k0_dev83 (d0 : Dev nD) : Nat :=
  let c0_i32_1939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1931 : BitVec 32 := 21#32
  let v2322 : BitVec 32 := Scalar.subi v2 c21_i32_1931
  let c32_i32_1932 : BitVec 32 := 32#32
  let v2323 : BitVec 32 := Scalar.addi v2322 c32_i32_1932
  let c32_i32_1933 : BitVec 32 := 32#32
  let v2324 : BitVec 32 := Scalar.remsi v2323 c32_i32_1933
  let c1_i32_1938 : BitVec 32 := 1#32
  let v2325 : BitVec 32 := Scalar.muli v2324 c1_i32_1938
  let v2326 : BitVec 32 := Scalar.addi c0_i32_1939 v2325
  v2326.toNat
def k0_dev84 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1990 : BitVec 32 := 22#32
  let v2387 : BitVec 32 := Scalar.subi v2 c22_i32_1990
  let c32_i32_1991 : BitVec 32 := 32#32
  let v2388 : BitVec 32 := Scalar.addi v2387 c32_i32_1991
  let c32_i32_1992 : BitVec 32 := 32#32
  let v2389 : BitVec 32 := Scalar.remsi v2388 c32_i32_1992
  let c1_i32_1997 : BitVec 32 := 1#32
  let v2390 : BitVec 32 := Scalar.muli v2389 c1_i32_1997
  let v2391 : BitVec 32 := Scalar.addi c0_i32_1998 v2390
  v2391.toNat
def k0_dev85 (d0 : Dev nD) : Nat :=
  let c0_i32_2057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2049 : BitVec 32 := 23#32
  let v2452 : BitVec 32 := Scalar.subi v2 c23_i32_2049
  let c32_i32_2050 : BitVec 32 := 32#32
  let v2453 : BitVec 32 := Scalar.addi v2452 c32_i32_2050
  let c32_i32_2051 : BitVec 32 := 32#32
  let v2454 : BitVec 32 := Scalar.remsi v2453 c32_i32_2051
  let c1_i32_2056 : BitVec 32 := 1#32
  let v2455 : BitVec 32 := Scalar.muli v2454 c1_i32_2056
  let v2456 : BitVec 32 := Scalar.addi c0_i32_2057 v2455
  v2456.toNat
def k0_dev86 (d0 : Dev nD) : Nat :=
  let c0_i32_2116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2108 : BitVec 32 := 24#32
  let v2517 : BitVec 32 := Scalar.subi v2 c24_i32_2108
  let c32_i32_2109 : BitVec 32 := 32#32
  let v2518 : BitVec 32 := Scalar.addi v2517 c32_i32_2109
  let c32_i32_2110 : BitVec 32 := 32#32
  let v2519 : BitVec 32 := Scalar.remsi v2518 c32_i32_2110
  let c1_i32_2115 : BitVec 32 := 1#32
  let v2520 : BitVec 32 := Scalar.muli v2519 c1_i32_2115
  let v2521 : BitVec 32 := Scalar.addi c0_i32_2116 v2520
  v2521.toNat
def k0_dev87 (d0 : Dev nD) : Nat :=
  let c0_i32_2175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2167 : BitVec 32 := 25#32
  let v2582 : BitVec 32 := Scalar.subi v2 c25_i32_2167
  let c32_i32_2168 : BitVec 32 := 32#32
  let v2583 : BitVec 32 := Scalar.addi v2582 c32_i32_2168
  let c32_i32_2169 : BitVec 32 := 32#32
  let v2584 : BitVec 32 := Scalar.remsi v2583 c32_i32_2169
  let c1_i32_2174 : BitVec 32 := 1#32
  let v2585 : BitVec 32 := Scalar.muli v2584 c1_i32_2174
  let v2586 : BitVec 32 := Scalar.addi c0_i32_2175 v2585
  v2586.toNat
def k0_dev88 (d0 : Dev nD) : Nat :=
  let c0_i32_2234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2226 : BitVec 32 := 26#32
  let v2647 : BitVec 32 := Scalar.subi v2 c26_i32_2226
  let c32_i32_2227 : BitVec 32 := 32#32
  let v2648 : BitVec 32 := Scalar.addi v2647 c32_i32_2227
  let c32_i32_2228 : BitVec 32 := 32#32
  let v2649 : BitVec 32 := Scalar.remsi v2648 c32_i32_2228
  let c1_i32_2233 : BitVec 32 := 1#32
  let v2650 : BitVec 32 := Scalar.muli v2649 c1_i32_2233
  let v2651 : BitVec 32 := Scalar.addi c0_i32_2234 v2650
  v2651.toNat
def k0_dev89 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2285 : BitVec 32 := 27#32
  let v2712 : BitVec 32 := Scalar.subi v2 c27_i32_2285
  let c32_i32_2286 : BitVec 32 := 32#32
  let v2713 : BitVec 32 := Scalar.addi v2712 c32_i32_2286
  let c32_i32_2287 : BitVec 32 := 32#32
  let v2714 : BitVec 32 := Scalar.remsi v2713 c32_i32_2287
  let c1_i32_2292 : BitVec 32 := 1#32
  let v2715 : BitVec 32 := Scalar.muli v2714 c1_i32_2292
  let v2716 : BitVec 32 := Scalar.addi c0_i32_2293 v2715
  v2716.toNat
def k0_dev90 (d0 : Dev nD) : Nat :=
  let c0_i32_2352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2344 : BitVec 32 := 28#32
  let v2777 : BitVec 32 := Scalar.subi v2 c28_i32_2344
  let c32_i32_2345 : BitVec 32 := 32#32
  let v2778 : BitVec 32 := Scalar.addi v2777 c32_i32_2345
  let c32_i32_2346 : BitVec 32 := 32#32
  let v2779 : BitVec 32 := Scalar.remsi v2778 c32_i32_2346
  let c1_i32_2351 : BitVec 32 := 1#32
  let v2780 : BitVec 32 := Scalar.muli v2779 c1_i32_2351
  let v2781 : BitVec 32 := Scalar.addi c0_i32_2352 v2780
  v2781.toNat
def k0_dev91 (d0 : Dev nD) : Nat :=
  let c0_i32_2411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2403 : BitVec 32 := 29#32
  let v2842 : BitVec 32 := Scalar.subi v2 c29_i32_2403
  let c32_i32_2404 : BitVec 32 := 32#32
  let v2843 : BitVec 32 := Scalar.addi v2842 c32_i32_2404
  let c32_i32_2405 : BitVec 32 := 32#32
  let v2844 : BitVec 32 := Scalar.remsi v2843 c32_i32_2405
  let c1_i32_2410 : BitVec 32 := 1#32
  let v2845 : BitVec 32 := Scalar.muli v2844 c1_i32_2410
  let v2846 : BitVec 32 := Scalar.addi c0_i32_2411 v2845
  v2846.toNat
def k0_dev92 (d0 : Dev nD) : Nat :=
  let c0_i32_2470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2462 : BitVec 32 := 30#32
  let v2907 : BitVec 32 := Scalar.subi v2 c30_i32_2462
  let c32_i32_2463 : BitVec 32 := 32#32
  let v2908 : BitVec 32 := Scalar.addi v2907 c32_i32_2463
  let c32_i32_2464 : BitVec 32 := 32#32
  let v2909 : BitVec 32 := Scalar.remsi v2908 c32_i32_2464
  let c1_i32_2469 : BitVec 32 := 1#32
  let v2910 : BitVec 32 := Scalar.muli v2909 c1_i32_2469
  let v2911 : BitVec 32 := Scalar.addi c0_i32_2470 v2910
  v2911.toNat
def k0_dev93 (d0 : Dev nD) : Nat :=
  let c0_i32_2529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2521 : BitVec 32 := 31#32
  let v2972 : BitVec 32 := Scalar.subi v2 c31_i32_2521
  let c32_i32_2522 : BitVec 32 := 32#32
  let v2973 : BitVec 32 := Scalar.addi v2972 c32_i32_2522
  let c32_i32_2523 : BitVec 32 := 32#32
  let v2974 : BitVec 32 := Scalar.remsi v2973 c32_i32_2523
  let c1_i32_2528 : BitVec 32 := 1#32
  let v2975 : BitVec 32 := Scalar.muli v2974 c1_i32_2528
  let v2976 : BitVec 32 := Scalar.addi c0_i32_2529 v2975
  v2976.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x256 : Shape := ⟨2, ![32768, 256]⟩
abbrev S256x128 : Shape := ⟨2, ![256, 128]⟩
abbrev S32768x2 : Shape := ⟨2, ![32768, 2]⟩
abbrev S128x256x512 : Shape := ⟨3, ![128, 256, 512]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x256x512 : Shape := ⟨3, ![32768, 256, 512]⟩
abbrev S32768x512 : Shape := ⟨2, ![32768, 512]⟩

abbrev nBuf : Space → Nat
  | .hbm => 90
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S256x128, .bf16⟩
  | .hbm, ⟨2, _⟩ => ⟨S32768x2, .i32⟩
  | .hbm, ⟨3, _⟩ => ⟨S128x256x512, .bf16⟩
  | .hbm, ⟨4, _⟩ => ⟨S32768x256, .f32⟩
  | .hbm, ⟨5, _⟩ => ⟨S256x128, .f32⟩
  | .hbm, ⟨6, _⟩ => ⟨S32768x128, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S32768x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x128, .f32⟩
  | .hbm, ⟨17, _⟩ => ⟨S32768x128, .f32⟩
  | .hbm, ⟨18, _⟩ => ⟨S32768x1, .i32⟩
  | .hbm, ⟨19, _⟩ => ⟨S32768, .i32⟩
  | .hbm, ⟨20, _⟩ => ⟨S32768x1, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x1, .i32⟩
  | .hbm, ⟨39, _⟩ => ⟨S32768x2, .i32⟩
  | .hbm, ⟨40, _⟩ => ⟨S32768, .f32⟩
  | .hbm, ⟨41, _⟩ => ⟨S_, .i32⟩
  | .hbm, ⟨42, _⟩ => ⟨S32768, .i32⟩
  | .hbm, ⟨43, _⟩ => ⟨S32768, .i1⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768, .i32⟩
  | .hbm, ⟨48, _⟩ => ⟨S_, .i32⟩
  | .hbm, ⟨49, _⟩ => ⟨S32768, .i32⟩
  | .hbm, ⟨50, _⟩ => ⟨S32768, .i1⟩
  | .hbm, ⟨51, _⟩ => ⟨S_, .i32⟩
  | .hbm, ⟨52, _⟩ => ⟨S32768, .i32⟩
  | .hbm, ⟨53, _⟩ => ⟨S32768, .i32⟩
  | .hbm, ⟨54, _⟩ => ⟨S32768, .i32⟩
  | .hbm, ⟨55, _⟩ => ⟨S32768x1, .i32⟩
  | .hbm, ⟨56, _⟩ => ⟨S32768x1, .i32⟩
  | .hbm, ⟨57, _⟩ => ⟨S32768x2, .i32⟩
  | .hbm, ⟨58, _⟩ => ⟨S32768, .f32⟩
  | .hbm, ⟨59, _⟩ => ⟨S32768, .f32⟩
  | .hbm, ⟨60, _⟩ => ⟨S128x256x512, .f32⟩
  | .hbm, ⟨61, _⟩ => ⟨S_, .i32⟩
  | .hbm, ⟨62, _⟩ => ⟨S32768, .i32⟩
  | .hbm, ⟨63, _⟩ => ⟨S32768, .i1⟩
  | .hbm, ⟨64, _⟩ => ⟨S_, .i32⟩
  | .hbm, ⟨65, _⟩ => ⟨S32768, .i32⟩
  | .hbm, ⟨66, _⟩ => ⟨S32768, .i32⟩
  | .hbm, ⟨67, _⟩ => ⟨S32768, .i32⟩
  | .hbm, ⟨68, _⟩ => ⟨S32768x1, .i32⟩
  | .hbm, ⟨69, _⟩ => ⟨S32768x256x512, .f32⟩
  | .hbm, ⟨70, _⟩ => ⟨S32768x512, .f32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S32768x256x512, .f32⟩
  | .hbm, ⟨80, _⟩ => ⟨S32768x512, .f32⟩
  | .hbm, ⟨81, _⟩ => ⟨S32768, .f32⟩
  | .hbm, ⟨82, _⟩ => ⟨S32768x1, .f32⟩
  | .hbm, ⟨83, _⟩ => ⟨S32768x512, .f32⟩
  | .hbm, ⟨84, _⟩ => ⟨S32768x512, .f32⟩
  | .hbm, ⟨85, _⟩ => ⟨S32768, .f32⟩
  | .hbm, ⟨86, _⟩ => ⟨S32768x1, .f32⟩
  | .hbm, ⟨87, _⟩ => ⟨S32768x512, .f32⟩
  | .hbm, ⟨88, _⟩ => ⟨S32768x512, .f32⟩
  | .hbm, ⟨89, _⟩ => ⟨S32768x512, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Shape.lean ====
/- The kernel's body in closed form: the same memory operations, signals, waits and copies, in the same
   order, with one loop over the mesh offset in place of each unrolled stretch. -/
module

public import proofs.«01_k».proof.Proof.Gen.KernelIdeal.Skeleton
public import proofs.«01_k».proof.Proof.Gen.KernelIdeal.Points

@[expose] public section

noncomputable section

namespace Cert.Moe

open Idealize.ShloMosaic Idealize.SL.Sem Cert.KernelIdeal Cert.KernelIdeal.Gen

/-! ## Rectangles and their evidence, at a symbolic offset -/

theorem inb_slot (o : Fin 32) : ∀ a, (![o.val, 0, 0] : Fin 3 → Nat) a + S1x116x256.size a ≤ S32x116x256.size a := by
  revert o; decide
theorem inb_rows (o : Fin 32) : ∀ a, (![o.val, 0, 0] : Fin 3 → Nat) a + S1x112x256.size a ≤ S32x116x256.size a := by
  revert o; decide
theorem inb_sel (o : Fin 32) : ∀ a, (![o.val, 112, 0] : Fin 3 → Nat) a + S1x4x112.size a ≤ S32x116x256.size a := by
  revert o; decide
theorem inb_ret (o : Fin 32) : ∀ a, (![o.val, 0, 0] : Fin 3 → Nat) a + S1x112x512.size a ≤ S32x112x512.size a := by
  revert o; decide
theorem inb_group (g : Fin 4) : ∀ a, (![8 * g.val, 0, 0] : Fin 3 → Nat) a + S8x112x256.size a ≤ S32x116x256.size a := by
  revert g; decide
theorem inb_ew (k : Fin 4) : ∀ a, (![k.val, 0, 0] : Fin 3 → Nat) a + S1x256x512.size a ≤ S4x256x512.size a := by
  revert k; decide
theorem inb_sem (o : Fin 32) : ∀ a, (![o.val] : Fin 1 → Nat) a + S1.size a ≤ S32.size a := by
  revert o; decide

/-- Slot `o` of a token buffer: all its 116 rows. -/
abbrev rSlot (o : Fin 32) : Rect S32x116x256 := Rect.unit (s := S32x116x256) ![o.val, 0, 0] S1x116x256.size (inb_slot o)
/-- Slot `o`'s 112 token rows. -/
abbrev rRows (o : Fin 32) : Rect S32x116x256 := Rect.unit (s := S32x116x256) ![o.val, 0, 0] S1x112x256.size (inb_rows o)
/-- Slot `o`'s 4 selector rows (their first 112 lanes). -/
abbrev rSel (o : Fin 32) : Rect S32x116x256 := Rect.unit (s := S32x116x256) ![o.val, 112, 0] S1x4x112.size (inb_sel o)
/-- The token rows of the eight slots of group `g`. -/
abbrev rGroup (g : Fin 4) : Rect S32x116x256 := Rect.unit (s := S32x116x256) ![8 * g.val, 0, 0] S8x112x256.size (inb_group g)
/-- Slot `o` of a result buffer. -/
abbrev rRet (o : Fin 32) : Rect S32x112x512 := Rect.unit (s := S32x112x512) ![o.val, 0, 0] S1x112x512.size (inb_ret o)
/-- Expert `k`'s weights. -/
abbrev rEw (k : Fin 4) : Rect S4x256x512 := Rect.unit (s := S4x256x512) ![k.val, 0, 0] S1x256x512.size (inb_ew k)
/-- The whole output block. -/
abbrev rOut : Rect S1024x512 := Rect.unit (s := S1024x512) ![0, 0] S1024x512.size inb_S1024x512_S1024x512_0_0

theorem packed_slot (o : Fin 32) : (rSlot o).PackedRows (EltTy.packing .bf16) := by revert o; decide
theorem packed_sel (o : Fin 32) : (rSel o).PackedRows (EltTy.packing .bf16) := by revert o; decide
theorem packed_group (g : Fin 4) : (rGroup g).PackedRows (EltTy.packing .bf16) := by revert g; decide
theorem packed_ret (o : Fin 32) : (rRet o).PackedRows (EltTy.packing .bf16) := by revert o; decide
theorem packed_ew (k : Fin 4) : (rEw k).PackedRows (EltTy.packing .bf16) := by revert k; decide
theorem words_slot (o : Fin 32) : (rSlot o).WholeWords (EltTy.packing .bf16) := by revert o; decide
theorem words_ret (o : Fin 32) : (rRet o).WholeWords (EltTy.packing .bf16) := by revert o; decide

theorem slices_group (g : Fin 4) : S1024x3584.Slices ![0, 896 * g.val] S1024x896 := by revert g; decide
theorem slices_sel (j : Fin 8) : S4x896.Slices ![0, 112 * j.val] S4x112 := by revert j; decide
theorem slices_back (o : Fin 32) : S1024x3584.Slices ![0, 112 * o.val] S1024x112 := by revert o; decide

/-! ## Devices, semaphores and buffers -/

/-- The device's own logical index, as the kernel computes it. -/
def meWord (d : Dev nD) : BitVec 32 := Scalar.remsi (Scalar.divsi (Dev.word d) 1#32) 32#32

/-- The device `o` places on, as the kernel computes it. -/
def wPlus (d : Dev nD) (o : Fin 32) : BitVec 32 :=
  Scalar.addi 0#32 (Scalar.muli (Scalar.remsi (Scalar.addi (meWord d) (BitVec.ofNat 32 o.val)) 32#32) 1#32)

/-- The device `o` places back, as the kernel computes it. -/
def wMinus (d : Dev nD) (o : Fin 32) : BitVec 32 :=
  Scalar.addi 0#32 (Scalar.muli (Scalar.remsi (Scalar.addi (Scalar.subi (meWord d) (BitVec.ofNat 32 o.val)) 32#32) 32#32) 1#32)

theorem wPlus_toNat : ∀ (d : Dev nD) (o : Fin 32), (wPlus d o).toNat = (d + o : Fin 32).val := by decide +kernel
theorem wMinus_toNat : ∀ (d : Dev nD) (o : Fin 32), (wMinus d o).toNat = (d - o : Fin 32).val := by decide +kernel
theorem wPlus_lt (d : Dev nD) (o : Fin 32) : (wPlus d o).toNat < nD := by rw [wPlus_toNat]; exact (d + o : Fin 32).isLt
theorem wMinus_lt (d : Dev nD) (o : Fin 32) : (wMinus d o).toNat < nD := by rw [wMinus_toNat]; exact (d - o : Fin 32).isLt

/-- The device `o` places on. -/
def devPlus (d : Dev nD) (o : Fin 32) : Dev nD := ⟨(wPlus d o).toNat, wPlus_lt d o⟩
/-- The device `o` places back. -/
def devMinus (d : Dev nD) (o : Fin 32) : Dev nD := ⟨(wMinus d o).toNat, wMinus_lt d o⟩

theorem devPlus_eq (d : Dev nD) (o : Fin 32) : devPlus d o = (d + o : Fin 32) := Fin.ext (wPlus_toNat d o)
theorem devMinus_eq (d : Dev nD) (o : Fin 32) : devMinus d o = (d - o : Fin 32) := Fin.ext (wMinus_toNat d o)

abbrev xM : Memref sig .tc .vmem S1024x256 .bf16 := Memref.whole cc0_stg0_0
abbrev rwM : Memref sig .tc .vmem S256x128 .bf16 := Memref.whole cc0_stg1_0
abbrev ixM : Memref sig .tc .vmem S1024x2 .i32 := Memref.whole cc0_stg2_0
abbrev ewM : Memref sig .tc .vmem S4x256x512 .bf16 := Memref.whole cc0_stg3_0
abbrev outM : Memref sig .tc .vmem S1024x512 .f32 := Memref.whole cc0_stg4_0
abbrev sendM : Memref sig .tc .vmem S32x116x256 .bf16 := Memref.whole cc0_scratch0
abbrev recvM : Memref sig .tc .vmem S32x116x256 .bf16 := Memref.whole cc0_scratch1
abbrev retM : Memref sig .tc .vmem S32x112x512 .bf16 := Memref.whole cc0_scratch2
abbrev resM : Memref sig .tc .vmem S32x112x512 .bf16 := Memref.whole cc0_scratch3
abbrev wbM : Memref sig .tc .vmem S4x256x512 .bf16 := Memref.whole cc0_scratch4

/-- Slot `o` of a token buffer, as a view the copies name. -/
abbrev slotV (b : Memref sig .tc .vmem S32x116x256 .bf16) (o : Fin 32) : Memref sig .tc .vmem S116x256 .bf16 :=
  (b.slice (rSlot o) (fun _ => rfl)).squeeze S116x256 squeezes_S1x116x256_S116x256
/-- Slot `o` of a result buffer, as a view the copies name. -/
abbrev retV (b : Memref sig .tc .vmem S32x112x512 .bf16) (o : Fin 32) : Memref sig .tc .vmem S112x512 .bf16 :=
  (b.slice (rRet o) (fun _ => rfl)).squeeze S112x512 squeezes_S1x112x512_S112x512
/-- Semaphore `o` of an array of 32. -/
abbrev semAt (s : DmaSems sig S32) (o : Fin 32) : DmaSem sig :=
  ((s.slice (Rect.unit (s := S32) ![o.val] S1.size (inb_sem o))).squeeze S_ squeezes_S1_S_).sem

variable {F : FTy → Type} [FloatOps F]

/-- The program type of the kernel's body. -/
abbrev BProg (F : FTy → Type) (β : Type) : Type 1 := Prog (TpuEff nD τ sig (Elt F) Λ₀ .tc) β

/-! ## Pure payloads, generic in the offset -/

/-- What a device's dispatch is computed from: its tokens, the router, and the two index columns. -/
structure Ins (F : FTy → Type) where
  x : Vec F S1024x256 .bf16
  rw : Vec F S256x128 .bf16
  i0 : Vec F S1024x1 .i32
  i1 : Vec F S1024x1 .i32

/-- The kernel's first loads, as one record. -/
abbrev Ins.off0 (d : Dev nD) (I : Ins F) : IVec S1024x1 32 := k0_pay11 (meWord d) (k0_pay2 I.i0)
abbrev Ins.off1 (d : Dev nD) (I : Ins F) : IVec S1024x1 32 := k0_pay12 (meWord d) (k0_pay3 I.i1) 4#32
abbrev Ins.g0 (I : Ins F) : FVec F S1024x1 .f32 := k0_pay9 (k0_pay7 I.x I.rw I.i0 I.i1) (k0_pay8 I.x I.rw I.i0 I.i1)
abbrev Ins.g1 (I : Ins F) : FVec F S1024x1 .f32 := k0_pay10 (k0_pay7 I.x I.rw I.i0 I.i1) (k0_pay8 I.x I.rw I.i0 I.i1)
abbrev Ins.k0 (I : Ins F) : IVec S1024x1 32 :=
  k0_pay14 (k0_pay2 I.i0) (Scalar.select (Scalar.cmpi .eq 4#32 0#32) 1#32 4#32) k0_pay13
abbrev Ins.k1 (I : Ins F) : IVec S1024x1 32 := k0_pay15 (k0_pay3 I.i1)
/-- The one-hot of the slot of each token's first choice. -/
def Ins.b0 (d : Dev nD) (I : Ins F) : FVec F S1024x3584 .bf16 := k0_pay22 (I.off0 d) (k0_pay21 (I.off0 d))
/-- The one-hot of the slot of each token's second choice. -/
def Ins.b1 (d : Dev nD) (I : Ins F) : FVec F S1024x3584 .bf16 :=
  k0_pay23 (I.off1 d) (k0_pay18 (I.off1 d)) (k0_pay19 (I.off0 d) (I.off1 d)) k0_pay20
/-- Both one-hots, summed. -/
def Ins.bs (d : Dev nD) (I : Ins F) : FVec F S1024x3584 .bf16 := addf (I.b0 d) (I.b1 d)
/-- The gate of each token's first choice, at its expert's column. -/
def Ins.s0 (I : Ins F) : FVec F S1024x4 .bf16 := k0_pay25 I.g0 I.k0
/-- The gate of each token's second choice, at its expert's column. -/
def Ins.s1 (I : Ins F) : FVec F S1024x4 .bf16 := k0_pay26 I.g1 I.k1

/-- The token rows group `g` of the send buffer is given. -/
def rowsP (d : Dev nD) (I : Ins F) (x : Vec F S1024x256 .bf16) (g : Fin 4) : FVec F S8x112x256 .bf16 :=
  shapeCast S8x112x256
    (shapeCast S8x112x256
      (truncf .bf16
        (matmul dot_S1024x896_S1024x256_S896x256_0_0_1_1_n_n none
          (extractStridedSlice S1024x896 ![0, 896 * g.val] (I.bs d) (slices_group g))
          (k0_pay27 x) (constant S896x256 .f32 0x00000000#32)) bitsLt_bf16_f32)
      shapeCasts_S896x256_S8x112x256)
    shapeCasts_S8x112x256_S8x112x256

/-- The selector rows of group `g`'s eight slots, side by side. -/
def selG (d : Dev nD) (I : Ins F) (g : Fin 4) : FVec F S4x896 .bf16 :=
  truncf .bf16
    (addf
      (matmul dot_S1024x4_S1024x896_S4x896_0_0_1_1_n_n none I.s0
        (extractStridedSlice S1024x896 ![0, 896 * g.val] (I.b0 d) (slices_group g)) (constant S4x896 .f32 0x00000000#32))
      (matmul dot_S1024x4_S1024x896_S4x896_0_0_1_1_n_n none I.s1
        (extractStridedSlice S1024x896 ![0, 896 * g.val] (I.b1 d) (slices_group g)) (constant S4x896 .f32 0x00000000#32)))
    bitsLt_bf16_f32

/-- The selector rows slot `j` of group `g` is given. -/
def selP (d : Dev nD) (I : Ins F) (g : Fin 4) (j : Fin 8) : FVec F S1x4x112 .bf16 :=
  shapeCast S1x4x112 (extractStridedSlice S4x112 ![0, 112 * j.val] (selG d I g) (slices_sel j)) shapeCasts_S4x112_S1x4x112

/-- What an owner computes of one slot's rows, its selector rows and the four weights. -/
def compP (xo : Vec F S1x112x256 .bf16) (w4 : Vec F S1x4x112 .bf16) (w0 w1 w2 w3 : Vec F S1x256x512 .bf16) :
    FVec F S1x112x512 .bf16 :=
  k0_pay84 (k0_pay80 xo) (k0_pay81 w4) (k0_pay82 xo w4 w0) (k0_pay83 w4) w1 w2 w3

/-- The accumulator after the results of offset `o` are added. -/
def accP (d : Dev nD) (I : Ins F) (o : Fin 32) (acc : Vec F S1024x512 .f32) (r : Vec F S1x112x512 .bf16) :
    FVec F S1024x512 .f32 :=
  addf (shapeCast S1024x512 acc shapeCasts_S1024x512_S1024x512)
    (matmul dot_S1024x112_S112x512_S1024x512_1_0_0_1_n_n none
      (extractStridedSlice S1024x112 ![0, 112 * o.val] (I.bs d) (slices_back o))
      (shapeCast S112x512 r shapeCasts_S1x112x512_S112x512) (constant S1024x512 .f32 0x00000000#32))

/-! ## The steps -/

/-- A unit step for each index from `s`, `n` of them. -/
def loopFrom {N : ℕ} (f : Fin N → BProg F PUnit) : (n s : ℕ) → s + n ≤ N → BProg F PUnit
  | 0, _, _ => pure ⟨⟩
  | n + 1, s, h => f ⟨s, by omega⟩ >>= fun _ => loopFrom f n (s + 1) (by omega)

/-- Signal the device `o` places on. -/
def sigStep (d : Dev nD) (o : Fin 32) : BProg F PUnit :=
  semSignalWord (devPlus d o) ((SemArray.scalar (sig.barrier 0 rfl)) : Sems sig S_).sem 1#32

/-- Copy expert `k`'s weights to scratch. -/
def ewStep (k : Fin 4) : BProg F PUnit := do
  let v : Vec F S1x256x512 .bf16 ← Prog.lift (.load ewM (rEw k).toLoadRect (View.loadsAt_vmem h_S1x256x512))
  let _ : Vec F S1x256x512 .bf16 ← Prog.lift (.load wbM (rEw k).toLoadRect (View.loadsAt_vmem h_S1x256x512))
  Prog.lift (.store wbM (rEw k) (k0_pay28 v) Finset.univ
    (View.stores_vmem h_S1x256x512 ((Memref.isWhole_whole cc0_scratch4).storeExact_slice rfl _ (packed_ew k)) (fun _ => rfl)) (.inl rfl))

/-- Group `g`'s token rows into the send buffer. -/
def rowsStep (d : Dev nD) (I : Ins F) (x : Vec F S1024x256 .bf16) (g : Fin 4) : BProg F PUnit := do
  let _ : Vec F S8x112x256 .bf16 ← Prog.lift (.load sendM (rGroup g).toLoadRect (View.loadsAt_vmem h_S8x112x256))
  Prog.lift (.store sendM (rGroup g) (rowsP d I x g) Finset.univ
    (View.stores_vmem h_S8x112x256 ((Memref.isWhole_whole cc0_scratch0).storeExact_slice rfl _ (packed_group g)) (fun _ => rfl)) (.inl rfl))

/-- The slot of group `g`'s member `j`. -/
abbrev slotOf (g : Fin 4) (j : Fin 8) : Fin 32 := ⟨8 * g.val + j.val, by omega⟩

/-- Slot `j` of group `g`'s selector rows into the send buffer. -/
def selStep (d : Dev nD) (I : Ins F) (g : Fin 4) (j : Fin 8) : BProg F PUnit := do
  let _ : Vec F S1x4x112 .bf16 ← Prog.lift (.load sendM (rSel (slotOf g j)).toLoadRect (View.loadsAt_vmem h_S1x4x112))
  Prog.lift (.store sendM (rSel (slotOf g j)) (selP d I g j) Finset.univ
    (View.stores_vmem h_S1x4x112 ((Memref.isWhole_whole cc0_scratch0).storeExact_slice rfl _ (packed_sel (slotOf g j))) (fun _ => rfl)) (.inl rfl))

/-- Start the copy of slot `o`'s rows to the device `o` places on. -/
def sendStep (d : Dev nD) (o : Fin 32) : BProg F PUnit :=
  Prog.lift (.enqueueDma (slotV sendM o) (.remote (Dev.tc (devPlus d o)) (slotV recvM o) (.dma (semAt cc0_scratch5 o)))
    (.dma (semAt cc0_scratch6 o))
    (((Memref.isWhole_whole cc0_scratch0).wordExact_slice rfl _ (words_slot o)).reshape _ _)
    (((Memref.isWhole_whole cc0_scratch1).wordExact_slice rfl _ (words_slot o)).reshape _ _) ⟨⟨rfl, Or.inl rfl⟩, trivial⟩)

/-- Start the copy of slot `o`'s results to the device `o` places back. -/
def backStep (d : Dev nD) (o : Fin 32) : BProg F PUnit :=
  Prog.lift (.enqueueDma (retV retM o) (.remote (Dev.tc (devMinus d o)) (retV resM o) (.dma (semAt cc0_scratch7 o)))
    (.dma (semAt cc0_scratch8 o))
    (((Memref.isWhole_whole cc0_scratch2).wordExact_slice rfl _ (words_ret o)).reshape _ _)
    (((Memref.isWhole_whole cc0_scratch3).wordExact_slice rfl _ (words_ret o)).reshape _ _) ⟨⟨rfl, Or.inl rfl⟩, trivial⟩)

/-- Group `g`: its rows, its selectors, and the copies of its slots from member `a` on. -/
def groupStep (d : Dev nD) (I : Ins F) (x : Vec F S1024x256 .bf16) (g : Fin 4) (n s : ℕ) (h : s + n ≤ 32) : BProg F PUnit := do
  rowsStep d I x g
  loopFrom (selStep d I g) 8 0 (by omega)
  loopFrom (sendStep d) n s h

/-- Slot 0 of the send buffer into slot 0 of the receive buffer: a device's own tokens do not travel. -/
def ownStep : BProg F PUnit := do
  let v : Vec F S1x116x256 .bf16 ← Prog.lift (.load sendM (rSlot 0).toLoadRect (View.loadsAt_vmem h_S1x116x256))
  let _ : Vec F S1x116x256 .bf16 ← Prog.lift (.load recvM (rSlot 0).toLoadRect (View.loadsAt_vmem h_S1x116x256))
  Prog.lift (.store recvM (rSlot 0) (k0_pay79 v) Finset.univ
    (View.stores_vmem h_S1x116x256 ((Memref.isWhole_whole cc0_scratch1).storeExact_slice rfl _ (packed_slot 0)) (fun _ => rfl)) (.inl rfl))

/-- The experts on the rows received at offset `o`. -/
def compStep (o : Fin 32) : BProg F PUnit := do
  let xo : Vec F S1x112x256 .bf16 ← Prog.lift (.load recvM (rRows o).toLoadRect (View.loadsAt_vmem h_S1x112x256))
  let w4 : Vec F S1x4x112 .bf16 ← Prog.lift (.load recvM (rSel o).toLoadRect (View.loadsAt_vmem h_S1x4x112))
  let w0 : Vec F S1x256x512 .bf16 ← Prog.lift (.load wbM (rEw 0).toLoadRect (View.loadsAt_vmem h_S1x256x512))
  let w1 : Vec F S1x256x512 .bf16 ← Prog.lift (.load wbM (rEw 1).toLoadRect (View.loadsAt_vmem h_S1x256x512))
  let w2 : Vec F S1x256x512 .bf16 ← Prog.lift (.load wbM (rEw 2).toLoadRect (View.loadsAt_vmem h_S1x256x512))
  let w3 : Vec F S1x256x512 .bf16 ← Prog.lift (.load wbM (rEw 3).toLoadRect (View.loadsAt_vmem h_S1x256x512))
  let _ : Vec F S1x112x512 .bf16 ← Prog.lift (.load retM (rRet o).toLoadRect (View.loadsAt_vmem h_S1x112x512))
  Prog.lift (.store retM (rRet o) (compP xo w4 w0 w1 w2 w3) Finset.univ
    (View.stores_vmem h_S1x112x512 ((Memref.isWhole_whole cc0_scratch2).storeExact_slice rfl _ (packed_ret o)) (fun _ => rfl)) (.inl rfl))

/-- Slot 0 of the results into slot 0 of the returned results. -/
def ownBackStep : BProg F PUnit := do
  let v : Vec F S1x112x512 .bf16 ← Prog.lift (.load retM (rRet 0).toLoadRect (View.loadsAt_vmem h_S1x112x512))
  let _ : Vec F S1x112x512 .bf16 ← Prog.lift (.load resM (rRet 0).toLoadRect (View.loadsAt_vmem h_S1x112x512))
  Prog.lift (.store resM (rRet 0) (k0_pay85 v) Finset.univ
    (View.stores_vmem h_S1x112x512 ((Memref.isWhole_whole cc0_scratch3).storeExact_slice rfl _ (packed_ret 0)) (fun _ => rfl)) (.inl rfl))

/-- Wait for one token copy's departure and for one arrival, at offset `o`. -/
def waitSend (o : Fin 32) : BProg F PUnit :=
  Prog.lift (.waitDma2 (semAt cc0_scratch5 o) (slotV recvM o) (slotV sendM o)
    (((Memref.isWhole_whole cc0_scratch1).wordExact_slice rfl _ (words_slot o)).reshape _ _)
    (((Memref.isWhole_whole cc0_scratch0).wordExact_slice rfl _ (words_slot o)).reshape _ _))
def waitRecv (o : Fin 32) : BProg F PUnit :=
  Prog.lift (.waitDma2 (semAt cc0_scratch6 o) (slotV sendM o) (slotV recvM o)
    (((Memref.isWhole_whole cc0_scratch0).wordExact_slice rfl _ (words_slot o)).reshape _ _)
    (((Memref.isWhole_whole cc0_scratch1).wordExact_slice rfl _ (words_slot o)).reshape _ _))
def waitBackSend (o : Fin 32) : BProg F PUnit :=
  Prog.lift (.waitDma2 (semAt cc0_scratch7 o) (retV resM o) (retV retM o)
    (((Memref.isWhole_whole cc0_scratch3).wordExact_slice rfl _ (words_ret o)).reshape _ _)
    (((Memref.isWhole_whole cc0_scratch2).wordExact_slice rfl _ (words_ret o)).reshape _ _))
def waitBackRecv (o : Fin 32) : BProg F PUnit :=
  Prog.lift (.waitDma2 (semAt cc0_scratch8 o) (retV retM o) (retV resM o)
    (((Memref.isWhole_whole cc0_scratch2).wordExact_slice rfl _ (words_ret o)).reshape _ _)
    (((Memref.isWhole_whole cc0_scratch3).wordExact_slice rfl _ (words_ret o)).reshape _ _))

/-- Offset `o`: await the rows, run the experts, send the results back. -/
def midStep (d : Dev nD) (o : Fin 32) : BProg F PUnit := do
  waitSend o
  waitRecv o
  compStep o
  backStep d o

/-- The output block's first contents: the results of the device's own experts. -/
def outInit (d : Dev nD) (I : Ins F) : BProg F PUnit := do
  let r : Vec F S1x112x512 .bf16 ← Prog.lift (.load resM (rRet 0).toLoadRect (View.loadsAt_vmem h_S1x112x512))
  let _ : Vec F S1024x512 .f32 ← Prog.lift (.load outM rOut.toLoadRect (View.loadsAt_vmem h_S1024x512))
  Prog.lift (.store outM rOut (k0_pay226 (I.bs d) r) Finset.univ (View.stores_vmem_bits_univ h_S1024x512 rfl) (.inl rfl))

/-- Offset `o`: await the results and add them to the output block. -/
def outStep (d : Dev nD) (I : Ins F) (o : Fin 32) : BProg F PUnit := do
  waitBackSend o
  waitBackRecv o
  let acc : Vec F S1024x512 .f32 ← Prog.lift (.load outM rOut.toLoadRect (View.loadsAt_vmem h_S1024x512))
  let r : Vec F S1x112x512 .bf16 ← Prog.lift (.load resM (rRet o).toLoadRect (View.loadsAt_vmem h_S1x112x512))
  let _ : Vec F S1024x512 .f32 ← Prog.lift (.load outM rOut.toLoadRect (View.loadsAt_vmem h_S1024x512))
  Prog.lift (.store outM rOut (accP d I o acc r) Finset.univ (View.stores_vmem_bits_univ h_S1024x512 rfl) (.inl rfl))

/-- All but the handshake and the first loads. -/
def restProg (d : Dev nD) (I : Ins F) : BProg F PUnit := do
  let x : Vec F S1024x256 .bf16 ← Prog.lift (.load xM (Rect.unit (s := S1024x256) ![0, 0] S1024x256.size inb_S1024x256_S1024x256_0_0).toLoadRect (View.loadsAt_vmem h_S1024x256))
  loopFrom ewStep 4 0 (by omega)
  groupStep d I x 0 7 1 (by omega)
  groupStep d I x 1 8 8 (by omega)
  groupStep d I x 2 8 16 (by omega)
  groupStep d I x 3 8 24 (by omega)
  ownStep
  compStep 0
  ownBackStep
  loopFrom (midStep d) 31 1 (by omega)
  outInit d I
  loopFrom (outStep d I) 31 1 (by omega)

/-- The body, in closed form. -/
def bodyProg : BProg F PUnit := do
  let d : Dev nD ← Prog.lift .deviceId
  loopFrom (sigStep d) 31 1 (by omega)
  semWaitWord ((SemArray.scalar (sig.barrier 0 rfl)) : Sems sig S_).sem 31#32
  let x : Vec F S1024x256 .bf16 ← Prog.lift (.load xM (Rect.unit (s := S1024x256) ![0, 0] S1024x256.size inb_S1024x256_S1024x256_0_0).toLoadRect (View.loadsAt_vmem h_S1024x256))
  let r : Vec F S256x128 .bf16 ← Prog.lift (.load rwM (Rect.unit (s := S256x128) ![0, 0] S256x128.size inb_S256x128_S256x128_0_0).toLoadRect (View.loadsAt_vmem h_S256x128))
  let i0 : Vec F S1024x1 .i32 ← Prog.lift (.load ixM (Rect.unit (s := S1024x2) ![0, 0] S1024x1.size inb_S1024x2_S1024x1_0_0).toLoadRect (View.loadsAt_vmem h_S1024x1))
  let i1 : Vec F S1024x1 .i32 ← Prog.lift (.load ixM (Rect.unit (s := S1024x2) ![0, 1] S1024x1.size inb_S1024x2_S1024x1_0_1).toLoadRect (View.loadsAt_vmem h_S1024x1))
  restProg d ⟨x, r, i0, i1⟩

end Cert.Moe

end
-- ==== Proof.Slots.lean ====
/- The slots of the token and result buffers: which elements each rectangle names, and what is read back after a
   store or a copy. -/
module

public import proofs.«01_k».proof.Proof.Shape
public import Idealize.ShloMosaic.Lib.ValueIdxCore
public import Idealize.ShloMosaic.Lib.Pipeline.Value

@[expose] public section

noncomputable section

namespace Cert.Moe

open Idealize.ShloMosaic Idealize.SL.Sem Cert.KernelIdeal Cert.KernelIdeal.Gen
open Idealize.ShloMosaic.ValueIdx

variable {F : FTy → Type} [FloatOps F]

/-- Contents of a token buffer, of a result buffer, and of the weights' copy. -/
abbrev TokBuf (F : FTy → Type) : Type := S32x116x256.Idx → Elt F .bf16
abbrev ResBuf (F : FTy → Type) : Type := S32x112x512.Idx → Elt F .bf16
abbrev WBuf (F : FTy → Type) : Type := S4x256x512.Idx → Elt F .bf16

/-! ## Element sets -/

theorem mem_rSlot (o : Fin 32) (i : S32x116x256.Idx) : i ∈ (rSlot o).set ↔ i 0 = o := by
  rw [Rect.mem_set_unit]
  constructor
  · intro h
    have h0 := h 0
    exact Fin.ext (by
      have h1 : o.val ≤ (i 0).val := h0.1
      have h2 : (i 0).val < o.val + 1 := h0.2
      omega)
  · rintro h a
    match a with
    | ⟨0, _⟩ =>
      have h1 : (i 0).val = o.val := congrArg Fin.val h
      exact ⟨h1 ▸ le_refl _, show (i 0).val < o.val + 1 by omega⟩
    | ⟨1, _⟩ => exact ⟨Nat.zero_le _, show (i 1).val < 0 + 116 by have : (i 1).val < 116 := (i 1).isLt; omega⟩
    | ⟨2, _⟩ => exact ⟨Nat.zero_le _, show (i 2).val < 0 + 256 by have : (i 2).val < 256 := (i 2).isLt; omega⟩

theorem mem_rRet (o : Fin 32) (i : S32x112x512.Idx) : i ∈ (rRet o).set ↔ i 0 = o := by
  rw [Rect.mem_set_unit]
  constructor
  · intro h
    have h0 := h 0
    exact Fin.ext (by
      have h1 : o.val ≤ (i 0).val := h0.1
      have h2 : (i 0).val < o.val + 1 := h0.2
      omega)
  · rintro h a
    match a with
    | ⟨0, _⟩ =>
      have h1 : (i 0).val = o.val := congrArg Fin.val h
      exact ⟨h1 ▸ le_refl _, show (i 0).val < o.val + 1 by omega⟩
    | ⟨1, _⟩ => exact ⟨Nat.zero_le _, show (i 1).val < 0 + 112 by have : (i 1).val < 112 := (i 1).isLt; omega⟩
    | ⟨2, _⟩ => exact ⟨Nat.zero_le _, show (i 2).val < 0 + 512 by have : (i 2).val < 512 := (i 2).isLt; omega⟩

/-- An element of a slot's rows is in the slot. -/
theorem rRows_sub (o : Fin 32) : (rRows o).set ⊆ (rSlot o).set := by
  intro i hi
  rw [mem_rSlot]
  have h0 := (Rect.mem_set_unit.mp hi) 0
  have h1 : o.val ≤ (i 0).val := h0.1
  have h2 : (i 0).val < o.val + 1 := h0.2
  exact Fin.ext (by omega)

theorem rSel_sub (o : Fin 32) : (rSel o).set ⊆ (rSlot o).set := by
  intro i hi
  rw [mem_rSlot]
  have h0 := (Rect.mem_set_unit.mp hi) 0
  have h1 : o.val ≤ (i 0).val := h0.1
  have h2 : (i 0).val < o.val + 1 := h0.2
  exact Fin.ext (by omega)

theorem mem_rGroup {g : Fin 4} {i : S32x116x256.Idx} (h : i ∈ (rGroup g).set) :
    8 * g.val ≤ (i 0).val ∧ (i 0).val < 8 * g.val + 8 ∧ (i 1).val < 112 := by
  have h' := Rect.mem_set_unit.mp h
  have h0 := h' 0
  have h1 := h' 1
  have a1 : 8 * g.val ≤ (i 0).val := h0.1
  have a2 : (i 0).val < 8 * g.val + 8 := h0.2
  have a3 : (i 1).val < 0 + 112 := h1.2
  exact ⟨a1, a2, by omega⟩

theorem mem_rSel {o : Fin 32} {i : S32x116x256.Idx} (h : i ∈ (rSel o).set) : i 0 = o ∧ 112 ≤ (i 1).val := by
  refine ⟨(mem_rSlot o i).mp (rSel_sub o h), ?_⟩
  exact ((Rect.mem_set_unit.mp h) 1).1

theorem mem_rRows {o : Fin 32} {i : S32x116x256.Idx} (h : i ∈ (rRows o).set) : i 0 = o ∧ (i 1).val < 112 := by
  refine ⟨(mem_rSlot o i).mp (rRows_sub o h), ?_⟩
  have : (i 1).val < 0 + 112 := ((Rect.mem_set_unit.mp h) 1).2
  omega

/-- The send buffer's elements still held once the slots from 1 to `n - 1` are on their way. -/
def rem (n : ℕ) : Finset S32x116x256.Idx := Finset.univ.filter fun i => (i 0).val = 0 ∨ n ≤ (i 0).val

theorem mem_rem {n : ℕ} {i : S32x116x256.Idx} : i ∈ rem n ↔ ((i 0).val = 0 ∨ n ≤ (i 0).val) := by
  simp only [rem, Finset.mem_filter, Finset.mem_univ, true_and]

theorem rem_one : rem 1 = Finset.univ := by
  ext i; simp only [mem_rem, Finset.mem_univ, iff_true]; omega

theorem rem_split (o : Fin 32) (ho : o ≠ 0) : rem o.val = (rSlot o).set ∪ rem (o.val + 1) := by
  ext i
  rw [Finset.mem_union, mem_rSlot, mem_rem, mem_rem]
  have : (i 0 = o) ↔ (i 0).val = o.val := ⟨fun h => congrArg Fin.val h, fun h => Fin.ext h⟩
  rw [this]; omega

theorem rem_disj (o : Fin 32) (ho : o ≠ 0) : Disjoint (rSlot o).set (rem (o.val + 1)) := by
  rw [Finset.disjoint_left]
  intro i h1 h2
  rw [mem_rSlot] at h1
  rw [mem_rem, h1] at h2
  have : o.val ≠ 0 := fun h => ho (Fin.ext h)
  omega

theorem rem_last : rem 32 = (rSlot 0).set := by
  ext i
  rw [mem_rSlot, mem_rem]
  have h1 : (i 0).val < 32 := (i 0).isLt
  constructor
  · intro h; exact Fin.ext (show (i 0).val = 0 by omega)
  · intro h; left; exact congrArg Fin.val h

theorem rGroup_sub_rem (g : Fin 4) (n : ℕ) (h : n ≤ 8 * g.val ∨ n ≤ 1) : (rGroup g).set ⊆ rem n := by
  intro i hi
  have := mem_rGroup hi
  rw [mem_rem]; omega

theorem rSlot_sub_rem (o : Fin 32) (n : ℕ) (h : o.val = 0 ∨ n ≤ o.val) : (rSlot o).set ⊆ rem n := by
  intro i hi
  rw [mem_rSlot] at hi
  rw [mem_rem, hi]; exact h

/-! ## Whole buffers: a rectangle's access -/

theorem loadSet (b : Ref sig .tc) (r : Rect b.ty.shape) : (View.whole b).setOn r.set = r.set :=
  (View.set_slice (View.whole b) r).symm.trans (View.set_slice_whole b r)

theorem storeSet (b : Ref sig .tc) (r : Rect b.ty.shape) : ((View.whole b).slice r).setOn Finset.univ = r.set := by
  rw [View.setOn_univ, View.set_slice_whole]

theorem set_send (o : Fin 32) : (slotV sendM o).view.set = (rSlot o).set :=
  (View.set_reshape ((View.whole cc0_scratch0).slice (rSlot o)) _).trans (View.set_slice_whole cc0_scratch0 (rSlot o))
theorem set_recv (o : Fin 32) : (slotV recvM o).view.set = (rSlot o).set :=
  (View.set_reshape ((View.whole cc0_scratch1).slice (rSlot o)) _).trans (View.set_slice_whole cc0_scratch1 (rSlot o))
theorem set_retn (o : Fin 32) : (retV retM o).view.set = (rRet o).set :=
  (View.set_reshape ((View.whole cc0_scratch2).slice (rRet o)) _).trans (View.set_slice_whole cc0_scratch2 (rRet o))
theorem set_res (o : Fin 32) : (retV resM o).view.set = (rRet o).set :=
  (View.set_reshape ((View.whole cc0_scratch3).slice (rRet o)) _).trans (View.set_slice_whole cc0_scratch3 (rRet o))

/-- A copy of slot `o` between the token buffers puts the source's element at each place of the slot. -/
theorem copy_send_recv (o : Fin 32) (fd fs : TokBuf F) (i : S32x116x256.Idx) (hi : i ∈ (rSlot o).set) :
    ((slotV recvM o).view.write (Elt F) fd ((slotV sendM o).view.read (Elt F) fs) Finset.univ : TokBuf F) i = fs i := by
  rw [← set_recv] at hi
  obtain ⟨x, -, rfl⟩ := Finset.mem_map.mp hi
  exact View.write_emb_of_mem (v := (slotV recvM o).view) fd _ (Finset.mem_univ x)

/-- A copy of slot `o` between the result buffers likewise. -/
theorem copy_ret_res (o : Fin 32) (fd fs : ResBuf F) (i : S32x112x512.Idx) (hi : i ∈ (rRet o).set) :
    ((retV resM o).view.write (Elt F) fd ((retV retM o).view.read (Elt F) fs) Finset.univ : ResBuf F) i = fs i := by
  rw [← set_res] at hi
  obtain ⟨x, -, rfl⟩ := Finset.mem_map.mp hi
  exact View.write_emb_of_mem (v := (retV resM o).view) fd _ (Finset.mem_univ x)

/-! ## What a slot is to hold -/

/-- The token rows of slot `o` on a device dispatching `I`. -/
def rowsVal (d : Dev nD) (I : Ins F) (o : Fin 32) : Vec F S1x112x256 .bf16 :=
  fun i => rowsP d I I.x ⟨o.val / 8, by omega⟩ (ix3 (n0 := 8) (n1 := 112) (n2 := 256) ⟨o.val % 8, by omega⟩ (i 1) (i 2))

/-- The selector rows of slot `o`. -/
def selVal (d : Dev nD) (I : Ins F) (o : Fin 32) : Vec F S1x4x112 .bf16 :=
  selP d I ⟨o.val / 8, by omega⟩ ⟨o.val % 8, by omega⟩

/-- Slot `o`'s rows read off a token buffer. -/
def rdRows (o : Fin 32) (f : TokBuf F) : Vec F S1x112x256 .bf16 := fun i => f ((rRows o).emb i)
/-- Slot `o`'s selector rows read off a token buffer. -/
def rdSel (o : Fin 32) (f : TokBuf F) : Vec F S1x4x112 .bf16 := fun i => f ((rSel o).emb i)
/-- Slot `o` read off a result buffer. -/
def rdRet (o : Fin 32) (f : ResBuf F) : Vec F S1x112x512 .bf16 := fun i => f ((rRet o).emb i)

/-- A token buffer's slot `o` holds what device `d` dispatches there. -/
def Good (d : Dev nD) (I : Ins F) (o : Fin 32) (f : TokBuf F) : Prop :=
  rdRows o f = rowsVal d I o ∧ rdSel o f = selVal d I o

theorem rdRows_congr {o : Fin 32} {f g : TokBuf F} (h : ∀ i ∈ (rRows o).set, f i = g i) : rdRows o f = rdRows o g :=
  funext fun i => h _ (by rw [← Rect.map_emb_univ]; exact Finset.mem_map_of_mem _ (Finset.mem_univ i))
theorem rdSel_congr {o : Fin 32} {f g : TokBuf F} (h : ∀ i ∈ (rSel o).set, f i = g i) : rdSel o f = rdSel o g :=
  funext fun i => h _ (by rw [← Rect.map_emb_univ]; exact Finset.mem_map_of_mem _ (Finset.mem_univ i))
theorem rdRet_congr {o : Fin 32} {f g : ResBuf F} (h : ∀ i ∈ (rRet o).set, f i = g i) : rdRet o f = rdRet o g :=
  funext fun i => h _ (by rw [← Rect.map_emb_univ]; exact Finset.mem_map_of_mem _ (Finset.mem_univ i))

theorem Good.congr {d : Dev nD} {I : Ins F} {o : Fin 32} {f g : TokBuf F} (hf : Good d I o f)
    (h : ∀ i ∈ (rSlot o).set, g i = f i) : Good d I o g :=
  ⟨(rdRows_congr fun i hi => h i (rRows_sub o hi)).trans hf.1, (rdSel_congr fun i hi => h i (rSel_sub o hi)).trans hf.2⟩

/-! ## Stores -/

/-- The send buffer after group `g`'s rows are stored. -/
def putRows (g : Fin 4) (f : TokBuf F) (w : Vec F S8x112x256 .bf16) : TokBuf F :=
  (sendM.access (rGroup g)).write (Elt F) f w Finset.univ
/-- The send buffer after slot `o`'s selector rows are stored. -/
def putSel (o : Fin 32) (f : TokBuf F) (w : Vec F S1x4x112 .bf16) : TokBuf F :=
  (sendM.access (rSel o)).write (Elt F) f w Finset.univ
/-- A buffer of results after slot `o` is stored. -/
def putRet (o : Fin 32) (f : ResBuf F) (w : Vec F S1x112x512 .bf16) : ResBuf F :=
  (retM.access (rRet o)).write (Elt F) f w Finset.univ
def putRes (o : Fin 32) (f : ResBuf F) (w : Vec F S1x112x512 .bf16) : ResBuf F :=
  (resM.access (rRet o)).write (Elt F) f w Finset.univ
/-- The receive buffer after slot 0 is stored. -/
def putOwn (f : TokBuf F) (w : Vec F S1x116x256 .bf16) : TokBuf F :=
  (recvM.access (rSlot 0)).write (Elt F) f w Finset.univ
/-- The weights' copy after expert `k`'s are stored. -/
def putEw (k : Fin 4) (f : WBuf F) (w : Vec F S1x256x512 .bf16) : WBuf F :=
  (wbM.access (rEw k)).write (Elt F) f w Finset.univ

theorem putRows_off {g : Fin 4} {f : TokBuf F} {w : Vec F S8x112x256 .bf16} {i : S32x116x256.Idx} (h : i ∉ (rGroup g).set) :
    putRows g f w i = f i :=
  View.write_of_not_mem (v := sendM.access (rGroup g)) f w Finset.univ (fun hi => h ((storeSet cc0_scratch0 (rGroup g)) ▸ hi))
theorem putSel_off {o : Fin 32} {f : TokBuf F} {w : Vec F S1x4x112 .bf16} {i : S32x116x256.Idx} (h : i ∉ (rSel o).set) :
    putSel o f w i = f i :=
  View.write_of_not_mem (v := sendM.access (rSel o)) f w Finset.univ (fun hi => h ((storeSet cc0_scratch0 (rSel o)) ▸ hi))
theorem putEw_off {k : Fin 4} {f : WBuf F} {w : Vec F S1x256x512 .bf16} {i : S4x256x512.Idx} (h : i ∉ (rEw k).set) :
    putEw k f w i = f i :=
  View.write_of_not_mem (v := wbM.access (rEw k)) f w Finset.univ (fun hi => h ((storeSet cc0_scratch4 (rEw k)) ▸ hi))

theorem putRows_on {g : Fin 4} {f : TokBuf F} {w : Vec F S8x112x256 .bf16} (x : S8x112x256.Idx) :
    putRows g f w ((rGroup g).emb x) = w x :=
  View.write_emb_of_mem (v := sendM.access (rGroup g)) f w (Finset.mem_univ x)
theorem putSel_on {o : Fin 32} {f : TokBuf F} {w : Vec F S1x4x112 .bf16} (x : S1x4x112.Idx) :
    putSel o f w ((rSel o).emb x) = w x :=
  View.write_emb_of_mem (v := sendM.access (rSel o)) f w (Finset.mem_univ x)
theorem putRet_on {o : Fin 32} {f : ResBuf F} {w : Vec F S1x112x512 .bf16} (x : S1x112x512.Idx) :
    putRet o f w ((rRet o).emb x) = w x :=
  View.write_emb_of_mem (v := retM.access (rRet o)) f w (Finset.mem_univ x)
theorem putRes_on {o : Fin 32} {f : ResBuf F} {w : Vec F S1x112x512 .bf16} (x : S1x112x512.Idx) :
    putRes o f w ((rRet o).emb x) = w x :=
  View.write_emb_of_mem (v := resM.access (rRet o)) f w (Finset.mem_univ x)
theorem putOwn_on {f : TokBuf F} {w : Vec F S1x116x256 .bf16} (x : S1x116x256.Idx) :
    putOwn f w ((rSlot 0).emb x) = w x :=
  View.write_emb_of_mem (v := recvM.access (rSlot 0)) f w (Finset.mem_univ x)
theorem putEw_on {k : Fin 4} {f : WBuf F} {w : Vec F S1x256x512 .bf16} (x : S1x256x512.Idx) :
    putEw k f w ((rEw k).emb x) = w x :=
  View.write_emb_of_mem (v := wbM.access (rEw k)) f w (Finset.mem_univ x)
theorem rdSel_putSel (o : Fin 32) (f : TokBuf F) (w : Vec F S1x4x112 .bf16) : rdSel o (putSel o f w) = w := by
  unfold rdSel; funext x; exact putSel_on x
theorem rdRet_putRet (o : Fin 32) (f : ResBuf F) (w : Vec F S1x112x512 .bf16) : rdRet o (putRet o f w) = w := by
  unfold rdRet; funext x; exact putRet_on x
theorem rdRet_putRes (o : Fin 32) (f : ResBuf F) (w : Vec F S1x112x512 .bf16) : rdRet o (putRes o f w) = w := by
  unfold rdRet; funext x; exact putRes_on x

/-- Slot `j` of group `g` after the group's rows are stored. -/
theorem rdRows_putRows (d : Dev nD) (I : Ins F) (g : Fin 4) (j : Fin 8) (f : TokBuf F) :
    rdRows (slotOf g j) (putRows g f (rowsP d I I.x g)) = rowsVal d I (slotOf g j) := by
  funext i
  have hg : (⟨(slotOf g j).val / 8, by omega⟩ : Fin 4) = g := Fin.ext (by show (8 * g.val + j.val) / 8 = g.val; omega)
  have hj : (⟨(slotOf g j).val % 8, by omega⟩ : Fin 8) = j := Fin.ext (by show (8 * g.val + j.val) % 8 = j.val; omega)
  have he : (rRows (slotOf g j)).emb i = (rGroup g).emb (ix3 (n0 := 8) (n1 := 112) (n2 := 256) j (i 1) (i 2)) := by
    funext a
    match a with
    | ⟨0, _⟩ =>
      have : (i 0).val < 1 := (i 0).isLt
      exact Fin.ext (show 8 * g.val + j.val + 1 * (i 0).val = 8 * g.val + 1 * j.val by omega)
    | ⟨1, _⟩ => rfl
    | ⟨2, _⟩ => rfl
  unfold rdRows rowsVal
  rw [he, putRows_on, hg, hj]

theorem rdRows_putSel (o o' : Fin 32) (f : TokBuf F) (w : Vec F S1x4x112 .bf16) : rdRows o (putSel o' f w) = rdRows o f :=
  rdRows_congr fun i hi => putSel_off fun h => by have := mem_rRows hi; have := mem_rSel h; omega

theorem rdSel_putSel_ne {o o' : Fin 32} (h : o ≠ o') (f : TokBuf F) (w : Vec F S1x4x112 .bf16) :
    rdSel o (putSel o' f w) = rdSel o f :=
  rdSel_congr fun i hi => putSel_off fun h' => h ((mem_rSel hi).1.symm.trans (mem_rSel h').1)

theorem rdRows_putRows_ne {g : Fin 4} {o : Fin 32} (h : o.val / 8 ≠ g.val) (f : TokBuf F) (w : Vec F S8x112x256 .bf16) :
    rdRows o (putRows g f w) = rdRows o f :=
  rdRows_congr fun i hi => putRows_off fun h' => h (by
    have h1 := mem_rGroup h'
    have h2 : (i 0).val = o.val := congrArg Fin.val (mem_rRows hi).1
    omega)

theorem rdSel_putRows (g : Fin 4) (o : Fin 32) (f : TokBuf F) (w : Vec F S8x112x256 .bf16) :
    rdSel o (putRows g f w) = rdSel o f :=
  rdSel_congr fun i hi => putRows_off fun h' => by have := mem_rGroup h'; have := mem_rSel hi; omega

/-- The send buffer while group `g` is being filled: its rows are in place, its first `n` selectors are, and a
    device's own slot is once its group is done. -/
def Filled (d : Dev nD) (I : Ins F) (g : Fin 4) (n : ℕ) (f : TokBuf F) : Prop :=
  (g ≠ 0 → Good d I 0 f) ∧ (∀ j, rdRows (slotOf g j) f = rowsVal d I (slotOf g j))
    ∧ ∀ j : Fin 8, j.val < n → rdSel (slotOf g j) f = selVal d I (slotOf g j)

theorem filled_rows (d : Dev nD) (I : Ins F) (g : Fin 4) (f : TokBuf F) (h : g ≠ 0 → Good d I 0 f) :
    Filled d I g 0 (putRows g f (rowsP d I I.x g)) := by
  refine ⟨fun hg => ?_, fun j => rdRows_putRows d I g j f, fun j hj => absurd hj (Nat.not_lt_zero _)⟩
  obtain ⟨h1, h2⟩ := h hg
  refine ⟨(rdRows_putRows_ne (fun h0 => hg (Fin.ext ?_)) f _).trans h1, (rdSel_putRows g 0 f _).trans h2⟩
  exact h0.symm

theorem selVal_slotOf (d : Dev nD) (I : Ins F) (g : Fin 4) (j : Fin 8) : selVal d I (slotOf g j) = selP d I g j := by
  have hg : (⟨(slotOf g j).val / 8, by omega⟩ : Fin 4) = g := Fin.ext (by show (8 * g.val + j.val) / 8 = g.val; omega)
  have hj : (⟨(slotOf g j).val % 8, by omega⟩ : Fin 8) = j := Fin.ext (by show (8 * g.val + j.val) % 8 = j.val; omega)
  unfold selVal; rw [hg, hj]

theorem filled_sel (d : Dev nD) (I : Ins F) (g : Fin 4) (j : Fin 8) (f : TokBuf F) (h : Filled d I g j.val f) :
    Filled d I g (j.val + 1) (putSel (slotOf g j) f (selP d I g j)) := by
  refine ⟨fun hg => ?_, fun j' => (rdRows_putSel _ _ _ _).trans (h.2.1 j'), fun j' hj' => ?_⟩
  · obtain ⟨h1, h2⟩ := h.1 hg
    refine ⟨(rdRows_putSel _ _ _ _).trans h1, (rdSel_putSel_ne (fun h0 => hg (Fin.ext ?_)) f _).trans h2⟩
    have : (0 : ℕ) = 8 * g.val + j.val := congrArg Fin.val h0
    show g.val = 0; omega
  · by_cases e : j' = j
    · subst e; rw [rdSel_putSel, selVal_slotOf]
    · refine (rdSel_putSel_ne (fun h0 => e (Fin.ext ?_)) f _).trans (h.2.2 j' ?_)
      · have : 8 * g.val + j'.val = 8 * g.val + j.val := congrArg Fin.val h0
        omega
      · have : j'.val ≠ j.val := fun h' => e (Fin.ext h')
        omega

/-- Once group `g` is filled its slots hold what they are to. -/
theorem filled_good (d : Dev nD) (I : Ins F) (g : Fin 4) (f : TokBuf F) (h : Filled d I g 8 f) (o : Fin 32)
    (ho : o.val / 8 = g.val) : Good d I o f := by
  have e : o = slotOf g ⟨o.val % 8, by omega⟩ := Fin.ext (by show o.val = 8 * g.val + o.val % 8; omega)
  rw [e]
  exact ⟨h.2.1 _, h.2.2 _ (by show o.val % 8 < 8; omega)⟩

theorem filled_own (d : Dev nD) (I : Ins F) (g : Fin 4) (f : TokBuf F) (h : Filled d I g 8 f) : Good d I 0 f := by
  by_cases hg : g = 0
  · subst hg; exact filled_good d I 0 f h 0 rfl
  · exact h.1 hg

/-! ## The weights' copy -/

/-- Expert `k`'s weights as copied. -/
def wAt (W : WBuf F) (k : Fin 4) : Vec F S1x256x512 .bf16 := k0_pay28 (fun i => W ((rEw k).emb i))

/-- The copy holds the first `n` experts' weights. -/
def Copied (W : WBuf F) (n : ℕ) (f : WBuf F) : Prop := ∀ k : Fin 4, k.val < n → (fun i => f ((rEw k).emb i)) = wAt W k

theorem copied_put (W : WBuf F) (k : Fin 4) (f : WBuf F) (h : Copied W k.val f) :
    Copied W (k.val + 1) (putEw k f (wAt W k)) := by
  intro k' hk'
  by_cases e : k' = k
  · subst e
    exact funext fun x => putEw_on x
  · refine Eq.trans (funext fun i => putEw_off fun h' => e ?_) (h k' ?_)
    · have h0 := (Rect.mem_set_unit.mp h') 0
      have h1 : k.val ≤ k'.val + 1 * (i 0).val := h0.1
      have h2 : k'.val + 1 * (i 0).val < k.val + 1 := h0.2
      have h3 : (i 0).val < 1 := (i 0).isLt
      exact Fin.ext (by omega)
    · have : k'.val ≠ k.val := fun h' => e (Fin.ext h')
      omega

/-! ## A device's own slot -/

theorem own_good (d : Dev nD) (I : Ins F) (fd fs : TokBuf F) (h : Good d I 0 fs) :
    Good d I 0 (putOwn fd (k0_pay79 fun i => fs ((rSlot 0).emb i))) := by
  refine h.congr fun i hi => ?_
  rw [← Rect.map_emb_univ] at hi
  obtain ⟨x, -, rfl⟩ := Finset.mem_map.mp hi
  rw [putOwn_on]
  show k0_pay79 (fun i => fs ((rSlot 0).emb i)) x = _
  unfold k0_pay79
  exact congrFun (shapeCast_shapeCast (fun i => fs ((rSlot 0).emb i)) shapeCasts_S1x116x256_S116x256 shapeCasts_S116x256_S1x116x256) x

end Cert.Moe

end
-- ==== Proof.Protocol.lean ====
/- The exchange as a schedule of one round: who may raise which semaphore by how much, and what each raise hands
   its waiter. -/
module

public import proofs.«01_k».proof.Proof.Slots
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the region's copy and the exchange's, whose duties are named by offsets -/

abbrev UB : Type := URounds (GSem nD τ sig) (Fin 32)
abbrev UU : Type := UR sig nD τ × UB
abbrev MM (F : FTy → Type) := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Offsets -/

/-- The offsets from `a` to `b - 1`. -/
def rng (a b : ℕ) : Finset (Fin 32) := Finset.univ.filter fun o => a ≤ o.val ∧ o.val < b

theorem mem_rng {a b : ℕ} {o : Fin 32} : o ∈ rng a b ↔ a ≤ o.val ∧ o.val < b := by
  simp only [rng, Finset.mem_filter, Finset.mem_univ, true_and]

theorem rng_cons {b : ℕ} (o : Fin 32) (h : o.val < b) : rng o.val b = insert o (rng (o.val + 1) b) := by
  ext x
  rw [Finset.mem_insert, mem_rng, mem_rng]
  have : x = o ↔ x.val = o.val := ⟨fun h => congrArg Fin.val h, Fin.ext⟩
  rw [this]; omega

theorem not_mem_rng_succ {b : ℕ} (o : Fin 32) : o ∉ rng (o.val + 1) b := by rw [mem_rng]; omega

theorem rng_self (a : ℕ) : rng a a = ∅ := by
  ext x; rw [mem_rng]; simp only [Finset.notMem_empty, iff_false]; omega

theorem rng_union {a b c : ℕ} (h : a ≤ b) (h' : b ≤ c) : rng a c = rng a b ∪ rng b c := by
  ext x; rw [Finset.mem_union, mem_rng, mem_rng, mem_rng]; omega

theorem rng_disj (a b c : ℕ) : Disjoint (rng a b) (rng b c) := by
  rw [Finset.disjoint_left]; intro x; rw [mem_rng, mem_rng]; omega

theorem rng_all : rng 1 32 = Finset.univ.erase 0 := by
  ext x
  rw [mem_rng, Finset.mem_erase]
  have : x = 0 ↔ x.val = 0 := ⟨fun h => congrArg Fin.val h, fun h => Fin.ext h⟩
  simp only [Finset.mem_univ, and_true, ne_eq, this]; omega

theorem mem_rng_ne {o : Fin 32} (h : o ∈ rng 1 32) : o ≠ 0 := by
  rw [rng_all] at h; exact (Finset.mem_erase.mp h).1

theorem bigSep_rng_cons {M : Type} [URA M] {b : ℕ} (o : Fin 32) (h : o.val < b) (Φ : Fin 32 → sProp M) :
    bigSep (rng o.val b) Φ = iprop(Φ o ∗ bigSep (rng (o.val + 1) b) Φ) := by
  rw [rng_cons o h, bigSep_insert (not_mem_rng_succ o)]; rfl

theorem bigSep_rng_split {M : Type} [URA M] {a b c : ℕ} (h : a ≤ b) (h' : b ≤ c) (Φ : Fin 32 → sProp M) :
    bigSep (rng a c) Φ = iprop(bigSep (rng a b) Φ ∗ bigSep (rng b c) Φ) := by
  rw [rng_union h h', bigSep_union (rng_disj a b c)]; rfl

/-! ## Cells -/

abbrev barS : Sem sig := (SemArray.scalar (sig.barrier 0 rfl) : Sems sig S_).sem

/-- Semaphore `o` of the kernel's array `j`: 0 token copies departing, 1 arriving, 2 result copies departing,
    3 arriving. -/
def dsem (j : Fin 4) (o : Fin 32) : DmaSem sig := ⟨5 + 32 * j.val + o.val, by
  have : sig.nDmaSem = 133 := rfl
  omega⟩

theorem sem5_eq (o : Fin 32) : semAt cc0_scratch5 o = dsem 0 o := by revert o; decide
theorem sem6_eq (o : Fin 32) : semAt cc0_scratch6 o = dsem 1 o := by revert o; decide
theorem sem7_eq (o : Fin 32) : semAt cc0_scratch7 o = dsem 2 o := by revert o; decide
theorem sem8_eq (o : Fin 32) : semAt cc0_scratch8 o = dsem 3 o := by revert o; decide

/-- Which array a DMA semaphore is of, and which member. -/
def decJ (q : DmaSem sig) : ℕ := (q.val - 5) / 32
def decO (q : DmaSem sig) : Fin 32 := ⟨(q.val - 5) % 32, Nat.mod_lt _ (by omega)⟩
theorem decJ_dsem (j : Fin 4) (o : Fin 32) : decJ (dsem j o) = j.val := by
  show (5 + 32 * j.val + o.val - 5) / 32 = j.val; omega
theorem decO_dsem (j : Fin 4) (o : Fin 32) : decO (dsem j o) = o :=
  Fin.ext (by show (5 + 32 * j.val + o.val - 5) % 32 = o.val; omega)
theorem dsem_ge (j : Fin 4) (o : Fin 32) : 5 ≤ (dsem j o).val := by
  show 5 ≤ 5 + 32 * j.val + o.val; omega
theorem dsem_inj {j j' : Fin 4} {o o' : Fin 32} (h : dsem j o = dsem j' o') : j = j' ∧ o = o' :=
  ⟨Fin.ext (by rw [← decJ_dsem j o, h, decJ_dsem]), by rw [← decO_dsem j o, h, decO_dsem]⟩

/-- The device `o` places on and the device `o` places back. -/
def plus (c : Dev nD) (o : Fin 32) : Dev nD := (c + o : Fin 32)
def minus (c : Dev nD) (o : Fin 32) : Dev nD := (c - o : Fin 32)
theorem plus_minus (c : Dev nD) (o : Fin 32) : minus (plus c o) o = c := by revert c o; decide +kernel
theorem minus_plus (c : Dev nD) (o : Fin 32) : plus (minus c o) o = c := by revert c o; decide +kernel
theorem plus_neg (c : Dev nD) (o : Fin 32) : plus c (-o) = minus c o := by revert c o; decide +kernel
theorem minus_neg (c : Dev nD) (o : Fin 32) : minus c (-o) = plus c o := by revert c o; decide +kernel
theorem neg_neg32 (o : Fin 32) : -(-o) = o := by revert o; decide
theorem neg_ne {o : Fin 32} (h : o ≠ 0) : -o ≠ 0 := by revert o; decide
/-- Going `o` places on, as a bijection of the devices. -/
def around (o : Fin 32) : Dev nD ≃ Dev nD := ⟨fun c => plus c o, fun c => minus c o, fun c => plus_minus c o, fun c => minus_plus c o⟩

abbrev barCell (c : Dev nD) : GSem nD τ sig := ((c : Thread nD τ), .reg barS)
abbrev dCell (j : Fin 4) (o : Fin 32) (c : Dev nD) : GSem nD τ sig := ((c : Thread nD τ), .dma (dsem j o))

/-- The elements' credit of one token copy and of one result copy. -/
abbrev NS : ℕ := (slotV recvM 0).view.dmaCredit
abbrev NR : ℕ := (retV resM 0).view.dmaCredit
theorem NS_pos : 0 < NS := View.dmaCredit_pos _ (by decide)
theorem NR_pos : 0 < NR := View.dmaCredit_pos _ (by decide)
theorem credit_recv (o : Fin 32) : (slotV recvM o).view.dmaCredit = NS := rfl
theorem credit_send (o : Fin 32) : (slotV sendM o).view.dmaCredit = NS := rfl
theorem credit_res (o : Fin 32) : (retV resM o).view.dmaCredit = NR := rfl
theorem credit_ret (o : Fin 32) : (retV retM o).view.dmaCredit = NR := rfl

/-! ## Buffers' elements, held -/

def sendPts (c : Dev nD) (S : Finset S32x116x256.Idx) (f : TokBuf F) : sProp 𝕄 := ((c : Thread nD τ).loc cc0_scratch0) ↦[S]{fullShare} f
def recvPts (c : Dev nD) (S : Finset S32x116x256.Idx) (f : TokBuf F) : sProp 𝕄 := ((c : Thread nD τ).loc cc0_scratch1) ↦[S]{fullShare} f
def retPts (c : Dev nD) (S : Finset S32x112x512.Idx) (f : ResBuf F) : sProp 𝕄 := ((c : Thread nD τ).loc cc0_scratch2) ↦[S]{fullShare} f
def resPts (c : Dev nD) (S : Finset S32x112x512.Idx) (f : ResBuf F) : sProp 𝕄 := ((c : Thread nD τ).loc cc0_scratch3) ↦[S]{fullShare} f

instance sendPts_st (c : Dev nD) (S) (f : TokBuf F) : BI.Storable (upEmb : UEmb _ 𝕄) (sendPts c S f) := by unfold sendPts; infer_instance
instance recvPts_st (c : Dev nD) (S) (f : TokBuf F) : BI.Storable (upEmb : UEmb _ 𝕄) (recvPts c S f) := by unfold recvPts; infer_instance
instance retPts_st (c : Dev nD) (S) (f : ResBuf F) : BI.Storable (upEmb : UEmb _ 𝕄) (retPts c S f) := by unfold retPts; infer_instance
instance resPts_st (c : Dev nD) (S) (f : ResBuf F) : BI.Storable (upEmb : UEmb _ 𝕄) (resPts c S f) := by unfold resPts; infer_instance

/-! ## What each raise hands over -/

variable (I : Dev nD → Ins F) (Wt : Dev nD → WBuf F)

/-- What device `c`'s rows for offset `o` come back as: the owner's experts on them. -/
def resVal (c : Dev nD) (o : Fin 32) : Vec F S1x112x512 .bf16 :=
  compP (rowsVal c (I c) o) (selVal c (I c) o) (wAt (Wt (plus c o)) 0) (wAt (Wt (plus c o)) 1) (wAt (Wt (plus c o)) 2)
    (wAt (Wt (plus c o)) 3)

/-- The signal device `c` gets from the device `e` places on: that device's landing places for `c`'s two copies. -/
def barPay (c : Dev nD) (e : Fin 32) : sProp 𝕄 :=
  iprop((∃ f : TokBuf F, recvPts (plus c e) (rSlot e).set f) ∗ (∃ f : ResBuf F, resPts (plus c e) (rRet (-e)).set f))
def sendPay (c : Dev nD) (o : Fin 32) : sProp 𝕄 := iprop(∃ f : TokBuf F, sendPts c (rSlot o).set f)
def recvPay (c : Dev nD) (o : Fin 32) : sProp 𝕄 :=
  iprop(∃ f : TokBuf F, ⌜Good (minus c o) (I (minus c o)) o f⌝ ∗ recvPts c (rSlot o).set f)
def backPay (c : Dev nD) (o : Fin 32) : sProp 𝕄 := iprop(∃ f : ResBuf F, retPts c (rRet o).set f)
def resPay (c : Dev nD) (o : Fin 32) : sProp 𝕄 :=
  iprop(∃ f : ResBuf F, ⌜rdRet o f = resVal I Wt c o⌝ ∗ resPts c (rRet o).set f)

/-- One round: a barrier cell has a duty per other device, a copy's cell the one duty of its copy. -/
def sched : Rounds.Schedule (GSem nD τ sig) (Fin 32) 𝕄 where
  duties g r := if r = 0 ∧ g.1.2 = .tc then
      (match g.2 with
        | .reg _ => Finset.univ.erase 0
        | .dma q => if 5 ≤ q.val ∧ decO q ≠ 0 then {0} else ∅)
    else ∅
  unitless _ := False
  amount g _ _ := match g.2 with
    | .reg _ => 1
    | .dma q => if decJ q < 2 then NS else NR
  payload g _ e := match g.2 with
    | .reg _ => barPay g.1.1 e
    | .dma q =>
      if decJ q = 0 then sendPay g.1.1 (decO q)
      else if decJ q = 1 then recvPay I g.1.1 (decO q)
      else if decJ q = 2 then backPay g.1.1 (decO q)
      else resPay I Wt g.1.1 (decO q)
  amount_pos g _ _ _ := by
    rcases g with ⟨t, s | q⟩
    · exact Nat.one_pos
    · show 0 < if decJ q < 2 then NS else NR
      split
      · exact NS_pos
      · exact NR_pos

instance sched_st (g : GSem nD τ sig) (r : ℕ) (e : Fin 32) :
    BI.Storable (upEmb : UEmb _ 𝕄) ((sched I Wt).payload g r e) := by
  rcases g with ⟨t, s | q⟩
  · show BI.Storable upEmb (barPay t.1 e)
    unfold barPay; infer_instance
  · show BI.Storable upEmb (if decJ q = 0 then sendPay t.1 (decO q) else if decJ q = 1 then recvPay I t.1 (decO q)
      else if decJ q = 2 then backPay t.1 (decO q) else resPay I Wt t.1 (decO q))
    unfold sendPay recvPay backPay resPay
    (repeat' split) <;> infer_instance

section Tables
variable (c : Dev nD)

theorem duties_bar : (sched I Wt).duties (barCell c) 0 = Finset.univ.erase 0 := by
  show (if 0 = 0 ∧ (Proc.tc : Proc τ) = Proc.tc then Finset.univ.erase (0 : Fin 32) else ∅) = _
  exact if_pos ⟨rfl, rfl⟩
theorem duties_dma (j : Fin 4) {o : Fin 32} (ho : o ≠ 0) : (sched I Wt).duties (dCell j o c) 0 = {0} := by
  show (if 0 = 0 ∧ (Proc.tc : Proc τ) = Proc.tc then (if 5 ≤ (dsem j o).val ∧ decO (dsem j o) ≠ 0 then ({0} : Finset (Fin 32)) else ∅) else ∅) = {0}
  rw [if_pos ⟨rfl, rfl⟩, decO_dsem]; exact if_pos ⟨dsem_ge j o, ho⟩
theorem duties_own (j : Fin 4) (r : ℕ) : (sched I Wt).duties (dCell j 0 c) r = ∅ := by
  by_cases hr : r = 0
  · show (if r = 0 ∧ (Proc.tc : Proc τ) = Proc.tc then (if 5 ≤ (dsem j 0).val ∧ decO (dsem j 0) ≠ 0 then ({0} : Finset (Fin 32)) else ∅) else ∅) = ∅
    rw [if_pos ⟨hr, rfl⟩, decO_dsem]; exact if_neg fun h => h.2 rfl
  · exact if_neg fun h => hr h.1
theorem duties_later (g : GSem nD τ sig) : ∀ r, 1 ≤ r → (sched I Wt).duties g r = ∅ :=
  fun r hr => if_neg fun h => by omega

theorem amount_bar (e : Fin 32) : (sched I Wt).amount (barCell c) 0 e = 1 := rfl
theorem amount_tok (j : Fin 4) (hj : j.val < 2) (o e : Fin 32) : (sched I Wt).amount (dCell j o c) 0 e = NS := by
  show (if decJ (dsem j o) < 2 then NS else NR) = NS
  rw [decJ_dsem, if_pos hj]
theorem amount_res (j : Fin 4) (hj : ¬ j.val < 2) (o e : Fin 32) : (sched I Wt).amount (dCell j o c) 0 e = NR := by
  show (if decJ (dsem j o) < 2 then NS else NR) = NR
  rw [decJ_dsem, if_neg hj]

theorem expect_bar : (sched I Wt).expect (barCell c) 0 = 31 := by
  unfold Schedule.expect Schedule.amountOf
  rw [duties_bar, Finset.sum_congr rfl fun e _ => amount_bar I Wt c e, Finset.sum_const,
    Finset.card_erase_of_mem (Finset.mem_univ _), Finset.card_univ, Fintype.card_fin, smul_eq_mul]
theorem expect_tok (j : Fin 4) (hj : j.val < 2) {o : Fin 32} (ho : o ≠ 0) : (sched I Wt).expect (dCell j o c) 0 = NS := by
  unfold Schedule.expect Schedule.amountOf; rw [duties_dma I Wt c j ho, Finset.sum_singleton, amount_tok I Wt c j hj]
theorem expect_res (j : Fin 4) (hj : ¬ j.val < 2) {o : Fin 32} (ho : o ≠ 0) : (sched I Wt).expect (dCell j o c) 0 = NR := by
  unfold Schedule.expect Schedule.amountOf; rw [duties_dma I Wt c j ho, Finset.sum_singleton, amount_res I Wt c j hj]

theorem payload_bar (e : Fin 32) : (sched I Wt).payload (barCell c) 0 e = barPay c e := rfl
theorem payload_send (o e : Fin 32) : (sched I Wt).payload (dCell 0 o c) 0 e = sendPay c o := by
  show (if decJ (dsem 0 o) = 0 then sendPay c (decO (dsem 0 o)) else _) = _
  rw [decJ_dsem, decO_dsem]; exact if_pos rfl
theorem payload_recv (o e : Fin 32) : (sched I Wt).payload (dCell 1 o c) 0 e = recvPay I c o := by
  show (if decJ (dsem 1 o) = 0 then _ else if decJ (dsem 1 o) = 1 then recvPay I c (decO (dsem 1 o)) else _) = _
  rw [decJ_dsem, decO_dsem, if_neg (by decide)]; exact if_pos rfl
theorem payload_back (o e : Fin 32) : (sched I Wt).payload (dCell 2 o c) 0 e = backPay c o := by
  show (if decJ (dsem 2 o) = 0 then _ else if decJ (dsem 2 o) = 1 then _ else if decJ (dsem 2 o) = 2 then backPay c (decO (dsem 2 o)) else _) = _
  rw [decJ_dsem, decO_dsem, if_neg (by decide), if_neg (by decide)]; exact if_pos rfl
theorem payload_res (o e : Fin 32) : (sched I Wt).payload (dCell 3 o c) 0 e = resPay I Wt c o := by
  show (if decJ (dsem 3 o) = 0 then _ else if decJ (dsem 3 o) = 1 then _ else if decJ (dsem 3 o) = 2 then _ else resPay I Wt c (decO (dsem 3 o))) = _
  rw [decJ_dsem, decO_dsem, if_neg (by decide), if_neg (by decide)]; exact if_neg (by decide)

theorem rest_bar : bigSep ((sched I Wt).duties (barCell c) 0 \ ∅) (fun e => (sched I Wt).payload (barCell c) 0 e)
    = bigSep (Finset.univ.erase 0) fun e : Fin 32 => (barPay c e : sProp 𝕄) := by
  rw [Finset.sdiff_empty, duties_bar]
  exact bigSep_congr fun e _ => payload_bar I Wt c e
theorem rest_send {o : Fin 32} (ho : o ≠ 0) : bigSep ((sched I Wt).duties (dCell 0 o c) 0 \ ∅) (fun e => (sched I Wt).payload (dCell 0 o c) 0 e) = sendPay c o := by
  rw [Finset.sdiff_empty, duties_dma I Wt c 0 ho, bigSep_singleton, payload_send]
theorem rest_recv {o : Fin 32} (ho : o ≠ 0) : bigSep ((sched I Wt).duties (dCell 1 o c) 0 \ ∅) (fun e => (sched I Wt).payload (dCell 1 o c) 0 e) = recvPay I c o := by
  rw [Finset.sdiff_empty, duties_dma I Wt c 1 ho, bigSep_singleton, payload_recv]
theorem rest_back {o : Fin 32} (ho : o ≠ 0) : bigSep ((sched I Wt).duties (dCell 2 o c) 0 \ ∅) (fun e => (sched I Wt).payload (dCell 2 o c) 0 e) = backPay c o := by
  rw [Finset.sdiff_empty, duties_dma I Wt c 2 ho, bigSep_singleton, payload_back]
theorem rest_res {o : Fin 32} (ho : o ≠ 0) : bigSep ((sched I Wt).duties (dCell 3 o c) 0 \ ∅) (fun e => (sched I Wt).payload (dCell 3 o c) 0 e) = resPay I Wt c o := by
  rw [Finset.sdiff_empty, duties_dma I Wt c 3 ho, bigSep_singleton, payload_res]

end Tables

/-! ## What each device owes; the levels -/

def tB (c : Dev nD) (o : Fin 32) : CellTallies nD τ sig Unit := tallyAt (barCell (plus c o)) () 1
def t1 (c : Dev nD) (o : Fin 32) : CellTallies nD τ sig Unit := tallyAt (dCell 1 o (plus c o)) () NS
def t2 (c : Dev nD) (o : Fin 32) : CellTallies nD τ sig Unit := tallyAt (dCell 3 o (minus c o)) () NR
/-- The signals, token copies and result copies still to come, from offset `n` on. -/
def OB (c : Dev nD) (n : ℕ) : CellTallies nD τ sig Unit := ∑ o ∈ rng n 32, tB c o
def O1 (c : Dev nD) (n : ℕ) : CellTallies nD τ sig Unit := ∑ o ∈ rng n 32, t1 c o
def O2 (c : Dev nD) (n : ℕ) : CellTallies nD τ sig Unit := ∑ o ∈ rng n 32, t2 c o
def O₀ (c : Dev nD) : CellTallies nD τ sig Unit := (O2 c 1 + O1 c 1) + OB c 1

theorem OB_cons (c : Dev nD) (o : Fin 32) : OB c o.val = OB c (o.val + 1) + tB c o := by
  unfold OB; rw [rng_cons o o.isLt, Finset.sum_insert (not_mem_rng_succ o), add_comm]
theorem O1_cons (c : Dev nD) (o : Fin 32) : O1 c o.val = O1 c (o.val + 1) + t1 c o := by
  unfold O1; rw [rng_cons o o.isLt, Finset.sum_insert (not_mem_rng_succ o), add_comm]
theorem O2_cons (c : Dev nD) (o : Fin 32) : O2 c o.val = O2 c (o.val + 1) + t2 c o := by
  unfold O2; rw [rng_cons o o.isLt, Finset.sum_insert (not_mem_rng_succ o), add_comm]
theorem OB_end (c : Dev nD) : OB c 32 = 0 := by unfold OB; rw [rng_self, Finset.sum_empty]
theorem O1_end (c : Dev nD) : O1 c 32 = 0 := by unfold O1; rw [rng_self, Finset.sum_empty]
theorem O2_end (c : Dev nD) : O2 c 32 = 0 := by unfold O2; rw [rng_self, Finset.sum_empty]

def L (g : GSem nD τ sig) : Finset Unit := if g.1.2 = .tc then {()} else ∅
/-- Barrier cells at 1, arriving tokens at 2, arriving results at 3, everything else at 0. -/
def lv (g : GSem nD τ sig) (_ : Unit) : ℕ := match g.2 with
  | .reg _ => 1
  | .dma q => if q.val < 5 then 0 else if decJ q = 1 then 2 else if decJ q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (j : Fin 4) (o : Fin 32) (c : Dev nD) :
    lv (dCell j o c) () = if j = 1 then 2 else if j = 3 then 3 else 0 := by
  show (if (dsem j o).val < 5 then 0 else if decJ (dsem j o) = 1 then 2 else if decJ (dsem j o) = 3 then 3 else 0) = _
  rw [if_neg (Nat.not_lt.mpr (dsem_ge j o)), decJ_dsem]
  revert j; decide

/-- Everything owed lies on some device's TensorCore at a level above `k`. -/
def Above (k : ℕ) (O : CellTallies nD τ sig Unit) : Prop := ∀ g u, 0 < O g u → g.1.2 = .tc ∧ k < lv g u

theorem Above.tally {k : ℕ} (c : Dev nD) (sm : SemLoc sig) (n : ℕ) (h : k < lv ((c : Thread nD τ), sm) ()) :
    Above k (tallyAt ((c : Thread nD τ), sm) () n) := fun g u hg => by
  obtain ⟨rfl, rfl⟩ := Pipeline.tallyAt_pos hg
  exact ⟨rfl, h⟩
theorem Above.zero (k : ℕ) : Above k 0 := fun g u hg => absurd hg (Nat.lt_irrefl 0)
theorem Above.add {k : ℕ} {O D : CellTallies nD τ sig Unit} (h : Above k O) (h' : Above k D) : Above k (O + D) := fun g u hg => by
  rw [Pi.add_apply, Finsupp.add_apply] at hg
  rcases Nat.eq_zero_or_pos (O g u) with h0 | h0
  · exact h' g u (by omega)
  · exact h g u h0
theorem Above.sum {k : ℕ} (s : Finset (Fin 32)) (T : Fin 32 → CellTallies nD τ sig Unit) (h : ∀ o, Above k (T o)) :
    Above k (∑ o ∈ s, T o) := by
  induction s using Finset.induction_on with
  | empty => rw [Finset.sum_empty]; exact Above.zero k
  | insert a s ha ih => rw [Finset.sum_insert ha]; exact (h a).add ih

theorem above_OB (c : Dev nD) (n : ℕ) : Above 0 (OB c n) :=
  Above.sum _ _ fun o => Above.tally _ _ _ (by rw [lv_bar]; decide)
theorem above_O1 (c : Dev nD) (n : ℕ) : Above 1 (O1 c n) :=
  Above.sum _ _ fun o => Above.tally _ _ _ (by rw [lv_dma]; decide)
theorem above_O2 (c : Dev nD) (n : ℕ) : Above 2 (O2 c n) :=
  Above.sum _ _ fun o => Above.tally _ _ _ (by rw [lv_dma]; decide)
theorem Above.mono {k k' : ℕ} (hk : k' ≤ k) {O : CellTallies nD τ sig Unit} (h : Above k O) : Above k' O :=
  fun g u hg => ⟨(h g u hg).1, Nat.lt_of_le_of_lt hk (h g u hg).2⟩
theorem above_O₀ (c : Dev nD) : Above 0 (O₀ c) :=
  (((above_O2 c 1).mono (by omega)).add ((above_O1 c 1).mono (by omega))).add (above_OB c 1)

/-- A core may wait on a cell at or below `k` while everything it owes lies above `k`. -/
theorem mayWait_of (c : Dev nD) (sm : SemLoc sig) (k : ℕ) (hsm : lv ((c : Thread nD τ), sm) () ≤ k)
    (O : CellTallies nD τ sig Unit) (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.Moe

end
-- ==== Proof.Steps.lean ====
/- The body's steps, one by one: what each starts from and what it leaves. -/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program's weakest precondition on device `c`'s TensorCore. -/
abbrev WP {α : Type} (c : Dev nD) (p : BProg F α) (Q : α → sProp 𝕄) : sProp 𝕄 :=
  wp frame (wpE (defs₀ (F := F)) 𝒱₀ (c : Thread nD τ) none) Set.univ p Q

/-- A step, then the rest. -/
theorem seq {c : Dev nD} {β : Type} {p : BProg F PUnit} {k : PUnit → BProg F β} {P Q' : sProp 𝕄} {Q : β → sProp 𝕄}
    (h : P ⊢ WP c p fun _ => Q') :
    P ⊢ iprop((Q' -∗ WP c (k ⟨⟩) Q) -∗ WP c (p >>= k) Q) := by
  iintro HP Hk
  iapply (Entails.of_eq (wp_bind frame (wpE (defs₀ (F := F)) 𝒱₀ (c : Thread nD τ) none) Set.univ p k Q).symm)
  iapply (wp_wand_r frame _ _ (Q := fun _ => Q'))
  isplitl [HP]
  · iapply h; iexact HP
  iintro %_ H
  iapply Hk; iexact H

/-- A loop by its invariant. -/
theorem loop_inv {N : ℕ} (c : Dev nD) (f : Fin N → BProg F PUnit) (X : ℕ → sProp 𝕄) : ∀ (n s : ℕ) (h : s + n ≤ N),
    (∀ o : Fin N, s ≤ o.val → o.val < s + n → X o.val ⊢ WP c (f o) fun _ => X (o.val + 1)) →
      X s ⊢ WP c (loopFrom f n s h) fun _ => X (s + n)
  | 0, s, h, _ => by
    show X s ⊢ wp frame _ Set.univ (.ret PUnit.unit) fun _ => X s
    rw [wp_ret]; exact fupd_intro
  | n + 1, s, h, hf => by
    show X s ⊢ wp frame _ Set.univ (f ⟨s, by omega⟩ >>= fun _ => loopFrom f n (s + 1) (by omega)) fun _ => X (s + (n + 1))
    rw [wp_bind]
    refine (hf ⟨s, by omega⟩ le_rfl (by show s < s + (n + 1); omega)).trans (wp_mono frame _ _ fun _ => ?_)
    have := loop_inv c f X n (s + 1) (by omega) fun o h1 h2 => hf o (by omega) (by omega)
    exact this.trans (wp_mono frame _ _ fun _ => Entails.of_eq (congrArg X (by omega)))

theorem rng_snoc {a : ℕ} (o : Fin 32) (h : a ≤ o.val) : rng a (o.val + 1) = insert o (rng a o.val) := by
  ext x
  rw [Finset.mem_insert, mem_rng, mem_rng]
  have : x = o ↔ x.val = o.val := ⟨fun h => congrArg Fin.val h, Fin.ext⟩
  rw [this]; omega
theorem bigSep_rng_snoc {M : Type} [URA M] {a : ℕ} (o : Fin 32) (h : a ≤ o.val) (Φ : Fin 32 → sProp M) :
    bigSep (rng a (o.val + 1)) Φ = iprop(Φ o ∗ bigSep (rng a o.val) Φ) := by
  rw [rng_snoc o h, bigSep_insert (show o ∉ rng a o.val by rw [mem_rng]; omega)]; rfl

/-- A loop over offsets by its invariant, each step taking its own share and leaving its own. -/
theorem loop_rule (c : Dev nD) (f : Fin 32 → BProg F PUnit) (X : ℕ → sProp 𝕄) (Pre Post : Fin 32 → sProp 𝕄)
    (n s : ℕ) (h : s + n ≤ 32)
    (hf : ∀ o : Fin 32, s ≤ o.val → o.val < s + n → iprop(X o.val ∗ Pre o) ⊢ WP c (f o) fun _ => iprop(X (o.val + 1) ∗ Post o)) :
    iprop(X s ∗ bigSep (rng s (s + n)) Pre) ⊢ WP c (loopFrom f n s h) fun _ => iprop(X (s + n) ∗ bigSep (rng s (s + n)) Post) := by
  have key := loop_inv c f (fun m => iprop((X m ∗ bigSep (rng m (s + n)) Pre) ∗ bigSep (rng s m) Post)) n s h fun o h1 h2 => by
    rw [bigSep_rng_cons o h2 Pre, bigSep_rng_snoc o h1]
    iintro ⟨⟨HX, Hp, Hr⟩, Hd⟩
    iapply (wp_wand_r frame _ _ (Q := fun _ => iprop(X (o.val + 1) ∗ Post o)))
    isplitl [HX Hp]
    · iapply (hf o h1 h2)
      isplitl [HX] <;> iassumption
    iintro %_ ⟨HX, Hp⟩
    isplitl [HX Hr]
    · isplitl [HX] <;> iassumption
    isplitl [Hp] <;> iassumption
  refine (show _ ⊢ _ from ?_).trans (key.trans (wp_mono frame _ _ fun _ => ?_))
  · rw [rng_self, bigSep_empty]
    iintro ⟨HX, Hp⟩
    isplitl [HX Hp]
    · isplitl [HX] <;> iassumption
    iempintro
  · iintro ⟨⟨HX, -⟩, Hd⟩
    isplitl [HX] <;> iassumption

/-! ## The records of every cell -/

/-- Every cell of the exchange on a device: its barrier cell, or one of its copies' cells. -/
abbrev CK : Type := Option (Fin 4 × Fin 32)
def csem : CK → SemLoc sig
  | none => .reg barS
  | some (j, o) => .dma (dsem j o)
def kcell (ck : Dev nD × CK) : GSem nD τ sig := ((ck.1 : Thread nD τ), csem ck.2)

variable (I : Dev nD → Ins F) (Wt : Dev nD → WBuf F) (K : Dev nD × CK → ℕ)

def records : sProp 𝕄 :=
  iprop((bigSep Finset.univ fun ck : Dev nD × CK => cellInv ER (sched I Wt) (K ck) (kcell ck))
    ∗ bigSep Finset.univ fun ck : Dev nD × CK => reached ER (kcell ck) 0)
instance records_persistent : BI.Persistent (records I Wt K) := by unfold records; infer_instance

theorem inv_bar (c : Dev nD) : records I Wt K ⊢ cellInv ER (sched I Wt) (K (c, none)) (barCell c) :=
  (sep_elim_left (PROP := sProp 𝕄)).trans (bigSep_elim (Finset.mem_univ ((c, none) : Dev nD × CK)))
theorem inv_dma (c : Dev nD) (j : Fin 4) (o : Fin 32) :
    records I Wt K ⊢ cellInv ER (sched I Wt) (K (c, some (j, o))) (dCell j o c) :=
  (sep_elim_left (PROP := sProp 𝕄)).trans (bigSep_elim (Finset.mem_univ ((c, some (j, o)) : Dev nD × CK)))
theorem at_bar (c : Dev nD) : records I Wt K ⊢ reached ER (barCell c) 0 :=
  (sep_elim_right (PROP := sProp 𝕄)).trans (bigSep_elim (Finset.mem_univ ((c, none) : Dev nD × CK)))
theorem at_dma (c : Dev nD) (j : Fin 4) (o : Fin 32) : records I Wt K ⊢ reached ER (dCell j o c) 0 :=
  (sep_elim_right (PROP := sProp 𝕄)).trans (bigSep_elim (Finset.mem_univ ((c, some (j, o)) : Dev nD × CK)))

/-- The records and the levels: what every step may use. -/
def ctx : sProp 𝕄 := iprop(records I Wt K ∗ levAts L lv)
instance ctx_persistent : BI.Persistent (ctx I Wt K) := by unfold ctx; infer_instance

/-- What a device owes, at some waits. -/
def Ow (c : Dev nD) (O : CellTallies nD τ sig Unit) : sProp 𝕄 := iprop(∃ W, owes (c : Thread nD τ) O W)

/-! ## The handshake -/

def sigPre (c : Dev nD) (o : Fin 32) : sProp 𝕄 :=
  iprop(dutyTok ER (barCell (plus c o)) 0 (-o) ∗ (∃ f : TokBuf F, recvPts c (rSlot (-o)).set f) ∗ (∃ f : ResBuf F, resPts c (rRet o).set f))

theorem sig_step (c : Dev nD) (o : Fin 32) (ho : o ≠ 0) :
    iprop((ctx I Wt K ∗ Ow c ((O2 c 1 + O1 c 1) + OB c o.val)) ∗ sigPre (F := F) c o)
      ⊢ WP c (sigStep c o) fun _ => iprop((ctx I Wt K ∗ Ow c ((O2 c 1 + O1 c 1) + OB c (o.val + 1))) ∗ emp) := by
  unfold sigStep ctx sigPre Ow
  rw [show devPlus c o = plus c o from devPlus_eq c o]
  simp only [semSignalWord]
  iintro ⟨⟨⟨#HR, #Hlv⟩, %W, HO⟩, Ht, Hv, Hs⟩
  iapply (Rounds.wp_signal 𝒱₀ ER (sched I Wt) (c : Thread nD τ) none (dst := (plus c o : Thread nD τ)) (κ := K (plus c o, none)) (r := 0)
      (d := -o) (by rw [duties_bar]; exact Finset.mem_erase.mpr ⟨neg_ne ho, Finset.mem_univ _⟩)
      ((amount_bar I Wt (plus c o) (-o)).trans (by decide)) () ((O2 c 1 + O1 c 1) + OB c (o.val + 1))
      (O₀ := (O2 c 1 + O1 c 1) + OB c o.val) (by rw [OB_cons, ← add_assoc]; rfl)) $$ [HO Ht Hv Hs]
  · isplitr; · iapply (inv_bar I Wt K (plus c o)); iexact HR
    isplitl [HO]; · iexact HO
    isplitl [Ht]; · iexact Ht
    isplitl [Hv Hs]
    · rw [payload_bar]; unfold barPay
      rw [plus_neg, plus_minus, neg_neg32]
      isplitl [Hv] <;> iassumption
    iapply (at_bar I Wt K (plus c o)); iexact HR
  iintro HO
  rw [wp_ret]; imodintro
  isplitl [HO]
  · isplitr
    · isplitr <;> iassumption
    iexists W; iexact HO
  iempintro

def negEmb : Fin 32 ↪ Fin 32 := ⟨fun e => -e, fun a b h => by rw [← neg_neg32 a, ← neg_neg32 b]; exact congrArg (fun x => -x) h⟩

/-- The landing places named by the signallers' offsets are those named by the copies'. -/
theorem res_swap (c : Dev nD) :
    (bigSep (rng 1 32) fun e : Fin 32 => (iprop(∃ f : ResBuf F, resPts (plus c e) (rRet (-e)).set f) : sProp 𝕄))
      = bigSep (rng 1 32) fun o => iprop(∃ f : ResBuf F, resPts (minus c o) (rRet o).set f) := by
  have hb := bigSep_map (M := 𝕄) (s := rng 1 32) negEmb (Φ := fun o => iprop(∃ f : ResBuf F, resPts (minus c o) (rRet o).set f))
  rw [show (rng 1 32).map negEmb = rng 1 32 by decide] at hb
  rw [hb]
  refine bigSep_congr fun e _ => ?_
  show _ = iprop(∃ f : ResBuf F, resPts (minus c (-e)) (rRet (-e)).set f)
  rw [minus_neg]

theorem bar_rest_split (c : Dev nD) :
    (bigSep (Finset.univ.erase 0) fun e : Fin 32 => (barPay c e : sProp 𝕄))
      = iprop((bigSep (rng 1 32) fun o => iprop(∃ f : TokBuf F, recvPts (plus c o) (rSlot o).set f))
          ∗ (bigSep (rng 1 32) fun o => iprop(∃ f : ResBuf F, resPts (minus c o) (rRet o).set f))) := by
  rw [← rng_all, ← res_swap, ← bigSep_sep']; rfl

theorem bar_wait (c : Dev nD) :
    iprop(ctx I Wt K ∗ Ow c (O2 c 1 + O1 c 1) ∗ cred (tallyAt (barCell c) () 31) ∗ atPos ER (barCell c) 0 ∅ 0)
      ⊢ WP c (semWaitWord barS 31#32) fun _ => iprop(Ow c (O2 c 1 + O1 c 1) ∗ semVal (barCell c) 0
          ∗ (bigSep (rng 1 32) fun o => iprop(∃ f : TokBuf F, recvPts (plus c o) (rSlot o).set f))
          ∗ (bigSep (rng 1 32) fun o => iprop(∃ f : ResBuf F, resPts (minus c o) (rRet o).set f))) := by
  unfold ctx Ow
  simp only [semWaitWord]
  iintro ⟨⟨#HR, #Hlv⟩, ⟨%W, HO⟩, Hc, Hat⟩
  iapply (Rounds.wp_wait_rest_token 𝒱₀ ER (sched I Wt) (c : Thread nD τ) none (κ := K (c, none))
      (wpE_semWait_eq 𝒱₀ (c : Thread nD τ) none Set.univ) (Set.mem_univ _) () (O := O2 c 1 + O1 c 1) (W := W) (R := 0) (m := 0) (T := ∅)
      (by rw [expect_bar]; decide)) $$ [Hc HO Hat]
  · isplitr; · iapply (inv_bar I Wt K c); iexact HR
    isplitl [Hc]; · iexact Hc
    isplitl [HO]; · iexact HO
    isplitr
    · iapply (mayWait_of c (.reg barS) 1 (le_of_eq (lv_bar c)) _ (((above_O2 c 1).mono (by omega)).add (above_O1 c 1))); iexact Hlv
    iexact Hat
  iintro ⟨HO, Hat, -, Hpay⟩
  ihave Hp := (Entails.of_eq (rest_bar I Wt c)) $$ Hpay
  imod (Rounds.cell_close ER (sched I Wt) (Set.mem_univ (K (c, none))) (fun h => h) (R := 0 + 1) (duties_later I Wt (barCell c))) $$ [Hat] with Hz
  · isplitr; · iapply (inv_bar I Wt K c); iexact HR
    iexact Hat
  rw [wp_ret]; imodintro
  isplitl [HO]; · iexists _; iexact HO
  isplitl [Hz]; · iexact Hz
  ihave Hp := (Entails.of_eq (bar_rest_split (F := F) c)) $$ Hp
  icases Hp with ⟨H1, H2⟩
  isplitl [H1]; · iexact H1
  iexact H2

end Cert.Moe

end
-- ==== Proof.Moves.lean ====
/- The body's memory steps and copies. -/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (Wt : Dev nD → WBuf F) (K : Dev nD × CK → ℕ)

/-! ## Loads and stores of a whole buffer's rectangles -/

theorem sub_load (b : Ref sig .tc) (r : Rect b.ty.shape) {S : Finset b.ty.shape.Idx} (h : r.set ⊆ S) :
    (View.whole b).setOn r.set ⊆ S := by rw [loadSet]; exact h
theorem sub_store (b : Ref sig .tc) (r : Rect b.ty.shape) {S : Finset b.ty.shape.Idx} (h : r.set ⊆ S) :
    ((View.whole b).slice r).setOn Finset.univ ⊆ S := by rw [storeSet]; exact h

theorem wp_done {α : Type} {c : Dev nD} {a : α} {Q : α → sProp 𝕄} : Q a ⊢ WP c (.ret a) Q := fupd_intro

/-- A slot's elements as the copies name them. -/
theorem send_view (c : Dev nD) (o : Fin 32) (f : TokBuf F) :
    (sendPts c (rSlot o).set f : sProp 𝕄) = ((slotV sendM o).view.loc (c : Thread nD τ) ↦[(slotV sendM o).view.set]{fullShare} f) :=
  congrArg (fun S => sendPts (F := F) c S f) (set_send o).symm
theorem recv_view (c : Dev nD) (o : Fin 32) (f : TokBuf F) :
    (recvPts c (rSlot o).set f : sProp 𝕄) = ((slotV recvM o).view.loc (c : Thread nD τ) ↦[(slotV recvM o).view.set]{fullShare} f) :=
  congrArg (fun S => recvPts (F := F) c S f) (set_recv o).symm
theorem retn_view (c : Dev nD) (o : Fin 32) (f : ResBuf F) :
    (retPts c (rRet o).set f : sProp 𝕄) = ((retV retM o).view.loc (c : Thread nD τ) ↦[(retV retM o).view.set]{fullShare} f) :=
  congrArg (fun S => retPts (F := F) c S f) (set_retn o).symm
theorem res_view (c : Dev nD) (o : Fin 32) (f : ResBuf F) :
    (resPts c (rRet o).set f : sProp 𝕄) = ((retV resM o).view.loc (c : Thread nD τ) ↦[(retV resM o).view.set]{fullShare} f) :=
  congrArg (fun S => resPts (F := F) c S f) (set_res o).symm

/-! ## The weights' copy -/

def ewPts (c : Dev nD) (f : WBuf F) : sProp 𝕄 := ((c : Thread nD τ).loc cc0_stg3_0) ↦{fullShare} f
def wbPts (c : Dev nD) (f : WBuf F) : sProp 𝕄 := ((c : Thread nD τ).loc cc0_scratch4) ↦{fullShare} f

def ewX (c : Dev nD) (W : WBuf F) (n : ℕ) : sProp 𝕄 := iprop(ewPts c W ∗ ∃ f : WBuf F, ⌜Copied W n f⌝ ∗ wbPts c f)

theorem ew_step (c : Dev nD) (W : WBuf F) (k : Fin 4) :
    ewX c W k.val ⊢ WP c (ewStep k) fun _ => ewX c W (k.val + 1) := by
  unfold ewStep ewX ewPts wbPts
  simp only [Prog.lift, Prog.bind_op, Prog.bind_ret]
  iintro ⟨He, %f, %hf, Hw⟩
  iapply (wp_load 𝒱₀ (c : Thread nD τ) none Set.univ (m := ewM) (r := (rEw k).toLoadRect) (sub_load cc0_stg3_0 (rEw k) (Finset.subset_univ _))) $$ He; iintro He
  iapply (wp_load 𝒱₀ (c : Thread nD τ) none Set.univ (m := wbM) (r := (rEw k).toLoadRect) (sub_load cc0_scratch4 (rEw k) (Finset.subset_univ _))) $$ Hw; iintro Hw
  iapply (wp_store 𝒱₀ (c : Thread nD τ) none Set.univ (m := wbM) (r := (rEw k)) (Mk := Finset.univ) (sub_store cc0_scratch4 (rEw k) (Finset.subset_univ _))) $$ Hw; iintro Hw
  iapply wp_done
  isplitl [He]; · iexact He
  iexists (putEw k f (wAt W k))
  isplitr; · ipureintro; exact copied_put W k f hf
  iexact Hw

/-! ## Filling the send buffer -/

def sendX (c : Dev nD) (d : Dev nD) (J : Ins F) (g : Fin 4) (m n : ℕ) : sProp 𝕄 :=
  iprop(∃ f : TokBuf F, ⌜Filled d J g n f⌝ ∗ sendPts c (rem m) f)

theorem rows_step (c d : Dev nD) (J : Ins F) (g : Fin 4) (m : ℕ) (hm : m ≤ 8 * g.val ∨ m ≤ 1) :
    (iprop(∃ f : TokBuf F, ⌜g ≠ 0 → Good d J 0 f⌝ ∗ sendPts c (rem m) f) : sProp 𝕄)
      ⊢ WP c (rowsStep d J J.x g) fun _ => sendX c d J g m 0 := by
  unfold rowsStep sendX sendPts
  simp only [Prog.lift, Prog.bind_op, Prog.bind_ret]
  iintro ⟨%f, %hf, Hs⟩
  iapply (wp_load 𝒱₀ (c : Thread nD τ) none Set.univ (m := sendM) (r := (rGroup g).toLoadRect) (sub_load cc0_scratch0 (rGroup g) (rGroup_sub_rem g m hm))) $$ Hs; iintro Hs
  iapply (wp_store 𝒱₀ (c : Thread nD τ) none Set.univ (m := sendM) (r := (rGroup g)) (Mk := Finset.univ) (sub_store cc0_scratch0 (rGroup g) (rGroup_sub_rem g m hm))) $$ Hs; iintro Hs
  iapply wp_done
  iexists (putRows g f (rowsP d J J.x g))
  isplitr; · ipureintro; exact filled_rows d J g f hf
  iexact Hs

theorem sel_step (c d : Dev nD) (J : Ins F) (g : Fin 4) (m : ℕ) (hm : m ≤ 8 * g.val ∨ (g = 0 ∧ m ≤ 1)) (j : Fin 8) :
    sendX c d J g m j.val ⊢ WP c (selStep d J g j) fun _ => sendX c d J g m (j.val + 1) := by
  have hsub : (rSel (slotOf g j)).set ⊆ rem m := (rSel_sub _).trans (rSlot_sub_rem _ m (by
    show 8 * g.val + j.val = 0 ∨ m ≤ 8 * g.val + j.val
    rcases hm with h | ⟨h, h'⟩ <;> omega))
  unfold selStep sendX sendPts
  simp only [Prog.lift, Prog.bind_op, Prog.bind_ret]
  iintro ⟨%f, %hf, Hs⟩
  iapply (wp_load 𝒱₀ (c : Thread nD τ) none Set.univ (m := sendM) (r := (rSel (slotOf g j)).toLoadRect) (sub_load cc0_scratch0 (rSel (slotOf g j)) hsub)) $$ Hs; iintro Hs
  iapply (wp_store 𝒱₀ (c : Thread nD τ) none Set.univ (m := sendM) (r := (rSel (slotOf g j))) (Mk := Finset.univ) (sub_store cc0_scratch0 (rSel (slotOf g j)) hsub)) $$ Hs; iintro Hs
  iapply wp_done
  iexists (putSel (slotOf g j) f (selP d J g j))
  isplitr; · ipureintro; exact filled_sel d J g j f hf
  iexact Hs

/-! ## The token copies -/

def sendPre (c : Dev nD) (o : Fin 32) : sProp 𝕄 :=
  iprop((∃ f : TokBuf F, recvPts (plus c o) (rSlot o).set f) ∗ dutyTok ER (dCell 0 o c) 0 0 ∗ dutyTok ER (dCell 1 o (plus c o)) 0 0)
def sendPost (c : Dev nD) (o : Fin 32) : sProp 𝕄 := cred (tallyAt (dCell 0 o c) () NS)

theorem copy_tok (c : Dev nD) (o : Fin 32) (ho : o ≠ 0) (n : Dev nD) (hn : n = plus c o) (q5 q6 : DmaSem sig)
    (h5 : q5 = dsem 0 o) (h6 : q6 = dsem 1 o) {hsc} {hsrc} {hdst} {hsem}
    (f fd : TokBuf F) (hf : Good c (I c) o f) (O : CellTallies nD τ sig Unit) (W : Waits sig Unit)
    {Q : PUnit → sProp 𝕄} {k : PUnit → BProg F PUnit} :
    iprop(records I Wt K ∗ sendPts c (rSlot o).set f ∗ recvPts (plus c o) (rSlot o).set fd
        ∗ owes (c : Thread nD τ) (O + t1 c o) W ∗ dutyTok ER (dCell 0 o c) 0 0 ∗ dutyTok ER (dCell 1 o (plus c o)) 0 0)
      ⊢ iprop(((cred (tallyAt (dCell 0 o c) () NS) ∗ owes (c : Thread nD τ) O W) -∗ WP c (k ⟨⟩) Q)
        -∗ WP c (.op (.enqueueDma (slotV sendM o) (.remote (Dev.tc n) (slotV recvM o) (.dma q5) hsc) (.dma q6) hsrc hdst hsem) k) Q) := by
  subst hn h5 h6
  iintro ⟨#HR, Hs, Hv, HO, Ht0, Ht1⟩
  iapply (Rounds.wp_send_pointsTo 𝒱₀ ER (sched I Wt) (c : Thread nD τ) none (κ₁ := K (c, some (0, o))) (κ₂ := K (plus c o, some (1, o)))
    (src := slotV sendM o) (dst := slotV recvM o) (c' := (plus c o : Thread nD τ)) (sS := .dma (dsem 0 o)) (sem := .dma (dsem 1 o))
    (r₁ := 0) (r₂ := 0) (d₁ := 0) (d₂ := 0) (fs := f) (fd := fd) (q := fullShare)
    (by rw [duties_dma I Wt c 0 ho]; exact Finset.mem_singleton_self _)
    (by rw [duties_dma I Wt (plus c o) 1 ho]; exact Finset.mem_singleton_self _)
    () () NS (credit_recv o) (amount_tok I Wt c 0 (by decide) o 0) (amount_tok I Wt (plus c o) 1 (by decide) o 0) O rfl (W := W)
    (by
      rw [payload_send]
      unfold sendPay
      iintro H; iexists f
      iapply (Entails.of_eq (send_view c o f).symm); iexact H)
    (by
      rw [payload_recv]
      unfold recvPay
      rw [plus_minus]
      iintro H
      iexists ((slotV recvM o).view.write (Elt F) fd ((slotV sendM o).view.read (Elt F) f) Finset.univ : TokBuf F)
      isplitr
      · ipureintro; exact hf.congr fun i hi => copy_send_recv o fd f i hi
      iapply (Entails.of_eq (recv_view (plus c o) o _).symm); iexact H))
  isplitr; · iapply (inv_dma I Wt K c 0 o); iexact HR
  isplitr; · iapply (inv_dma I Wt K (plus c o) 1 o); iexact HR
  isplitl [Hs]; · iapply (Entails.of_eq (send_view c o f)); iexact Hs
  isplitl [Hv]; · iapply (Entails.of_eq (recv_view (plus c o) o fd)); iexact Hv
  isplitl [HO]; · iexact HO
  isplitl [Ht0]; · iexact Ht0
  isplitr; · iapply (at_dma I Wt K c 0 o); iexact HR
  isplitl [Ht1]; · iexact Ht1
  iapply (at_dma I Wt K (plus c o) 1 o); iexact HR

theorem send_step (c : Dev nD) (g : Fin 4) (o : Fin 32) (ho : o ≠ 0) (hg : o.val / 8 = g.val) :
    iprop((ctx I Wt K ∗ Ow c (O2 c 1 + O1 c o.val) ∗ sendX c c (I c) g o.val 8) ∗ sendPre (F := F) c o)
      ⊢ WP c (sendStep c o) fun _ => iprop((ctx I Wt K ∗ Ow c (O2 c 1 + O1 c (o.val + 1)) ∗ sendX c c (I c) g (o.val + 1) 8) ∗ sendPost c o) := by
  unfold sendStep sendX sendPre sendPost ctx Ow
  simp only [Prog.lift]
  iintro ⟨⟨⟨#HR, #Hlv⟩, ⟨%W, HO⟩, %f, %hf, Hs⟩, ⟨%fd, Hv⟩, Ht0, Ht1⟩
  ihave Hs := (show sendPts c (rem o.val) f ⊢ iprop(sendPts c (rSlot o).set f ∗ sendPts c (rem (o.val + 1)) f) from by
    unfold sendPts; rw [rem_split o ho]; exact (pointsTo_union (rem_disj o ho)).1) $$ Hs
  icases Hs with ⟨Hs, Hrem⟩
  iapply (copy_tok I Wt K c o ho _ (devPlus_eq c o) _ _ (sem5_eq o) (sem6_eq o) f fd (filled_good c (I c) g f hf o hg)
    (O2 c 1 + O1 c (o.val + 1)) W) $$ [Hs Hv HO Ht0 Ht1]
  · isplitr; · iexact HR
    isplitl [Hs]; · iexact Hs
    isplitl [Hv]; · iexact Hv
    isplitl [HO]; · rw [O1_cons, ← add_assoc]; iexact HO
    isplitl [Ht0] <;> iassumption
  iintro ⟨Hc, HO⟩
  iapply wp_done
  isplitr [Hc]
  · isplitr
    · isplitr <;> iassumption
    isplitl [HO]; · iexists W; iexact HO
    iexists f
    isplitr; · ipureintro; exact hf
    iexact Hrem
  iexact Hc

end Cert.Moe

end
-- ==== Proof.Experts.lean ====
/- The experts' steps, the copies back and the output's accumulation. -/
module

public import proofs.«01_k».proof.Proof.Moves

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (Wt : Dev nD → WBuf F) (K : Dev nD × CK → ℕ)

/-! ## A device's own slot -/

theorem own_step (c d : Dev nD) (J : Ins F) (fs fd : TokBuf F) (hf : Good d J 0 fs) :
    iprop(sendPts c (rSlot 0).set fs ∗ recvPts c (rSlot 0).set fd)
      ⊢ WP c ownStep fun _ => iprop(sendPts c (rSlot 0).set fs ∗ ∃ f : TokBuf F, ⌜Good d J 0 f⌝ ∗ recvPts c (rSlot 0).set f) := by
  unfold ownStep sendPts recvPts
  simp only [Prog.lift, Prog.bind_op, Prog.bind_ret]
  iintro ⟨Hs, Hv⟩
  iapply (wp_load 𝒱₀ (c : Thread nD τ) none Set.univ (m := sendM) (r := (rSlot 0).toLoadRect) (sub_load cc0_scratch0 (rSlot 0) subset_rfl)) $$ Hs; iintro Hs
  iapply (wp_load 𝒱₀ (c : Thread nD τ) none Set.univ (m := recvM) (r := (rSlot 0).toLoadRect) (sub_load cc0_scratch1 (rSlot 0) subset_rfl)) $$ Hv; iintro Hv
  iapply (wp_store 𝒱₀ (c : Thread nD τ) none Set.univ (m := recvM) (r := rSlot 0) (Mk := Finset.univ) (sub_store cc0_scratch1 (rSlot 0) subset_rfl)) $$ Hv; iintro Hv
  iapply wp_done
  isplitl [Hs]; · iexact Hs
  iexists (putOwn fd (k0_pay79 fun i => fs ((rSlot 0).emb i)))
  isplitr; · ipureintro; exact own_good d J fd fs hf
  iexact Hv

theorem own_back_step (c : Dev nD) (ft fd : ResBuf F) :
    iprop(retPts c (rRet 0).set ft ∗ resPts c (rRet 0).set fd)
      ⊢ WP c ownBackStep fun _ => iprop(retPts c (rRet 0).set ft ∗ ∃ f : ResBuf F, ⌜rdRet 0 f = rdRet 0 ft⌝ ∗ resPts c (rRet 0).set f) := by
  unfold ownBackStep retPts resPts
  simp only [Prog.lift, Prog.bind_op, Prog.bind_ret]
  iintro ⟨Hs, Hv⟩
  iapply (wp_load 𝒱₀ (c : Thread nD τ) none Set.univ (m := retM) (r := (rRet 0).toLoadRect) (sub_load cc0_scratch2 (rRet 0) subset_rfl)) $$ Hs; iintro Hs
  iapply (wp_load 𝒱₀ (c : Thread nD τ) none Set.univ (m := resM) (r := (rRet 0).toLoadRect) (sub_load cc0_scratch3 (rRet 0) subset_rfl)) $$ Hv; iintro Hv
  iapply (wp_store 𝒱₀ (c : Thread nD τ) none Set.univ (m := resM) (r := rRet 0) (Mk := Finset.univ) (sub_store cc0_scratch3 (rRet 0) subset_rfl)) $$ Hv; iintro Hv
  iapply wp_done
  isplitl [Hs]; · iexact Hs
  iexists (putRes 0 fd (k0_pay85 (rdRet 0 ft)))
  isplitr
  · ipureintro
    rw [rdRet_putRes]
    unfold k0_pay85
    exact shapeCast_shapeCast (rdRet 0 ft) shapeCasts_S1x112x512_S112x512 shapeCasts_S112x512_S1x112x512
  iexact Hv

/-! ## The experts -/

theorem comp_step (c d : Dev nD) (J : Ins F) (W : WBuf F) (o : Fin 32) (fr : TokBuf F) (fw : WBuf F) (ft : ResBuf F)
    (hr : Good d J o fr) (hw : Copied W 4 fw) :
    iprop(recvPts c (rSlot o).set fr ∗ wbPts c fw ∗ retPts c (rRet o).set ft)
      ⊢ WP c (compStep o) fun _ => iprop(recvPts c (rSlot o).set fr ∗ wbPts c fw ∗ ∃ f : ResBuf F,
          ⌜rdRet o f = compP (rowsVal d J o) (selVal d J o) (wAt W 0) (wAt W 1) (wAt W 2) (wAt W 3)⌝ ∗ retPts c (rRet o).set f) := by
  unfold compStep recvPts wbPts retPts
  simp only [Prog.lift, Prog.bind_op, Prog.bind_ret]
  iintro ⟨Hr, Hw, Ht⟩
  iapply (wp_load 𝒱₀ (c : Thread nD τ) none Set.univ (m := recvM) (r := (rRows o).toLoadRect) (sub_load cc0_scratch1 (rRows o) (rRows_sub o))) $$ Hr; iintro Hr
  iapply (wp_load 𝒱₀ (c : Thread nD τ) none Set.univ (m := recvM) (r := (rSel o).toLoadRect) (sub_load cc0_scratch1 (rSel o) (rSel_sub o))) $$ Hr; iintro Hr
  iapply (wp_load 𝒱₀ (c : Thread nD τ) none Set.univ (m := wbM) (r := (rEw 0).toLoadRect) (sub_load cc0_scratch4 (rEw 0) (Finset.subset_univ _))) $$ Hw; iintro Hw
  iapply (wp_load 𝒱₀ (c : Thread nD τ) none Set.univ (m := wbM) (r := (rEw 1).toLoadRect) (sub_load cc0_scratch4 (rEw 1) (Finset.subset_univ _))) $$ Hw; iintro Hw
  iapply (wp_load 𝒱₀ (c : Thread nD τ) none Set.univ (m := wbM) (r := (rEw 2).toLoadRect) (sub_load cc0_scratch4 (rEw 2) (Finset.subset_univ _))) $$ Hw; iintro Hw
  iapply (wp_load 𝒱₀ (c : Thread nD τ) none Set.univ (m := wbM) (r := (rEw 3).toLoadRect) (sub_load cc0_scratch4 (rEw 3) (Finset.subset_univ _))) $$ Hw; iintro Hw
  iapply (wp_load 𝒱₀ (c : Thread nD τ) none Set.univ (m := retM) (r := (rRet o).toLoadRect) (sub_load cc0_scratch2 (rRet o) subset_rfl)) $$ Ht; iintro Ht
  iapply (wp_store 𝒱₀ (c : Thread nD τ) none Set.univ (m := retM) (r := rRet o) (Mk := Finset.univ) (sub_store cc0_scratch2 (rRet o) subset_rfl)) $$ Ht; iintro Ht
  iapply wp_done
  isplitl [Hr]; · iexact Hr
  isplitl [Hw]; · iexact Hw
  iexists (putRet o ft (compP (rdRows o fr) (rdSel o fr) (fun i => fw ((rEw 0).emb i)) (fun i => fw ((rEw 1).emb i))
    (fun i => fw ((rEw 2).emb i)) (fun i => fw ((rEw 3).emb i))))
  isplitr
  · ipureintro
    rw [rdRet_putRet, hr.1, hr.2]
    exact congr (congr (congr (congrArg (compP (rowsVal d J o) (selVal d J o)) (hw 0 (by decide))) (hw 1 (by decide)))
      (hw 2 (by decide))) (hw 3 (by decide))
  iexact Ht

/-! ## A wait on a copy's cell -/

theorem wait_dma (c : Dev nD) (j : Fin 4) (o : Fin 32) (q : DmaSem sig) (hq : q = dsem j o) {s : Shape} {e : EltTy}
    {src dst : Memref sig .tc .vmem s e} {hs : src.view.WordExact} {hd : dst.view.WordExact} (n : ℕ) (hn : dst.view.dmaCredit = n)
    (hexp : (sched I Wt).expect (dCell j o c) 0 = n) (O : CellTallies nD τ sig Unit)
    (hmw : (levAts L lv : sProp 𝕄) ⊢ MayWait (c : Thread nD τ) (.dma (dsem j o)) () O) (P : sProp 𝕄)
    (hP : bigSep ((sched I Wt).duties (dCell j o c) 0 \ ∅) (fun e => (sched I Wt).payload (dCell j o c) 0 e) = P) :
    iprop(ctx I Wt K ∗ Ow c O ∗ cred (tallyAt (dCell j o c) () n) ∗ atPos ER (dCell j o c) 0 ∅ 0)
      ⊢ WP c (Prog.lift (.waitDma2 q src dst hs hd)) fun _ => iprop(Ow c O ∗ semVal (dCell j o c) 0 ∗ P) := by
  subst hq hn
  unfold ctx Ow
  simp only [Prog.lift]
  iintro ⟨⟨#HR, #Hlv⟩, ⟨%W, HO⟩, Hc, Hat⟩
  iapply (Rounds.wp_wait_rest_token 𝒱₀ ER (sched I Wt) (c : Thread nD τ) none (κ := K (c, some (j, o)))
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iapply (inv_dma I Wt K c j o); iexact HR
    isplitl [Hc]; · iexact Hc
    isplitl [HO]; · iexact HO
    isplitr
    · iapply hmw; iexact Hlv
    iexact Hat
  iintro ⟨HO, Hat, -, Hpay⟩
  ihave Hp := (Entails.of_eq hP) $$ Hpay
  imod (Rounds.cell_close ER (sched I Wt) (Set.mem_univ (K (c, some (j, o)))) (fun h => h) (R := 0 + 1) (duties_later I Wt (dCell j o c))) $$ [Hat] with Hz
  · isplitr; · iapply (inv_dma I Wt K c j o); iexact HR
    iexact Hat
  iapply wp_done
  isplitl [HO]; · iexists _; iexact HO
  isplitl [Hz]; · iexact Hz
  iexact Hp

/-! ## Offset by offset: rows in, results back -/

def midX (c : Dev nD) (n : ℕ) : sProp 𝕄 :=
  iprop(ctx I Wt K ∗ Ow c (O2 c n) ∗ ∃ f : WBuf F, ⌜Copied (Wt c) 4 f⌝ ∗ wbPts c f)
def midPre (c : Dev nD) (o : Fin 32) : sProp 𝕄 :=
  iprop((cred (tallyAt (dCell 0 o c) () NS) ∗ atPos ER (dCell 0 o c) 0 ∅ 0)
    ∗ (cred (tallyAt (dCell 1 o c) () NS) ∗ atPos ER (dCell 1 o c) 0 ∅ 0)
    ∗ (∃ f : ResBuf F, retPts c (rRet o).set f) ∗ (∃ f : ResBuf F, resPts (minus c o) (rRet o).set f)
    ∗ dutyTok ER (dCell 2 o c) 0 0 ∗ dutyTok ER (dCell 3 o (minus c o)) 0 0)
def midPost (c : Dev nD) (o : Fin 32) : sProp 𝕄 :=
  iprop(semVal (dCell 0 o c) 0 ∗ semVal (dCell 1 o c) 0 ∗ (∃ f : TokBuf F, sendPts c (rSlot o).set f)
    ∗ (∃ f : TokBuf F, recvPts c (rSlot o).set f) ∗ cred (tallyAt (dCell 2 o c) () NR))

theorem copy_back (c : Dev nD) (o : Fin 32) (ho : o ≠ 0) (n : Dev nD) (hn : n = minus c o) (q7 q8 : DmaSem sig)
    (h7 : q7 = dsem 2 o) (h8 : q8 = dsem 3 o) {hsc} {hsrc} {hdst} {hsem}
    (f fd : ResBuf F) (hf : rdRet o f = resVal I Wt (minus c o) o) (O : CellTallies nD τ sig Unit) (W : Waits sig Unit)
    {Q : PUnit → sProp 𝕄} {k : PUnit → BProg F PUnit} :
    iprop(records I Wt K ∗ retPts c (rRet o).set f ∗ resPts (minus c o) (rRet o).set fd
        ∗ owes (c : Thread nD τ) (O + t2 c o) W ∗ dutyTok ER (dCell 2 o c) 0 0 ∗ dutyTok ER (dCell 3 o (minus c o)) 0 0)
      ⊢ iprop(((cred (tallyAt (dCell 2 o c) () NR) ∗ owes (c : Thread nD τ) O W) -∗ WP c (k ⟨⟩) Q)
        -∗ WP c (.op (.enqueueDma (retV retM o) (.remote (Dev.tc n) (retV resM o) (.dma q7) hsc) (.dma q8) hsrc hdst hsem) k) Q) := by
  subst hn h7 h8
  iintro ⟨#HR, Hs, Hv, HO, Ht0, Ht1⟩
  iapply (Rounds.wp_send_pointsTo 𝒱₀ ER (sched I Wt) (c : Thread nD τ) none (κ₁ := K (c, some (2, o))) (κ₂ := K (minus c o, some (3, o)))
    (src := retV retM o) (dst := retV resM o) (c' := (minus c o : Thread nD τ)) (sS := .dma (dsem 2 o)) (sem := .dma (dsem 3 o))
    (r₁ := 0) (r₂ := 0) (d₁ := 0) (d₂ := 0) (fs := f) (fd := fd) (q := fullShare)
    (by rw [duties_dma I Wt c 2 ho]; exact Finset.mem_singleton_self _)
    (by rw [duties_dma I Wt (minus c o) 3 ho]; exact Finset.mem_singleton_self _)
    () () NR (credit_res o) (amount_res I Wt c 2 (by decide) o 0) (amount_res I Wt (minus c o) 3 (by decide) o 0) O rfl (W := W)
    (by
      rw [payload_back]
      unfold backPay
      iintro H; iexists f
      iapply (Entails.of_eq (retn_view c o f).symm); iexact H)
    (by
      rw [payload_res]
      unfold resPay
      iintro H
      iexists ((retV resM o).view.write (Elt F) fd ((retV retM o).view.read (Elt F) f) Finset.univ : ResBuf F)
      isplitr
      · ipureintro; exact (rdRet_congr fun i hi => copy_ret_res o fd f i hi).trans hf
      iapply (Entails.of_eq (res_view (minus c o) o _).symm); iexact H))
  isplitr; · iapply (inv_dma I Wt K c 2 o); iexact HR
  isplitr; · iapply (inv_dma I Wt K (minus c o) 3 o); iexact HR
  isplitl [Hs]; · iapply (Entails.of_eq (retn_view c o f)); iexact Hs
  isplitl [Hv]; · iapply (Entails.of_eq (res_view (minus c o) o fd)); iexact Hv
  isplitl [HO]; · iexact HO
  isplitl [Ht0]; · iexact Ht0
  isplitr; · iapply (at_dma I Wt K c 2 o); iexact HR
  isplitl [Ht1]; · iexact Ht1
  iapply (at_dma I Wt K (minus c o) 3 o); iexact HR

theorem mid_step (c : Dev nD) (o : Fin 32) (ho : o ≠ 0) :
    iprop(midX I Wt K c o.val ∗ midPre (F := F) c o)
      ⊢ WP c (midStep c o) fun _ => iprop(midX I Wt K c (o.val + 1) ∗ midPost (F := F) c o) := by
  unfold midStep midX midPre midPost
  iintro ⟨⟨#HC, HO, %fw, %hw, Hw⟩, ⟨Hc0, Ha0⟩, ⟨Hc1, Ha1⟩, ⟨%ft, Hrt⟩, ⟨%fd, Hrs⟩, Ht2, Ht3⟩
  iapply (seq (wait_dma I Wt K c 0 o _ (sem5_eq o) NS (credit_send o) (expect_tok I Wt c 0 (by decide) ho) (O2 c o.val)
    (mayWait_of c _ 2 (by rw [lv_dma]; decide) _ (above_O2 c _)) _ (rest_send I Wt c ho))) $$ [HO Hc0 Ha0]
  · isplitr; · iexact HC
    isplitl [HO]; · iexact HO
    isplitl [Hc0] <;> iassumption
  iintro ⟨HO, Hz0, Hs⟩
  iapply (seq (wait_dma I Wt K c 1 o _ (sem6_eq o) NS (credit_recv o) (expect_tok I Wt c 1 (by decide) ho) (O2 c o.val)
    (mayWait_of c _ 2 (by rw [lv_dma]; decide) _ (above_O2 c _)) _ (rest_recv I Wt c ho))) $$ [HO Hc1 Ha1]
  · isplitr; · iexact HC
    isplitl [HO]; · iexact HO
    isplitl [Hc1] <;> iassumption
  iintro ⟨HO, Hz1, Hv⟩
  unfold recvPay sendPay
  icases Hv with ⟨%fr, %hr, Hv⟩
  iapply (seq (comp_step c (minus c o) (I (minus c o)) (Wt c) o fr fw ft hr hw)) $$ [Hv Hw Hrt]
  · isplitl [Hv]; · iexact Hv
    isplitl [Hw] <;> iassumption
  iintro ⟨Hv, Hw, %f, %hf, Hrt⟩
  unfold backStep Ow
  icases HO with ⟨%W, HO⟩
  simp only [Prog.lift]
  iapply (copy_back I Wt K c o ho _ (devMinus_eq c o) _ _ (sem7_eq o) (sem8_eq o) f fd
    (by rw [hf]; unfold resVal; rw [minus_plus]) (O2 c (o.val + 1)) W) $$ [Hrt Hrs HO Ht2 Ht3]
  · isplitr
    · unfold ctx; icases HC with ⟨#HR, -⟩; iexact HR
    isplitl [Hrt]; · iexact Hrt
    isplitl [Hrs]; · iexact Hrs
    isplitl [HO]; · rw [O2_cons]; iexact HO
    isplitl [Ht2] <;> iassumption
  iintro ⟨Hc2, HO⟩
  iapply wp_done
  isplitl [HO Hw]
  · isplitr; · iexact HC
    isplitl [HO]; · iexists W; iexact HO
    iexists fw
    isplitr; · ipureintro; exact hw
    iexact Hw
  isplitl [Hz0]; · iexact Hz0
  isplitl [Hz1]; · iexact Hz1
  isplitl [Hs]; · iexact Hs
  isplitl [Hv]; · iexists fr; iexact Hv
  iexact Hc2

/-! ## The output block -/

abbrev OutBuf (F : FTy → Type) : Type := S1024x512.Idx → Elt F .f32

/-- The output block once the results of offsets 0 to `n` are in. -/
def accTo (c : Dev nD) : ℕ → OutBuf F
  | 0 => k0_pay226 ((I c).bs c) (resVal I Wt c 0)
  | n + 1 => accP c (I c) (Fin.ofNat 32 (n + 1)) (accTo c n) (resVal I Wt c (Fin.ofNat 32 (n + 1)))

def outPts (c : Dev nD) (f : OutBuf F) : sProp 𝕄 := ((c : Thread nD τ).loc cc0_stg4_0) ↦{fullShare} f

theorem hz2 : (![0, 0] : Fin 2 → Nat) = fun _ => 0 := funext fun a => by fin_cases a <;> rfl
theorem read_out (f : OutBuf F) : outM.view.readAt (Elt F) rOut.toLoadRect f = f :=
  Memref.readAt_unit_zero (Elt F) cc0_stg4_0 hz2 _ f
theorem write_out (f w : OutBuf F) : (outM.access rOut : View sig .tc _ _ _).write (Elt F) f w Finset.univ = w :=
  Memref.write_access_unit_zero_univ (Elt F) cc0_stg4_0 hz2 _ f w

theorem out_init (c : Dev nD) (f : ResBuf F) (hf : rdRet 0 f = resVal I Wt c 0) (fo : OutBuf F) :
    iprop(resPts c (rRet 0).set f ∗ outPts c fo)
      ⊢ WP c (outInit c (I c)) fun _ => iprop(resPts c (rRet 0).set f ∗ outPts c (accTo I Wt c 0)) := by
  unfold outInit resPts outPts
  simp only [Prog.lift, Prog.bind_op, Prog.bind_ret]
  iintro ⟨Hr, Ho⟩
  iapply (wp_load 𝒱₀ (c : Thread nD τ) none Set.univ (m := resM) (r := (rRet 0).toLoadRect) (sub_load cc0_scratch3 (rRet 0) subset_rfl)) $$ Hr; iintro Hr
  iapply (wp_load 𝒱₀ (c : Thread nD τ) none Set.univ (m := outM) (r := rOut.toLoadRect) (Finset.subset_univ _)) $$ Ho; iintro Ho
  iapply (wp_store 𝒱₀ (c : Thread nD τ) none Set.univ (m := outM) (r := rOut) (Mk := Finset.univ) (Finset.subset_univ _)) $$ Ho; iintro Ho
  rw [write_out]
  iapply wp_done
  isplitl [Hr]; · iexact Hr
  rw [show accTo I Wt c 0 = k0_pay226 ((I c).bs c) (rdRet 0 f) from by rw [hf]; rfl]
  iexact Ho

def outX (c : Dev nD) (n : ℕ) : sProp 𝕄 := iprop(ctx I Wt K ∗ Ow c 0 ∗ outPts c (accTo I Wt c (n - 1)))
def outPre (c : Dev nD) (o : Fin 32) : sProp 𝕄 :=
  iprop((cred (tallyAt (dCell 2 o c) () NR) ∗ atPos ER (dCell 2 o c) 0 ∅ 0)
    ∗ (cred (tallyAt (dCell 3 o c) () NR) ∗ atPos ER (dCell 3 o c) 0 ∅ 0))
def outPost (c : Dev nD) (o : Fin 32) : sProp 𝕄 :=
  iprop(semVal (dCell 2 o c) 0 ∗ semVal (dCell 3 o c) 0 ∗ (∃ f : ResBuf F, retPts c (rRet o).set f)
    ∗ (∃ f : ResBuf F, resPts c (rRet o).set f))

theorem accTo_step (c : Dev nD) (o : Fin 32) (ho : o ≠ 0) :
    accTo I Wt c (o.val + 1 - 1) = accP c (I c) o (accTo I Wt c (o.val - 1)) (resVal I Wt c o) := by
  obtain ⟨n, hn⟩ : ∃ n, o.val = n + 1 := ⟨o.val - 1, by have : o.val ≠ 0 := fun h => ho (Fin.ext h); omega⟩
  have he : Fin.ofNat 32 (n + 1) = o := Fin.ext (by show (n + 1) % 32 = o.val; omega)
  rw [show o.val + 1 - 1 = n + 1 by omega, show o.val - 1 = n by omega]
  show accP c (I c) (Fin.ofNat 32 (n + 1)) _ _ = _
  rw [he]

theorem out_step (c : Dev nD) (o : Fin 32) (ho : o ≠ 0) :
    iprop(outX I Wt K c o.val ∗ outPre (F := F) c o)
      ⊢ WP c (outStep c (I c) o) fun _ => iprop(outX I Wt K c (o.val + 1) ∗ outPost (F := F) c o) := by
  unfold outStep outX outPre outPost
  iintro ⟨⟨#HC, HO, Hout⟩, ⟨Hc2, Ha2⟩, Hc3, Ha3⟩
  iapply (seq (wait_dma I Wt K c 2 o _ (sem7_eq o) NR (credit_ret o) (expect_res I Wt c 2 (by decide) ho) 0
    (by rw [MayWait_zero]; iintro -; iempintro) _ (rest_back I Wt c ho))) $$ [HO Hc2 Ha2]
  · isplitr; · iexact HC
    isplitl [HO]; · iexact HO
    isplitl [Hc2] <;> iassumption
  iintro ⟨HO, Hz2, Hs⟩
  iapply (seq (wait_dma I Wt K c 3 o _ (sem8_eq o) NR (credit_res o) (expect_res I Wt c 3 (by decide) ho) 0
    (by rw [MayWait_zero]; iintro -; iempintro) _ (rest_res I Wt c ho))) $$ [HO Hc3 Ha3]
  · isplitr; · iexact HC
    isplitl [HO]; · iexact HO
    isplitl [Hc3] <;> iassumption
  iintro ⟨HO, Hz3, Hv⟩
  unfold resPay backPay resPts outPts
  icases Hv with ⟨%f, %hf, Hv⟩
  simp only [Prog.lift, Prog.bind_op, Prog.bind_ret]
  iapply (wp_load 𝒱₀ (c : Thread nD τ) none Set.univ (m := outM) (r := rOut.toLoadRect) (Finset.subset_univ _)) $$ Hout; iintro Hout
  rw [read_out]
  iapply (wp_load 𝒱₀ (c : Thread nD τ) none Set.univ (m := resM) (r := (rRet o).toLoadRect) (sub_load cc0_scratch3 (rRet o) subset_rfl)) $$ Hv; iintro Hv
  iapply (wp_load 𝒱₀ (c : Thread nD τ) none Set.univ (m := outM) (r := rOut.toLoadRect) (Finset.subset_univ _)) $$ Hout; iintro Hout
  iapply (wp_store 𝒱₀ (c : Thread nD τ) none Set.univ (m := outM) (r := rOut) (Mk := Finset.univ) (Finset.subset_univ _)) $$ Hout; iintro Hout
  rw [write_out]
  iapply wp_done
  isplitl [HO Hout]
  · isplitr; · iexact HC
    isplitl [HO]; · iexact HO
    rw [show accTo I Wt c (o.val + 1 - 1) = accP c (I c) o (accTo I Wt c (o.val - 1)) (rdRet o f) from by rw [accTo_step I Wt c o ho, hf]]
    iexact Hout
  isplitl [Hz2]; · iexact Hz2
  isplitl [Hz3]; · iexact Hz3
  isplitl [Hs]; · iexact Hs
  iexists f; iexact Hv

end Cert.Moe

end
-- ==== Proof.Groups.lean ====
/- The whole body on one device. -/
module

public import proofs.«01_k».proof.Proof.Experts
public import Idealize.ShloMosaic.Lib.Ring

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (Wt : Dev nD → WBuf F) (K : Dev nD × CK → ℕ)

/-! ## Buffers cut into slots and joined again -/

theorem slots_disj (o o' : Fin 32) (h : o ≠ o') : Disjoint (rSlot o).set (rSlot o').set := by
  rw [Finset.disjoint_left]; intro i h1 h2
  rw [mem_rSlot] at h1 h2
  exact h (h1.symm.trans h2)
theorem slots_cover : (Finset.univ : Finset (Fin 32)).biUnion (fun o => (rSlot o).set) = Finset.univ := by
  ext i
  simp only [Finset.mem_biUnion, Finset.mem_univ, true_and, iff_true]
  exact ⟨i 0, (mem_rSlot (i 0) i).mpr rfl⟩
theorem rets_disj (o o' : Fin 32) (h : o ≠ o') : Disjoint (rRet o).set (rRet o').set := by
  rw [Finset.disjoint_left]; intro i h1 h2
  rw [mem_rRet] at h1 h2
  exact h (h1.symm.trans h2)
theorem rets_cover : (Finset.univ : Finset (Fin 32)).biUnion (fun o => (rRet o).set) = Finset.univ := by
  ext i
  simp only [Finset.mem_biUnion, Finset.mem_univ, true_and, iff_true]
  exact ⟨i 0, (mem_rRet (i 0) i).mpr rfl⟩

/-- Some contents of a buffer. -/
def zeroTokBuf : TokBuf F := constant S32x116x256 .bf16 0x0000#16
def zeroResBuf : ResBuf F := constant S32x112x512 .bf16 0x0000#16

theorem at_zero (Φ : Fin 32 → sProp 𝕄) : bigSep Finset.univ Φ = iprop(Φ 0 ∗ bigSep (rng 1 32) Φ) := by
  rw [rng_all, bigSep_univ_at Φ 0]

theorem recv_cut (c : Dev nD) (f : TokBuf F) :
    ((((c : Thread nD τ).loc cc0_scratch1) ↦{fullShare} f : sProp 𝕄))
      ⊢ iprop((∃ f : TokBuf F, recvPts c (rSlot 0).set f) ∗ bigSep (rng 1 32) fun o => iprop(∃ f : TokBuf F, recvPts c (rSlot o).set f)) := by
  rw [Ring.pointsTo_blocks (ℓ := (c : Thread nD τ).loc cc0_scratch1) (fun o : Fin 32 => (rSlot o).set) slots_disj slots_cover f, ← at_zero (fun o => iprop(∃ f : TokBuf F, recvPts c (rSlot o).set f))]
  refine bigSep_mono fun o _ => ?_
  change recvPts c (rSlot o).set f ⊢ iprop(∃ f : TokBuf F, recvPts c (rSlot o).set f)
  iintro H; iexists f; iexact H
theorem ret_cut (c : Dev nD) (f : ResBuf F) :
    ((((c : Thread nD τ).loc cc0_scratch2) ↦{fullShare} f : sProp 𝕄))
      ⊢ iprop((∃ f : ResBuf F, retPts c (rRet 0).set f) ∗ bigSep (rng 1 32) fun o => iprop(∃ f : ResBuf F, retPts c (rRet o).set f)) := by
  rw [Ring.pointsTo_blocks (ℓ := (c : Thread nD τ).loc cc0_scratch2) (fun o : Fin 32 => (rRet o).set) rets_disj rets_cover f, ← at_zero (fun o => iprop(∃ f : ResBuf F, retPts c (rRet o).set f))]
  refine bigSep_mono fun o _ => ?_
  change retPts c (rRet o).set f ⊢ iprop(∃ f : ResBuf F, retPts c (rRet o).set f)
  iintro H; iexists f; iexact H
theorem res_cut (c : Dev nD) (f : ResBuf F) :
    ((((c : Thread nD τ).loc cc0_scratch3) ↦{fullShare} f : sProp 𝕄))
      ⊢ iprop((∃ f : ResBuf F, resPts c (rRet 0).set f) ∗ bigSep (rng 1 32) fun o => iprop(∃ f : ResBuf F, resPts c (rRet o).set f)) := by
  rw [Ring.pointsTo_blocks (ℓ := (c : Thread nD τ).loc cc0_scratch3) (fun o : Fin 32 => (rRet o).set) rets_disj rets_cover f, ← at_zero (fun o => iprop(∃ f : ResBuf F, resPts c (rRet o).set f))]
  refine bigSep_mono fun o _ => ?_
  change resPts c (rRet o).set f ⊢ iprop(∃ f : ResBuf F, resPts c (rRet o).set f)
  iintro H; iexists f; iexact H

theorem send_join (c : Dev nD) :
    iprop((∃ f : TokBuf F, sendPts c (rSlot 0).set f) ∗ bigSep (rng 1 32) fun o => iprop(∃ f : TokBuf F, sendPts c (rSlot o).set f))
      ⊢ (iprop(∃ f : TokBuf F, ((c : Thread nD τ).loc cc0_scratch0) ↦{fullShare} f) : sProp 𝕄) := by
  rw [← at_zero (fun o => iprop(∃ f : TokBuf F, sendPts c (rSlot o).set f))]
  exact Ring.pointsTo_blocks_join_exists (ℓ := (c : Thread nD τ).loc cc0_scratch0) (fun o : Fin 32 => (rSlot o).set) slots_disj slots_cover (zeroTokBuf (F := F))
theorem recv_join (c : Dev nD) :
    iprop((∃ f : TokBuf F, recvPts c (rSlot 0).set f) ∗ bigSep (rng 1 32) fun o => iprop(∃ f : TokBuf F, recvPts c (rSlot o).set f))
      ⊢ (iprop(∃ f : TokBuf F, ((c : Thread nD τ).loc cc0_scratch1) ↦{fullShare} f) : sProp 𝕄) := by
  rw [← at_zero (fun o => iprop(∃ f : TokBuf F, recvPts c (rSlot o).set f))]
  exact Ring.pointsTo_blocks_join_exists (ℓ := (c : Thread nD τ).loc cc0_scratch1) (fun o : Fin 32 => (rSlot o).set) slots_disj slots_cover (zeroTokBuf (F := F))
theorem ret_join (c : Dev nD) :
    iprop((∃ f : ResBuf F, retPts c (rRet 0).set f) ∗ bigSep (rng 1 32) fun o => iprop(∃ f : ResBuf F, retPts c (rRet o).set f))
      ⊢ (iprop(∃ f : ResBuf F, ((c : Thread nD τ).loc cc0_scratch2) ↦{fullShare} f) : sProp 𝕄) := by
  rw [← at_zero (fun o => iprop(∃ f : ResBuf F, retPts c (rRet o).set f))]
  exact Ring.pointsTo_blocks_join_exists (ℓ := (c : Thread nD τ).loc cc0_scratch2) (fun o : Fin 32 => (rRet o).set) rets_disj rets_cover (zeroResBuf (F := F))
theorem res_join (c : Dev nD) :
    iprop((∃ f : ResBuf F, resPts c (rRet 0).set f) ∗ bigSep (rng 1 32) fun o => iprop(∃ f : ResBuf F, resPts c (rRet o).set f))
      ⊢ (iprop(∃ f : ResBuf F, ((c : Thread nD τ).loc cc0_scratch3) ↦{fullShare} f) : sProp 𝕄) := by
  rw [← at_zero (fun o => iprop(∃ f : ResBuf F, resPts c (rRet o).set f))]
  exact Ring.pointsTo_blocks_join_exists (ℓ := (c : Thread nD τ).loc cc0_scratch3) (fun o : Fin 32 => (rRet o).set) rets_disj rets_cover (zeroResBuf (F := F))

/-- The receive slots, named by the signals that give them away. -/
theorem recv_swap (c : Dev nD) :
    (bigSep (rng 1 32) fun o : Fin 32 => (iprop(∃ f : TokBuf F, recvPts c (rSlot o).set f) : sProp 𝕄))
      = bigSep (rng 1 32) fun o => iprop(∃ f : TokBuf F, recvPts c (rSlot (-o)).set f) := by
  have hb := bigSep_map (M := 𝕄) (s := rng 1 32) negEmb (Φ := fun o => iprop(∃ f : TokBuf F, recvPts c (rSlot o).set f))
  rw [show (rng 1 32).map negEmb = rng 1 32 by decide] at hb
  rw [hb]; rfl

/-! ## The input blocks -/

def xPts (c : Dev nD) (f : Vec F S1024x256 .bf16) : sProp 𝕄 := ((c : Thread nD τ).loc cc0_stg0_0) ↦{fullShare} f
def rwPts (c : Dev nD) (f : Vec F S256x128 .bf16) : sProp 𝕄 := ((c : Thread nD τ).loc cc0_stg1_0) ↦{fullShare} f
def ixPts (c : Dev nD) (f : Vec F S1024x2 .i32) : sProp 𝕄 := ((c : Thread nD τ).loc cc0_stg2_0) ↦{fullShare} f

theorem read_x (f : Vec F S1024x256 .bf16) :
    xM.view.readAt (Elt F) (Rect.unit (s := S1024x256) ![0, 0] S1024x256.size inb_S1024x256_S1024x256_0_0).toLoadRect f = f :=
  Memref.readAt_unit_zero (Elt F) cc0_stg0_0 hz2 _ f
theorem read_rw (f : Vec F S256x128 .bf16) :
    rwM.view.readAt (Elt F) (Rect.unit (s := S256x128) ![0, 0] S256x128.size inb_S256x128_S256x128_0_0).toLoadRect f = f :=
  Memref.readAt_unit_zero (Elt F) cc0_stg1_0 hz2 _ f

/-! ## A group -/

theorem group_step (c : Dev nD) (g : Fin 4) (n s : ℕ) (h : s + n ≤ 32) (hs : s ≤ 8 * g.val ∨ (g = 0 ∧ s ≤ 1)) (h0 : s ≠ 0)
    (h1 : 8 * g.val ≤ s) (h2 : s + n ≤ 8 * g.val + 8) :
    iprop(ctx I Wt K ∗ Ow c (O2 c 1 + O1 c s) ∗ (∃ f : TokBuf F, ⌜g ≠ 0 → Good c (I c) 0 f⌝ ∗ sendPts c (rem s) f)
        ∗ bigSep (rng s (s + n)) (sendPre (F := F) c))
      ⊢ WP c (groupStep c (I c) (I c).x g n s h) fun _ => iprop((ctx I Wt K ∗ Ow c (O2 c 1 + O1 c (s + n)) ∗ sendX c c (I c) g (s + n) 8)
          ∗ bigSep (rng s (s + n)) (sendPost c)) := by
  unfold groupStep
  iintro ⟨#HC, HO, Hs, Hp⟩
  iapply (seq (rows_step c c (I c) g s (by omega))) $$ [Hs]
  · iexact Hs
  iintro Hs
  iapply (seq (loop_inv c (selStep c (I c) g) (fun m => sendX c c (I c) g s m) 8 0 (Nat.le_refl 8)
    (fun j _ _ => sel_step c c (I c) g s hs j))) $$ [Hs]
  · iexact Hs
  iintro Hs
  iapply (loop_rule c (sendStep c) (fun m => iprop(ctx I Wt K ∗ Ow c (O2 c 1 + O1 c m) ∗ sendX c c (I c) g m 8)) (sendPre c) (sendPost c) n s h
    (fun o ho1 ho2 => send_step I Wt K c g o (fun e => h0 (by subst e; simpa using ho1)) (by omega)))
  isplitr [Hp]
  · isplitr; · iexact HC
    isplitl [HO]; · iexact HO
    iexact Hs
  iexact Hp

/-- From one group to the next: the send buffer's own slot stays good. -/
theorem sendX_next (c d : Dev nD) (J : Ins F) (g g' : Fin 4) (m : ℕ) :
    sendX c d J g m 8 ⊢ (iprop(∃ f : TokBuf F, ⌜g' ≠ 0 → Good d J 0 f⌝ ∗ sendPts c (rem m) f) : sProp 𝕄) := by
  unfold sendX
  iintro ⟨%f, %hf, H⟩
  iexists f
  isplitr; · ipureintro; exact fun _ => filled_own d J g f hf
  iexact H

end Cert.Moe

end
-- ==== Proof.Rest.lean ====
/- The whole body on one device. -/
module

public import proofs.«01_k».proof.Proof.Groups

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (Wt : Dev nD → WBuf F) (K : Dev nD × CK → ℕ)

/-! ## The pieces of each phase, dealt per offset -/

def midRest (c : Dev nD) (o : Fin 32) : sProp 𝕄 :=
  iprop(atPos ER (dCell 0 o c) 0 ∅ 0 ∗ atPos ER (dCell 1 o c) 0 ∅ 0 ∗ cred (tallyAt (dCell 1 o c) () NS)
    ∗ (∃ f : ResBuf F, retPts c (rRet o).set f) ∗ (∃ f : ResBuf F, resPts (minus c o) (rRet o).set f)
    ∗ dutyTok ER (dCell 2 o c) 0 0 ∗ dutyTok ER (dCell 3 o (minus c o)) 0 0)
def midKeep (c : Dev nD) (o : Fin 32) : sProp 𝕄 :=
  iprop(semVal (dCell 0 o c) 0 ∗ semVal (dCell 1 o c) 0 ∗ (∃ f : TokBuf F, sendPts c (rSlot o).set f)
    ∗ (∃ f : TokBuf F, recvPts c (rSlot o).set f))
def outRest (c : Dev nD) (o : Fin 32) : sProp 𝕄 :=
  iprop(atPos ER (dCell 2 o c) 0 ∅ 0 ∗ atPos ER (dCell 3 o c) 0 ∅ 0 ∗ cred (tallyAt (dCell 3 o c) () NR))

theorem mid_zip (c : Dev nD) : iprop(bigSep (rng 1 32) (sendPost (F := F) c) ∗ bigSep (rng 1 32) (midRest (F := F) c))
    ⊢ bigSep (rng 1 32) (midPre (F := F) c) := by
  rw [← bigSep_sep']
  refine bigSep_mono fun o _ => ?_
  change iprop(sendPost c o ∗ midRest c o) ⊢ midPre c o
  unfold sendPost midRest midPre
  iintro ⟨H1, H2, H3, H4, H5, H6, H7, H8⟩
  isplitl [H1 H2]; · isplitl [H1] <;> iassumption
  isplitl [H4 H3]; · isplitl [H4] <;> iassumption
  isplitl [H5]; · iexact H5
  isplitl [H6]; · iexact H6
  isplitl [H7] <;> iassumption

theorem out_zip (c : Dev nD) : iprop(bigSep (rng 1 32) (midPost (F := F) c) ∗ bigSep (rng 1 32) (outRest (F := F) c))
    ⊢ iprop(bigSep (rng 1 32) (midKeep (F := F) c) ∗ bigSep (rng 1 32) (outPre (F := F) c)) := by
  rw [← bigSep_sep', ← bigSep_sep']
  refine bigSep_mono fun o _ => ?_
  change iprop(midPost c o ∗ outRest c o) ⊢ iprop(midKeep c o ∗ outPre c o)
  unfold midPost outRest midKeep outPre
  iintro ⟨⟨H1, H2, H3, H4, H5⟩, H6, H7, H8⟩
  isplitl [H1 H2 H3 H4]
  · isplitl [H1]; · iexact H1
    isplitl [H2]; · iexact H2
    isplitl [H3] <;> iassumption
  isplitl [H5 H6]; · isplitl [H5] <;> iassumption
  isplitl [H8] <;> iassumption

/-! ## The sending half -/

def groupX (c : Dev nD) (g : Fin 4) (s : ℕ) : sProp 𝕄 :=
  iprop(ctx I Wt K ∗ Ow c (O2 c 1 + O1 c s) ∗ ∃ f : TokBuf F, ⌜g ≠ 0 → Good c (I c) 0 f⌝ ∗ sendPts c (rem s) f)

theorem group_next (c : Dev nD) (g g' : Fin 4) (n s e : ℕ) (h : s + n ≤ 32) (he : s + n = e) (hs : s ≤ 8 * g.val ∨ (g = 0 ∧ s ≤ 1)) (h0 : s ≠ 0)
    (h1 : 8 * g.val ≤ s) (h2 : s + n ≤ 8 * g.val + 8) :
    iprop(groupX I Wt K c g s ∗ bigSep (rng s e) (sendPre (F := F) c))
      ⊢ WP c (groupStep c (I c) (I c).x g n s h) fun _ => iprop(groupX I Wt K c g' e ∗ bigSep (rng s e) (sendPost c)) := by
  subst he
  refine (show _ ⊢ _ from ?_).trans ((group_step I Wt K c g n s h hs h0 h1 h2).trans (wp_mono frame _ _ fun _ => ?_))
  · unfold groupX
    iintro ⟨⟨H1, H2, H3⟩, H4⟩
    isplitl [H1]; · iexact H1
    isplitl [H2]; · iexact H2
    isplitl [H3] <;> iassumption
  · unfold groupX
    iintro ⟨⟨H1, H2, H3⟩, H4⟩
    isplitr [H4]
    · isplitl [H1]; · iexact H1
      isplitl [H2]; · iexact H2
      iapply (sendX_next c c (I c) g g' (s + n)); iexact H3
    iexact H4

theorem rng_cut (Φ : Fin 32 → sProp 𝕄) : bigSep (rng 1 32) Φ
    = iprop(bigSep (rng 1 8) Φ ∗ bigSep (rng 8 16) Φ ∗ bigSep (rng 16 24) Φ ∗ bigSep (rng 24 32) Φ) := by
  rw [bigSep_rng_split (a := 1) (b := 8) (c := 32) (by omega) (by omega), bigSep_rng_split (a := 8) (b := 16) (c := 32) (by omega) (by omega),
    bigSep_rng_split (a := 16) (b := 24) (c := 32) (by omega) (by omega)]

theorem plus_zero (c : Dev nD) : plus c 0 = c := by revert c; decide +kernel

/-! ## From the sends to the result -/

def restPre (c : Dev nD) (fo : OutBuf F) : sProp 𝕄 :=
  iprop(ctx I Wt K ∗ Ow c (O2 c 1 + O1 c 1) ∗ xPts c (I c).x ∗ ewPts c (Wt c) ∗ (∃ f : WBuf F, wbPts c f)
    ∗ (∃ f : TokBuf F, sendPts c Finset.univ f) ∗ (∃ f : TokBuf F, recvPts c (rSlot 0).set f)
    ∗ (∃ f : ResBuf F, retPts c (rRet 0).set f) ∗ (∃ f : ResBuf F, resPts c (rRet 0).set f) ∗ outPts c fo
    ∗ bigSep (rng 1 32) (sendPre (F := F) c) ∗ bigSep (rng 1 32) (midRest (F := F) c) ∗ bigSep (rng 1 32) (outRest (F := F) c))
def restPost (c : Dev nD) : sProp 𝕄 :=
  iprop(Ow c 0 ∗ xPts c (I c).x ∗ ewPts c (Wt c) ∗ (∃ f : WBuf F, wbPts c f)
    ∗ (∃ f : TokBuf F, sendPts c (rSlot 0).set f) ∗ (∃ f : TokBuf F, recvPts c (rSlot 0).set f)
    ∗ (∃ f : ResBuf F, retPts c (rRet 0).set f) ∗ (∃ f : ResBuf F, resPts c (rRet 0).set f) ∗ outPts c (accTo I Wt c 31)
    ∗ bigSep (rng 1 32) (midKeep (F := F) c) ∗ bigSep (rng 1 32) (outPost (F := F) c))

theorem rest_step (c : Dev nD) (fo : OutBuf F) :
    restPre I Wt K c fo ⊢ WP c (restProg c (I c)) fun _ => restPost I Wt c := by
  unfold restProg restPre
  simp only [Prog.lift, Prog.bind_op, Prog.bind_ret]
  iintro ⟨#HC, HO, Hx, He, ⟨%fw, Hw⟩, ⟨%fs, Hs⟩, ⟨%fv, Hv⟩, ⟨%ft, Ht⟩, ⟨%fr, Hr⟩, Ho, Hsp, Hmr, Hor⟩
  unfold xPts
  iapply (wp_load 𝒱₀ (c : Thread nD τ) none Set.univ (m := xM) (r := (Rect.unit (s := S1024x256) ![0, 0] S1024x256.size inb_S1024x256_S1024x256_0_0).toLoadRect) (Finset.subset_univ _)) $$ Hx; iintro Hx
  rw [read_x]
  iapply (seq (loop_inv c ewStep (ewX c (Wt c)) 4 0 (Nat.le_refl 4) (fun k _ _ => ew_step c (Wt c) k))) $$ [He Hw]
  · unfold ewX
    isplitl [He]; · iexact He
    iexists fw
    isplitr; · ipureintro; exact fun k hk => absurd hk (Nat.not_lt_zero _)
    iexact Hw
  iintro Hew
  ihave Hsp := (Entails.of_eq (rng_cut (sendPre (F := F) c))) $$ Hsp
  icases Hsp with ⟨Hp0, Hp1, Hp2, Hp3⟩
  iapply (seq (group_next I Wt K c 0 1 7 1 8 _ rfl (Or.inr ⟨rfl, le_rfl⟩) (by decide) (by decide) (by decide))) $$ [HO Hs Hp0]
  · isplitr [Hp0]
    · unfold groupX
      isplitr; · iexact HC
      isplitl [HO]; · iexact HO
      iexists fs
      isplitr; · ipureintro; exact fun h => absurd rfl h
      rw [rem_one]; iexact Hs
    iexact Hp0
  iintro ⟨HX, Hq0⟩
  iapply (seq (group_next I Wt K c 1 2 8 8 16 _ rfl (Or.inl (by decide)) (by decide) (by decide) (by decide))) $$ [HX Hp1]
  · isplitl [HX] <;> iassumption
  iintro ⟨HX, Hq1⟩
  iapply (seq (group_next I Wt K c 2 3 8 16 24 _ rfl (Or.inl (by decide)) (by decide) (by decide) (by decide))) $$ [HX Hp2]
  · isplitl [HX] <;> iassumption
  iintro ⟨HX, Hq2⟩
  iapply (seq (group_next I Wt K c 3 3 8 24 32 _ rfl (Or.inl (by decide)) (by decide) (by decide) (by decide))) $$ [HX Hp3]
  · isplitl [HX] <;> iassumption
  unfold groupX
  iintro ⟨⟨-, HO, %fs, %hs, Hs⟩, Hq3⟩
  have hg : Good c (I c) 0 fs := hs (by decide)
  rw [rem_last, O1_end, add_zero]
  iapply (seq (own_step c c (I c) fs fv hg)) $$ [Hs Hv]
  · isplitl [Hs] <;> iassumption
  iintro ⟨Hs, %fv, %hv, Hv⟩
  unfold ewX
  icases Hew with ⟨He, %fw, %hw, Hw⟩
  iapply (seq (comp_step c c (I c) (Wt c) 0 fv fw ft hv hw)) $$ [Hv Hw Ht]
  · isplitl [Hv]; · iexact Hv
    isplitl [Hw] <;> iassumption
  iintro ⟨Hv, Hw, %ft, %ht, Ht⟩
  iapply (seq (own_back_step c ft fr)) $$ [Ht Hr]
  · isplitl [Ht] <;> iassumption
  iintro ⟨Ht, %fr, %hr, Hr⟩
  ihave Hq := (Entails.of_eq (rng_cut (sendPost (F := F) c)).symm) $$ [Hq0 Hq1 Hq2 Hq3]
  · isplitl [Hq0]; · iexact Hq0
    isplitl [Hq1]; · iexact Hq1
    isplitl [Hq2] <;> iassumption
  ihave Hmp := (mid_zip c) $$ [Hq Hmr]
  · isplitl [Hq] <;> iassumption
  iapply (seq (loop_rule c (midStep c) (midX I Wt K c) (midPre (F := F) c) (midPost (F := F) c) 31 1 (Nat.le_refl 32)
    (fun o ho _ => mid_step I Wt K c o (fun e => by rw [e] at ho; exact absurd ho (by decide))))) $$ [HO Hw Hmp]
  · isplitl [HO Hw]
    · unfold midX
      isplitr; · iexact HC
      isplitl [HO]; · iexact HO
      iexists fw
      isplitr; · ipureintro; exact hw
      iexact Hw
    iexact Hmp
  iintro ⟨HX, Hmq⟩
  unfold midX
  icases HX with ⟨-, HO, %fw', -, Hw⟩
  ihave HO := (Entails.of_eq (congrArg (Ow c) (O2_end c))) $$ HO
  have hr0 : rdRet 0 fr = resVal I Wt c 0 := by
    rw [hr, ht]; unfold resVal; rw [plus_zero]
  iapply (seq (out_init I Wt c fr hr0 fo)) $$ [Hr Ho]
  · isplitl [Hr] <;> iassumption
  iintro ⟨Hr, Ho⟩
  ihave Hz := (out_zip c) $$ [Hmq Hor]
  · isplitl [Hmq] <;> iassumption
  icases Hz with ⟨Hk, Hop⟩
  iapply (wp_wand_r frame _ _ (Q := fun _ => iprop(outX I Wt K c 32 ∗ bigSep (rng 1 32) (outPost (F := F) c))))
  isplitl [HO Ho Hop]
  · iapply (loop_rule c (outStep c (I c)) (outX I Wt K c) (outPre (F := F) c) (outPost (F := F) c) 31 1 (Nat.le_refl 32)
      (fun o ho _ => out_step I Wt K c o (fun e => by rw [e] at ho; exact absurd ho (by decide))))
    isplitl [HO Ho]
    · unfold outX
      isplitr; · iexact HC
      isplitl [HO]; · iexact HO
      iexact Ho
    iexact Hop
  iintro %_ ⟨HX, Hoq⟩
  unfold outX restPost xPts
  icases HX with ⟨-, HO, Ho⟩
  isplitl [HO]; · iexact HO
  isplitl [Hx]; · iexact Hx
  isplitl [He]; · iexact He
  isplitl [Hw]; · iexists fw'; iexact Hw
  isplitl [Hs]; · iexists fs; iexact Hs
  isplitl [Hv]; · iexists fv; iexact Hv
  isplitl [Ht]; · iexists ft; iexact Ht
  isplitl [Hr]; · iexists fr; iexact Hr
  isplitl [Ho]; · iexact Ho
  isplitl [Hk]; · iexact Hk
  iexact Hoq

end Cert.Moe

end
-- ==== Proof.Body.lean ====
/- The whole body on one device, from its handshake to its result. -/
module

public import proofs.«01_k».proof.Proof.Rest

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (Wt : Dev nD → WBuf F) (K : Dev nD × CK → ℕ)

/-- What a device reads of its blocks. -/
def insOf (x : Vec F S1024x256 .bf16) (rw : Vec F S256x128 .bf16) (ix : Vec F S1024x2 .i32) : Ins F :=
  ⟨x, rw, fun i => ix ((Rect.unit (s := S1024x2) ![0, 0] S1024x1.size inb_S1024x2_S1024x1_0_0).emb i),
    fun i => ix ((Rect.unit (s := S1024x2) ![0, 1] S1024x1.size inb_S1024x2_S1024x1_0_1).emb i)⟩

theorem four (Φ : Fin 4 → sProp 𝕄) : bigSep Finset.univ Φ = iprop(Φ 0 ∗ Φ 1 ∗ Φ 2 ∗ Φ 3) := by
  rw [bigSep_univ_at Φ 0, show Finset.univ.erase (0 : Fin 4) = insert 1 (insert 2 {3}) by decide,
    bigSep_insert (by decide), bigSep_insert (by decide), bigSep_singleton]
  rfl

/-- All of a device's counters, or positions, of the copies' cells: cell by cell. -/
theorem cells_at (Φ : Fin 4 → Fin 32 → sProp 𝕄) : (bigSep Finset.univ fun j => bigSep Finset.univ fun o => Φ j o)
    = iprop((Φ 0 0 ∗ bigSep (rng 1 32) (Φ 0)) ∗ (Φ 1 0 ∗ bigSep (rng 1 32) (Φ 1)) ∗ (Φ 2 0 ∗ bigSep (rng 1 32) (Φ 2))
        ∗ (Φ 3 0 ∗ bigSep (rng 1 32) (Φ 3))) := by
  rw [four]; simp only [at_zero]

/-- The cell of a device's own offset, which no copy uses, closes at once. -/
theorem own_close (c : Dev nD) (j : Fin 4) :
    iprop(ctx I Wt K ∗ atPos ER (dCell j 0 c) 0 ∅ 0) ⊢ iprop(|={Set.univ}=> semVal (dCell j 0 c) 0) := by
  unfold ctx
  iintro ⟨⟨#HR, -⟩, Hat⟩
  iapply (Rounds.cell_close ER (sched I Wt) (Set.mem_univ (K (c, some (j, 0)))) (fun h => h) (R := 0) (fun r _ => duties_own I Wt c j r))
  isplitr; · iapply (inv_dma I Wt K c j 0); iexact HR
  iexact Hat

/-- What a device is dealt at the launch besides its buffers. -/
def dealt (c : Dev nD) : sProp 𝕄 :=
  iprop(cred (tallyAt (barCell c) () 31) ∗ atPos ER (barCell c) 0 ∅ 0
    ∗ (bigSep Finset.univ fun j : Fin 4 => bigSep Finset.univ fun o : Fin 32 => atPos ER (dCell j o c) 0 ∅ 0)
    ∗ (bigSep (rng 1 32) fun o => dutyTok ER (barCell (plus c o)) 0 (-o))
    ∗ (bigSep (rng 1 32) fun o => dutyTok ER (dCell 0 o c) 0 0)
    ∗ (bigSep (rng 1 32) fun o => dutyTok ER (dCell 1 o (plus c o)) 0 0)
    ∗ (bigSep (rng 1 32) fun o => dutyTok ER (dCell 2 o c) 0 0)
    ∗ (bigSep (rng 1 32) fun o => dutyTok ER (dCell 3 o (minus c o)) 0 0)
    ∗ (bigSep (rng 1 32) fun o => cred (tallyAt (dCell 1 o c) () NS))
    ∗ (bigSep (rng 1 32) fun o => cred (tallyAt (dCell 3 o c) () NR)))

/-- The five scratch buffers, at some contents. -/
def scrs (c : Dev nD) : sProp 𝕄 :=
  iprop((∃ f : TokBuf F, ((c : Thread nD τ).loc cc0_scratch0) ↦{fullShare} f)
    ∗ (∃ f : TokBuf F, ((c : Thread nD τ).loc cc0_scratch1) ↦{fullShare} f)
    ∗ (∃ f : ResBuf F, ((c : Thread nD τ).loc cc0_scratch2) ↦{fullShare} f)
    ∗ (∃ f : ResBuf F, ((c : Thread nD τ).loc cc0_scratch3) ↦{fullShare} f)
    ∗ (∃ f : WBuf F, ((c : Thread nD τ).loc cc0_scratch4) ↦{fullShare} f))

theorem sig_zip (c : Dev nD) :
    iprop((bigSep (rng 1 32) fun o => dutyTok ER (barCell (plus c o)) 0 (-o))
      ∗ (bigSep (rng 1 32) fun o : Fin 32 => iprop(∃ f : TokBuf F, recvPts c (rSlot o).set f))
      ∗ (bigSep (rng 1 32) fun o => iprop(∃ f : ResBuf F, resPts c (rRet o).set f)))
    ⊢ bigSep (rng 1 32) (sigPre (F := F) c) := by
  rw [recv_swap, ← bigSep_sep', ← bigSep_sep']
  exact Entails.rfl

theorem send_zip (c : Dev nD) :
    iprop((bigSep (rng 1 32) fun o : Fin 32 => iprop(∃ f : TokBuf F, recvPts (plus c o) (rSlot o).set f))
      ∗ (bigSep (rng 1 32) fun o => dutyTok ER (dCell 0 o c) 0 0) ∗ (bigSep (rng 1 32) fun o => dutyTok ER (dCell 1 o (plus c o)) 0 0))
    ⊢ bigSep (rng 1 32) (sendPre (F := F) c) := by
  rw [← bigSep_sep', ← bigSep_sep']
  exact Entails.rfl

theorem midRest_zip (c : Dev nD) :
    iprop((bigSep (rng 1 32) fun o => atPos ER (dCell 0 o c) 0 ∅ 0) ∗ (bigSep (rng 1 32) fun o => atPos ER (dCell 1 o c) 0 ∅ 0)
      ∗ (bigSep (rng 1 32) fun o => cred (tallyAt (dCell 1 o c) () NS))
      ∗ (bigSep (rng 1 32) fun o => iprop(∃ f : ResBuf F, retPts c (rRet o).set f))
      ∗ (bigSep (rng 1 32) fun o => iprop(∃ f : ResBuf F, resPts (minus c o) (rRet o).set f))
      ∗ (bigSep (rng 1 32) fun o => dutyTok ER (dCell 2 o c) 0 0) ∗ (bigSep (rng 1 32) fun o => dutyTok ER (dCell 3 o (minus c o)) 0 0))
    ⊢ bigSep (rng 1 32) (midRest (F := F) c) := by
  simp only [← bigSep_sep']
  exact Entails.rfl

theorem outRest_zip (c : Dev nD) :
    iprop((bigSep (rng 1 32) fun o => atPos ER (dCell 2 o c) 0 ∅ 0) ∗ (bigSep (rng 1 32) fun o => atPos ER (dCell 3 o c) 0 ∅ 0)
      ∗ (bigSep (rng 1 32) fun o => cred (tallyAt (dCell 3 o c) () NR)))
    ⊢ bigSep (rng 1 32) (outRest (F := F) c) := by
  simp only [← bigSep_sep']
  exact Entails.rfl

theorem keep_unzip (c : Dev nD) : bigSep (rng 1 32) (midKeep (F := F) c)
    ⊢ iprop((bigSep (rng 1 32) fun o => semVal (dCell 0 o c) 0) ∗ (bigSep (rng 1 32) fun o => semVal (dCell 1 o c) 0)
      ∗ (bigSep (rng 1 32) fun o => iprop(∃ f : TokBuf F, sendPts c (rSlot o).set f))
      ∗ (bigSep (rng 1 32) fun o => iprop(∃ f : TokBuf F, recvPts c (rSlot o).set f))) := by
  simp only [← bigSep_sep']
  exact Entails.rfl

theorem outPost_unzip (c : Dev nD) : bigSep (rng 1 32) (outPost (F := F) c)
    ⊢ iprop((bigSep (rng 1 32) fun o => semVal (dCell 2 o c) 0) ∗ (bigSep (rng 1 32) fun o => semVal (dCell 3 o c) 0)
      ∗ (bigSep (rng 1 32) fun o => iprop(∃ f : ResBuf F, retPts c (rRet o).set f))
      ∗ (bigSep (rng 1 32) fun o => iprop(∃ f : ResBuf F, resPts c (rRet o).set f))) := by
  simp only [← bigSep_sep']
  exact Entails.rfl

def progPre (c : Dev nD) (ix : Vec F S1024x2 .i32) (fo : OutBuf F) : sProp 𝕄 :=
  iprop(ctx I Wt K ∗ dealt c ∗ Ow c (O₀ c) ∗ scrs c ∗ xPts c (I c).x ∗ rwPts c (I c).rw ∗ ixPts c ix ∗ ewPts c (Wt c) ∗ outPts c fo)
def progPost (c : Dev nD) (ix : Vec F S1024x2 .i32) : sProp 𝕄 :=
  iprop(Ow c 0 ∗ scrs c ∗ xPts c (I c).x ∗ rwPts c (I c).rw ∗ ixPts c ix ∗ ewPts c (Wt c) ∗ outPts c (accTo I Wt c 31)
    ∗ semVal (barCell c) 0 ∗ (bigSep Finset.univ fun j : Fin 4 => bigSep Finset.univ fun o : Fin 32 => semVal (dCell j o c) 0))

set_option maxHeartbeats 800000 in
theorem prog_step (c : Dev nD) (ix : Vec F S1024x2 .i32) (hI : I c = insOf (I c).x (I c).rw ix) (fo : OutBuf F) :
    progPre I Wt K c ix fo ⊢ WP c bodyProg fun _ => progPost I Wt c ix := by
  unfold bodyProg progPre dealt scrs
  simp only [Prog.lift, Prog.bind_op, Prog.bind_ret, wp_deviceId]
  iintro ⟨#HC, ⟨Hcb, Hab, Hat, Htb, Ht0, Ht1, Ht2, Ht3, Hc1, Hc3⟩, HO, ⟨⟨%fs, Hs⟩, ⟨%fv, Hv⟩, ⟨%ft, Ht⟩, ⟨%fr, Hr⟩, ⟨%fw, Hw⟩⟩, Hx, Hrw, Hix, He, Ho⟩
  ihave Hat := (Entails.of_eq (cells_at (F := F) fun j o => atPos ER (dCell j o c) 0 ∅ 0)) $$ Hat
  icases Hat with ⟨⟨Ha00, Ha0⟩, ⟨Ha10, Ha1⟩, ⟨Ha20, Ha2⟩, Ha30, Ha3⟩
  ihave Hv := (recv_cut c fv) $$ Hv
  icases Hv with ⟨Hv0, Hv⟩
  ihave Ht := (ret_cut c ft) $$ Ht
  icases Ht with ⟨Htt0, Htt⟩
  ihave Hr := (res_cut c fr) $$ Hr
  icases Hr with ⟨Hr0, Hr⟩
  ihave Hsig := (sig_zip c) $$ [Htb Hv Hr]
  · isplitl [Htb]; · iexact Htb
    isplitl [Hv] <;> iassumption
  iapply (seq (loop_rule c (sigStep c) (fun n => iprop(ctx I Wt K ∗ Ow c ((O2 c 1 + O1 c 1) + OB c n))) (sigPre (F := F) c) (fun _ => iprop(emp)) 31 1 (Nat.le_refl 32)
    (fun o ho _ => sig_step I Wt K c o (fun e => by rw [e] at ho; exact absurd ho (by decide))))) $$ [HO Hsig]
  · isplitl [HO]
    · isplitr; · iexact HC
      iexact HO
    iexact Hsig
  iintro ⟨⟨-, HO⟩, -⟩
  ihave HO := (Entails.of_eq (congrArg (Ow c) ((congrArg _ (OB_end c)).trans (add_zero (O2 c 1 + O1 c 1))))) $$ HO
  iapply (seq (bar_wait I Wt K c)) $$ [HO Hcb Hab]
  · isplitr; · iexact HC
    isplitl [HO]; · iexact HO
    isplitl [Hcb] <;> iassumption
  iintro ⟨HO, Hzb, Hfv, Hfr⟩
  unfold xPts rwPts ixPts
  iapply (wp_load 𝒱₀ (c : Thread nD τ) none Set.univ (m := xM) (r := (Rect.unit (s := S1024x256) ![0, 0] S1024x256.size inb_S1024x256_S1024x256_0_0).toLoadRect) (Finset.subset_univ _)) $$ Hx; iintro Hx
  iapply (wp_load 𝒱₀ (c : Thread nD τ) none Set.univ (m := rwM) (r := (Rect.unit (s := S256x128) ![0, 0] S256x128.size inb_S256x128_S256x128_0_0).toLoadRect) (Finset.subset_univ _)) $$ Hrw; iintro Hrw
  iapply (wp_load 𝒱₀ (c : Thread nD τ) none Set.univ (m := ixM) (r := (Rect.unit (s := S1024x2) ![0, 0] S1024x1.size inb_S1024x2_S1024x1_0_0).toLoadRect) (Finset.subset_univ _)) $$ Hix; iintro Hix
  iapply (wp_load 𝒱₀ (c : Thread nD τ) none Set.univ (m := ixM) (r := (Rect.unit (s := S1024x2) ![0, 1] S1024x1.size inb_S1024x2_S1024x1_0_1).toLoadRect) (Finset.subset_univ _)) $$ Hix; iintro Hix
  rw [read_x, read_rw]
  rw [show (Ins.mk (I c).x (I c).rw (ixM.view.readAt (Elt F) (Rect.unit (s := S1024x2) ![0, 0] S1024x1.size inb_S1024x2_S1024x1_0_0).toLoadRect ix)
    (ixM.view.readAt (Elt F) (Rect.unit (s := S1024x2) ![0, 1] S1024x1.size inb_S1024x2_S1024x1_0_1).toLoadRect ix)) = I c from hI.symm]
  ihave Hsp := (send_zip c) $$ [Hfv Ht0 Ht1]
  · isplitl [Hfv]; · iexact Hfv
    isplitl [Ht0] <;> iassumption
  ihave Hmr := (midRest_zip c) $$ [Ha0 Ha1 Hc1 Htt Hfr Ht2 Ht3]
  · isplitl [Ha0]; · iexact Ha0
    isplitl [Ha1]; · iexact Ha1
    isplitl [Hc1]; · iexact Hc1
    isplitl [Htt]; · iexact Htt
    isplitl [Hfr]; · iexact Hfr
    isplitl [Ht2] <;> iassumption
  ihave Hor := (outRest_zip (F := F) c) $$ [Ha2 Ha3 Hc3]
  · isplitl [Ha2]; · iexact Ha2
    isplitl [Ha3] <;> iassumption
  imod (own_close I Wt K c 0) $$ [Ha00] with Hz00
  · isplitr; · iexact HC
    iexact Ha00
  imod (own_close I Wt K c 1) $$ [Ha10] with Hz10
  · isplitr; · iexact HC
    iexact Ha10
  imod (own_close I Wt K c 2) $$ [Ha20] with Hz20
  · isplitr; · iexact HC
    iexact Ha20
  imod (own_close I Wt K c 3) $$ [Ha30] with Hz30
  · isplitr; · iexact HC
    iexact Ha30
  iapply (wp_wand_r frame _ _ (Q := fun _ => restPost I Wt c))
  isplitl [HO Hx He Hw Hs Hv0 Htt0 Hr0 Ho Hsp Hmr Hor]
  · iapply (rest_step I Wt K c fo)
    unfold restPre xPts wbPts sendPts
    isplitr; · iexact HC
    isplitl [HO]; · iexact HO
    isplitl [Hx]; · iexact Hx
    isplitl [He]; · iexact He
    isplitl [Hw]; · iexists fw; iexact Hw
    isplitl [Hs]; · iexists fs; iexact Hs
    isplitl [Hv0]; · iexact Hv0
    isplitl [Htt0]; · iexact Htt0
    isplitl [Hr0]; · iexact Hr0
    isplitl [Ho]; · iexact Ho
    isplitl [Hsp]; · iexact Hsp
    isplitl [Hmr] <;> iassumption
  iintro %_ H
  unfold restPost progPost scrs
  icases H with ⟨HO, Hx, He, Hw, Hs0, Hv0, Htt0, Hr0, Ho, Hk, Hq⟩
  ihave Hk := (keep_unzip c) $$ Hk
  icases Hk with ⟨Hz0, Hz1, Hs, Hv⟩
  ihave Hq := (outPost_unzip c) $$ Hq
  icases Hq with ⟨Hz2, Hz3, Htt, Hr⟩
  isplitl [HO]; · iexact HO
  isplitl [Hs0 Hs Hv0 Hv Htt0 Htt Hr0 Hr Hw]
  · isplitl [Hs0 Hs]
    · iapply (send_join c); isplitl [Hs0] <;> iassumption
    isplitl [Hv0 Hv]
    · iapply (recv_join c); isplitl [Hv0] <;> iassumption
    isplitl [Htt0 Htt]
    · iapply (ret_join c); isplitl [Htt0] <;> iassumption
    isplitl [Hr0 Hr]
    · iapply (res_join c); isplitl [Hr0] <;> iassumption
    iexact Hw
  unfold xPts rwPts ixPts
  isplitl [Hx]; · iexact Hx
  isplitl [Hrw]; · iexact Hrw
  isplitl [Hix]; · iexact Hix
  isplitl [He]; · iexact He
  isplitl [Ho]; · iexact Ho
  isplitl [Hzb]; · iexact Hzb
  iapply (Entails.of_eq (cells_at (F := F) fun j o => semVal (dCell j o c) 0).symm)
  isplitl [Hz00 Hz0]; · isplitl [Hz00] <;> iassumption
  isplitl [Hz10 Hz1]; · isplitl [Hz10] <;> iassumption
  isplitl [Hz20 Hz2]; · isplitl [Hz20] <;> iassumption
  isplitl [Hz30] <;> iassumption

end Cert.Moe

end
-- ==== Proof.BodyEq.lean ====
/- The printed body is the closed form. -/
module

public import proofs.«01_k».proof.Proof.Shape
public import Idealize.ShloMosaic.Lib.Pipeline.Regions

@[expose] public section

noncomputable section

namespace Cert.Moe

open Idealize.ShloMosaic Idealize.SL.Sem Cert.KernelIdeal Cert.KernelIdeal.Gen

variable {F : FTy → Type} [FloatOps F]

set_option maxRecDepth 65536 in
/-- The printed body, on the buffers the region calls it with, is the closed form: the two are the same
    sequence of operations once the loops and the parts' calls unfold. -/
theorem body_eq :
    cc0_body (F := F) xM (Memref.isWhole_whole _) rwM (Memref.isWhole_whole _) ixM (Memref.isWhole_whole _) ewM (Memref.isWhole_whole _)
      outM (Memref.isWhole_whole _) sendM (Memref.isWhole_whole _) recvM (Memref.isWhole_whole _) retM (Memref.isWhole_whole _)
      resM (Memref.isWhole_whole _) wbM (Memref.isWhole_whole _) cc0_scratch5 cc0_scratch6 cc0_scratch7 cc0_scratch8 = bodyProg (F := F) := by
  chain_rfl

end Cert.Moe

end
-- ==== Proof.Launch.lean ====
/- The launch: what every device starts from, and the run of the whole mesh. -/
module

public import proofs.«01_k».proof.Proof.Body
public import proofs.«01_k».proof.Proof.BodyEq
public import Idealize.ShloMosaic.Lib.Pipeline.CollectiveSegs
public import proofs.«01_k».proof.Proof.Gen.KernelIdeal.Launch
public import proofs.«01_k».proof.Proof.Gen.KernelIdeal.Points

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Dev nD → Ins F) (Wt : Dev nD → WBuf F) (K : Dev nD × CK → ℕ)

variable (m : (ℓ : Loc nD τ sig) → Buf (Elt F) ℓ) (ρ : Dev nD → PrngReg)

/-- The memory at launch: any contents, every counter zero, any generator registers. -/
abbrev start₀ : MemSt nD τ sig (Elt F) := ⟨m, fun _ => 0, ρ⟩

theorem N_one : cfg0.N = 1 := by decide
def pt : Fin cfg0.N := ⟨0, by rw [N_one]; decide⟩
theorem eq_pt (t : Fin cfg0.N) : t = pt := by
  obtain ⟨t, ht⟩ := t; have := N_one; exact Fin.ext (by simp only [pt]; omega)

/-! ## What the devices read -/

def xOf (c : Dev nD) : Vec F S1024x256 .bf16 := (win0_0.blk (0 : Fin 1)).view.read (Elt F) (m (win0_0.arr.view.loc (c : Thread nD τ)))
def rwOf (c : Dev nD) : Vec F S256x128 .bf16 := (win0_1.blk (0 : Fin 1)).view.read (Elt F) (m (win0_1.arr.view.loc (c : Thread nD τ)))
def ixOf (c : Dev nD) : Vec F S1024x2 .i32 := (win0_2.blk (0 : Fin 1)).view.read (Elt F) (m (win0_2.arr.view.loc (c : Thread nD τ)))
def wtOf (c : Dev nD) : WBuf F := (win0_3.blk (0 : Fin 1)).view.read (Elt F) (m (win0_3.arr.view.loc (c : Thread nD τ)))
def inOf (c : Dev nD) : Ins F := insOf (xOf m c) (rwOf m c) (ixOf m c)
/-- The result of device `c`. -/
def resOf (c : Dev nD) : OutBuf F := accTo (inOf m) (wtOf m) c 31

/-- What device `c`'s body starts from, besides its buffers. -/
def begin' (c : Dev nD) : sProp 𝕄 := iprop((∃ K, ctx (inOf m) (wtOf m) K) ∗ dealt c)
def Φ₀ (c : Dev nD) : sProp 𝕄 := iprop(begin' m c ∗ scrs c)
def Φ₁ (c : Dev nD) : sProp 𝕄 :=
  iprop(scrs c ∗ semVal (barCell c) 0 ∗ (bigSep Finset.univ fun j : Fin 4 => bigSep Finset.univ fun o : Fin 32 => semVal (dCell j o c) 0))

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => rwOf m c
    | ⟨2, _⟩ => ixOf m c
    | ⟨3, _⟩ => wtOf m c
    | ⟨4, _⟩ => resOf m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetches_0 (t : Fin cfg0.N) : (cfg0.win (0 : Fin 5)).fetch t = true := by rw [eq_pt t]; rfl
theorem fetches_1 (t : Fin cfg0.N) : (cfg0.win (1 : Fin 5)).fetch t = true := by rw [eq_pt t]; rfl
theorem fetches_2 (t : Fin cfg0.N) : (cfg0.win (2 : Fin 5)).fetch t = true := by rw [eq_pt t]; rfl
theorem fetches_3 (t : Fin cfg0.N) : (cfg0.win (3 : Fin 5)).fetch t = true := by rw [eq_pt t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () pt.castSucc
    ∗ (∃ d, stg c cc0_stg0_0 ((dats m 0 c).before (0 : Fin 5) pt d))
    ∗ (∃ d, stg c cc0_stg1_0 ((dats m 0 c).before (1 : Fin 5) pt d))
    ∗ (∃ d, stg c cc0_stg2_0 ((dats m 0 c).before (2 : Fin 5) pt d))
    ∗ (∃ d, stg c cc0_stg3_0 ((dats m 0 c).before (3 : Fin 5) pt d))
    ∗ (∃ d, stg c cc0_stg4_0 ((dats m 0 c).before (4 : Fin 5) pt d)))
def bodyPost (c : Dev nD) : sProp 𝕄 :=
  iprop(Φ₁ c ∗ (dats m 0 c).owesAt () pt.succ ∗ stg c cc0_stg0_0 (xOf m c) ∗ stg c cc0_stg1_0 (rwOf m c) ∗ stg c cc0_stg2_0 (ixOf m c)
    ∗ stg c cc0_stg3_0 (wtOf m c) ∗ stg c cc0_stg4_0 (resOf m c))

theorem sound_body (c : Dev nD) : bodyPre m c ⊢ WP c bodyProg fun _ => bodyPost m c := by
  unfold bodyPre Φ₀ begin'
  iintro ⟨⟨⟨⟨%K, #HC⟩, Hd⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = xOf m c := by rw [hg0]; unfold Dat.before; rw [if_pos (fetches_0 pt)]; rfl
  have h1 : g1 = rwOf m c := by rw [hg1]; unfold Dat.before; rw [if_pos (fetches_1 pt)]; rfl
  have h2 : g2 = ixOf m c := by rw [hg2]; unfold Dat.before; rw [if_pos (fetches_2 pt)]; rfl
  have h3 : g3 = wtOf m c := by rw [hg3]; unfold Dat.before; rw [if_pos (fetches_3 pt)]; rfl
  subst h0 h1 h2 h3
  unfold Dat.owesAt Pipeline.owesWithin
  icases Ho with ⟨%W, %hW, HO⟩
  iapply (wp_wand_r frame _ _ (Q := fun _ => progPost (inOf m) (wtOf m) c (ixOf m c)))
  isplitl [Hd Hscr HO H0 H1 H2 H3 H4]
  · iapply (prog_step (inOf m) (wtOf m) K c (ixOf m c) rfl g4)
    unfold progPre Ow xPts rwPts ixPts ewPts outPts
    isplitr; · iexact HC
    isplitl [Hd]; · iexact Hd
    isplitl [HO]; · iexists W; iexact HO
    isplitl [Hscr]; · iexact Hscr
    isplitl [H0]; · iexact H0
    isplitl [H1]; · iexact H1
    isplitl [H2]; · iexact H2
    isplitl [H3]; · iexact H3
    iexact H4
  iintro %_ H
  unfold progPost bodyPost Φ₁ Ow xPts rwPts ixPts ewPts outPts Dat.owesAt Pipeline.owesWithin
  icases H with ⟨⟨%W', HO⟩, Hscr, H0, H1, H2, H3, H4, Hzb, Hz⟩
  isplitl [Hscr Hzb Hz]
  · isplitl [Hscr]; · iexact Hscr
    isplitl [Hzb] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem called : bodyAt0 (F := F) pt = cc0_body (F := F) xM (Memref.isWhole_whole _) rwM (Memref.isWhole_whole _) ixM (Memref.isWhole_whole _)
    ewM (Memref.isWhole_whole _) outM (Memref.isWhole_whole _) sendM (Memref.isWhole_whole _) recvM (Memref.isWhole_whole _)
    retM (Memref.isWhole_whole _) resM (Memref.isWhole_whole _) wbM (Memref.isWhole_whole _) cc0_scratch5 cc0_scratch6 cc0_scratch7 cc0_scratch8 := rfl

set_option maxRecDepth 65536 in
/-- What the region asks of the body on core `c`. -/
theorem body_obligation (c : Dev nD) : BodyObligation (dats (F := F) m 0 c) (defs₀ (F := F)) 𝒱₀ () Set.univ := fun t => by
  rw [eq_pt t]
  rw [bigSep_W0, bigSep_W0]
  simp only [owns_whole]
  show bodyPre m c ⊢ wp frame (wpE (defs₀ (F := F)) 𝒱₀ c none) Set.univ (bodyAt0 (F := F) pt) (fun _ => bodyPost m c)
  rw [called, body_eq]
  exact sound_body m c

/-! ## Cells, tokens and their dealing -/

/-- The kernel's own semaphores. -/
def osem (jo : Fin 4 × Fin 32) : SemLoc sig := .dma (dsem jo.1 jo.2)

theorem ownSemFacts : Pipeline.OwnSemFacts cfg0.spec osem where
  isScoped := by decide
  inj := fun a b h => by
    have := dsem_inj (SemLoc.dma.inj h)
    exact Prod.ext this.1 this.2
  disj := fun k w s h => by
    have h1 : dsem k.1 k.2 = (cfg0.spec w).sem s := SemLoc.dma.inj h
    have h2 : ((cfg0.spec w).sem s).val < 5 := by clear h h1; revert w s; decide
    have := dsem_ge k.1 k.2
    rw [h1] at this; omega

theorem share_eq (c : Dev nD) (w : Fin cfg0.W) : (dats m 0 c).share w = fullShare := by unfold Dat.share; split <;> rfl

theorem csem_inj : Function.Injective csem := by
  rintro (_ | ⟨j, o⟩) (_ | ⟨j', o'⟩) h
  · rfl
  · cases h
  · cases h
  · have := dsem_inj (SemLoc.dma.inj h)
    rw [this.1, this.2]
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  exact Prod.ext rfl (csem_inj (congrArg Prod.snd h))
def allCells : Finset (GSem nD τ sig) := Finset.univ.map ⟨kcell, kcell_injective⟩

/-- The duties minted on a device's own cells: a barrier duty for every offset, one duty for every copies' cell. -/
def tokOf (ck : Dev nD × (Fin 32 ⊕ Fin 4 × Fin 32)) : GSem nD τ sig × ℕ × Fin 32 := match ck.2 with
  | .inl e => (barCell ck.1, 0, e)
  | .inr jo => (dCell jo.1 jo.2 ck.1, 0, 0)
theorem tokOf_injective : Function.Injective tokOf := by
  rintro ⟨c, k⟩ ⟨c', k'⟩ h
  have h1 : c = c' := by
    have := congrArg (fun x : GSem nD τ sig × ℕ × Fin 32 => x.1.1.1) h
    rcases k with e | ⟨j, o⟩ <;> rcases k' with e' | ⟨j', o'⟩ <;> exact this
  subst h1
  rcases k with e | ⟨j, o⟩ <;> rcases k' with e' | ⟨j', o'⟩
  · have := congrArg (fun x : GSem nD τ sig × ℕ × Fin 32 => x.2.2) h
    exact congrArg (fun e => (c, Sum.inl e)) this
  · have := congrArg (fun x : GSem nD τ sig × ℕ × Fin 32 => x.1.2) h; cases this
  · have := congrArg (fun x : GSem nD τ sig × ℕ × Fin 32 => x.1.2) h; cases this
  · have h2 : SemLoc.dma (dsem j o) = .dma (dsem j' o') := congrArg (fun x : GSem nD τ sig × ℕ × Fin 32 => x.1.2) h
    have := dsem_inj (SemLoc.dma.inj h2)
    rw [this.1, this.2]
def allToks : Finset (GSem nD τ sig × ℕ × Fin 32) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun e : Fin 32 => dutyTok ER (barCell c) 0 e)
    ∗ (bigSep Finset.univ fun j : Fin 4 => bigSep Finset.univ fun o : Fin 32 => dutyTok ER (dCell j o c) 0 0))

/-- What the launch deals device `c`, and what the devices make of it together. -/
def G (c : Dev nD) : sProp 𝕄 :=
  iprop((bigSep Finset.univ fun k : CK => roundState ER (sched (inOf m) (wtOf m)) (kcell (c, k)) 0)
    ∗ (bigSep Finset.univ fun k : CK => iprop(atPos ER (kcell (c, k)) 0 ∅ 0 ∗ reached ER (kcell (c, k)) 0)) ∗ toks c)
def payToks (c : Dev nD) : sProp 𝕄 :=
  iprop((bigSep (rng 1 32) fun o => dutyTok ER (barCell (plus c o)) 0 (-o))
    ∗ (bigSep (rng 1 32) fun o => dutyTok ER (dCell 0 o c) 0 0)
    ∗ (bigSep (rng 1 32) fun o => dutyTok ER (dCell 1 o (plus c o)) 0 0)
    ∗ (bigSep (rng 1 32) fun o => dutyTok ER (dCell 2 o c) 0 0)
    ∗ (bigSep (rng 1 32) fun o => dutyTok ER (dCell 3 o (minus c o)) 0 0))
def linear (c : Dev nD) : sProp 𝕄 := iprop((bigSep Finset.univ fun k : CK => atPos ER (kcell (c, k)) 0 ∅ 0) ∗ payToks c)
def G' (c : Dev nD) : sProp 𝕄 := iprop(∃ K, records (inOf m) (wtOf m) K ∗ linear c)

/-- A family over a device's cells: the barrier cell's member and the copies' cells'. -/
theorem over_cells (Φ : CK → sProp 𝕄) : bigSep Finset.univ Φ
    = iprop(Φ none ∗ bigSep Finset.univ fun j : Fin 4 => bigSep Finset.univ fun o : Fin 32 => Φ (some (j, o))) := by
  rw [← bigSep_univ_prod (fun jo : Fin 4 × Fin 32 => Φ (some jo)), bigSep_univ_at Φ none]
  have : (Finset.univ.erase none : Finset CK) = (Finset.univ : Finset (Fin 4 × Fin 32)).map Function.Embedding.some := by
    ext k; rcases k with _ | k <;> simp
  rw [this, bigSep_map]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_sum, ← bigSep_univ_prod (fun jo : Fin 4 × Fin 32 => dutyTok ER (dCell jo.1 jo.2 c) 0 0)]; rfl
  iintro HX
  imod (Rounds.fund ER (sched (inOf m) (wtOf m)) allCells allToks) $$ HX with ⟨Hst, Hr, Hat, Htok⟩
  imodintro
  ihave Hst' := (Entails.of_eq (hX fun g => roundState ER (sched (inOf m) (wtOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = bigSep Finset.univ fun j : Fin 4 => bigSep Finset.univ fun o : Fin 32 => semVal (dCell j o c) 0 := by
  unfold Pipeline.ownSems0; rw [bigSep_univ_prod]; rfl
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [own_eq, unscoped_eq, over_cells]
  iintro ⟨H1, H2⟩
  isplitl [H2]
  · iexact H2
  · iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (inOf m) (wtOf m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : CK => semVal (kcell (c, k)) 0) ∗ bigSep Finset.univ fun k : CK => roundState ER (sched (inOf m) (wtOf m)) (kcell (c, k)) 0)
      ⊢ (|={Set.univ}=> bigSep Finset.univ fun k => iprop(∃ κ : ℕ, cellInv ER (sched (inOf m) (wtOf m)) κ (kcell (c, k))) : sProp 𝕄) from by
        rw [← bigSep_sep']
        exact (bigSep_mono fun k _ => (Rounds.body_intro ER (sched (inOf m) (wtOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Tokens to the devices that pay with them -/

/-- The device and duty paid, from the payer and its offset. -/
def payBar : Dev nD × Fin 32 ≃ Dev nD × Fin 32 :=
  ⟨fun p => (plus p.1 p.2, -p.2), fun p => (plus p.1 p.2, -p.2),
    fun p => by show (plus (plus p.1 p.2) (-p.2), - -p.2) = p; rw [plus_neg, plus_minus, neg_neg32],
    fun p => by show (plus (plus p.1 p.2) (-p.2), - -p.2) = p; rw [plus_neg, plus_minus, neg_neg32]⟩
def payOn : Dev nD × Fin 32 ≃ Dev nD × Fin 32 :=
  ⟨fun p => (plus p.1 p.2, p.2), fun p => (minus p.1 p.2, p.2),
    fun p => by show (minus (plus p.1 p.2) p.2, p.2) = p; rw [plus_minus],
    fun p => by show (plus (minus p.1 p.2) p.2, p.2) = p; rw [minus_plus]⟩

theorem around_by (e : Dev nD × Fin 32 ≃ Dev nD × Fin 32) (Φ : Dev nD × Fin 32 → sProp 𝕄) :
    (bigSep Finset.univ fun c : Dev nD => bigSep Finset.univ fun o : Fin 32 => Φ (c, o))
      ⊢ bigSep Finset.univ fun c : Dev nD => bigSep (rng 1 32) fun o => Φ (e (c, o)) := by
  rw [← bigSep_univ_prod Φ, bigSep_univ_equiv e, bigSep_univ_prod (fun p => Φ (e p))]
  refine bigSep_mono fun c _ => ?_
  rw [at_zero (fun o => Φ (e (c, o)))]
  exact sep_elim_right (PROP := sProp 𝕄)

theorem toks_around : (bigSep Finset.univ fun c : Dev nD => (toks c : sProp 𝕄)) ⊢ bigSep Finset.univ fun c : Dev nD => payToks c := by
  unfold toks payToks
  simp only [four, bigSep_sep']
  iintro ⟨Hb, H0, H1, H2, H3⟩
  isplitl [Hb]
  · iapply (around_by payBar fun p => dutyTok ER (barCell p.1) 0 p.2); iexact Hb
  isplitl [H0]
  · iapply (around_by (Equiv.refl _) fun p => dutyTok ER (dCell 0 p.2 p.1) 0 0); iexact H0
  isplitl [H1]
  · iapply (around_by payOn fun p => dutyTok ER (dCell 1 p.2 p.1) 0 0); iexact H1
  isplitl [H2]
  · iapply (around_by (Equiv.refl _) fun p => dutyTok ER (dCell 2 p.2 p.1) 0 0); iexact H2
  iapply (around_by payOn.symm fun p => dutyTok ER (dCell 3 p.2 p.1) 0 0); iexact H3

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched (inOf m) (wtOf m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched (inOf m) (wtOf m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched (inOf m) (wtOf m)) κ (kcell ck) : sProp 𝕄))) $$ HI
  icases HK with ⟨%K, #HI⟩
  ihave Htk := (toks_around (F := F)) $$ Htok
  iapply (with_persistent (R := records (inOf m) (wtOf m) K) (Φ := fun c : Dev nD => (linear c : sProp 𝕄)) (fun c _ => by
    unfold G'
    iintro ⟨#HR, Hl⟩
    iexists K
    isplitr; · iexact HR
    iexact Hl))
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit every device starts with -/

theorem units (c : Dev nD) (s : Finset (Fin 32)) :
    (bigSep s fun _ => (cred (tallyAt (barCell c) () 1) : sProp 𝕄)) = cred (tallyAt (barCell c) () s.card) := by
  rw [← Pipeline.cred_finsetSum]
  congr 1
  induction s using Finset.induction_on with
  | empty => rw [Finset.sum_empty, Finset.card_empty, tallyAt_zero]
  | insert a s ha ih => rw [Finset.sum_insert ha, ih, tallyAt_add, Finset.card_insert_of_notMem ha, Nat.add_comm]

theorem creds (c : Dev nD) : (Pipeline.launchCred O₀ c : sProp 𝕄)
    ⊢ iprop(cred (tallyAt (barCell c) () 31) ∗ (bigSep (rng 1 32) fun o => cred (tallyAt (dCell 1 o c) () NS))
        ∗ (bigSep (rng 1 32) fun o => cred (tallyAt (dCell 3 o c) () NR))) := by
  have hB : (Pipeline.launchCred (fun d => OB d 1) c : sProp 𝕄) ⊢ cred (tallyAt (barCell c) () 31) := by
    unfold OB
    rw [Pipeline.launchCred_sum (rng 1 32) (fun o d => tB d o) c]
    refine (bigSep_mono fun o _ => Pipeline.launchCred_tallyAt (.reg barS) (fun d => plus d o) (fun d => minus d o)
      (fun d => minus_plus d o) (fun d => plus_minus d o) () 1 c).trans ?_
    exact Entails.of_eq ((units c (rng 1 32)).trans (by rw [show (rng 1 32).card = 31 by decide]))
  have h1 : (Pipeline.launchCred (fun d => O1 d 1) c : sProp 𝕄) ⊢ bigSep (rng 1 32) fun o => cred (tallyAt (dCell 1 o c) () NS) := by
    unfold O1
    rw [Pipeline.launchCred_sum (rng 1 32) (fun o d => t1 d o) c]
    exact bigSep_mono fun o _ => Pipeline.launchCred_tallyAt (.dma (dsem 1 o)) (fun d => plus d o) (fun d => minus d o)
      (fun d => minus_plus d o) (fun d => plus_minus d o) () NS c
  have h2 : (Pipeline.launchCred (fun d => O2 d 1) c : sProp 𝕄) ⊢ bigSep (rng 1 32) fun o => cred (tallyAt (dCell 3 o c) () NR) := by
    unfold O2
    rw [Pipeline.launchCred_sum (rng 1 32) (fun o d => t2 d o) c]
    exact bigSep_mono fun o _ => Pipeline.launchCred_tallyAt (.dma (dsem 3 o)) (fun d => minus d o) (fun d => plus d o)
      (fun d => plus_minus d o) (fun d => minus_plus d o) () NR c
  have e : (O₀ : Dev nD → CellTallies nD τ sig Unit) = fun d => (O2 d 1 + O1 d 1) + OB d 1 := rfl
  rw [e, Pipeline.launchCred_add (fun d => O2 d 1 + O1 d 1) (fun d => OB d 1), Pipeline.launchCred_add (fun d => O2 d 1) (fun d => O1 d 1)]
  iintro ⟨⟨H2, H1⟩, HB⟩
  isplitl [HB]; · iapply hB; iexact HB
  isplitl [H1]; · iapply h1; iexact H1
  iapply h2; iexact H2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin' m c ∗ emp) := by
  unfold G' linear
  iintro ⟨-, #Hlev, Hcr, -, %K, #HR, Hat, Htk⟩
  ihave Hc := (creds (F := F) c) $$ Hcr
  icases Hc with ⟨Hcb, Hc1, Hc3⟩
  ihave Hat := (Entails.of_eq (over_cells (F := F) fun k => atPos ER (kcell (c, k)) 0 ∅ 0)) $$ Hat
  icases Hat with ⟨Hab, Hat⟩
  imodintro
  unfold begin' ctx dealt payToks
  icases Htk with ⟨Htb, Ht0, Ht1, Ht2, Ht3⟩
  isplitl
  · isplitr
    · iexists K
      isplitr; · iexact HR
      iexact Hlev
    isplitl [Hcb]; · iexact Hcb
    isplitl [Hab]; · iexact Hab
    isplitl [Hat]; · iexact Hat
    isplitl [Htb]; · iexact Htb
    isplitl [Ht0]; · iexact Ht0
    isplitl [Ht1]; · iexact Ht1
    isplitl [Ht2]; · iexact Ht2
    isplitl [Ht3]; · iexact Ht3
    isplitl [Hc1] <;> iassumption
  · iempintro

theorem enter (c : Dev nD) :
    iprop(begin' m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, own_eq, unscoped_eq]
  unfold Φ₁ scrs
  iintro ⟨Hr, HzB, Hz⟩
  isplitl [HzB]; · iexact HzB
  isplitl [Hz]; · iexact Hz
  iexact Hr

theorem stage_level (c : Dev nD) (w : Fin cfg0.W) (s : Fin (cfg0.spec w).nbuf) : lv ((c : Thread nD τ), .dma ((cfg0.win w).sem s)) () ≤ 0 := by
  show (if ((cfg0.win w).sem s).val < 5 then 0 else _) ≤ 0
  rw [if_pos (by revert w s; decide)]

theorem waits (c : Dev nD) : (levAts L lv : sProp 𝕄) ⊢ Pipeline.cellsWaits cfgs (dats m) () 0 c :=
  Pipeline.cellsWaits_intro cfgs (dats m) () 0 c fun w s t =>
    mayWait_of c _ 0 (stage_level c w s) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
/-- From any memory with zero counters, at any float values, every fair execution on the thirty-two devices ends; each
    array then holds its computed contents and every counter is zero. -/
theorem run_main : θ_run defs (onTc (τ := τ) (main (F := F))) (start₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begin' m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An array of arguments holds after the run what it held. -/
theorem final_in (c : Dev nD) (w : Fin cfg0.W) (h : (cfg0.win w).isOut = false) :
    finalA m c w = m ((cfg0.win w).arr.view.loc (c : Thread nD τ)) :=
  (dats (F := F) m 0 c).arrAt_in w h _

end Cert.Moe

end
-- ==== Proof.Ref.lean ====
/- The reference's run: every buffer ends at the fold of the reference's operations. -/
module

public import proofs.«01_k».proof.ReferenceIdeal
public import proofs.«01_k».proof.Proof.Gen.ReferenceIdeal
public import Idealize.ShloMosaic.Lib.StableHlo.Run
public import Idealize.ShloMosaic.Lib.StableHlo.RunRead
public import Idealize.ShloMosaic.PureOps.Ideal

@[expose] public section

noncomputable section

namespace Cert.Moe.Ref

open Cert.ReferenceIdeal Cert.ReferenceIdeal.Gen
open Idealize.ShloMosaic Idealize.ShloMosaic.TcCoe Idealize.SL Idealize.SL.Sem Idealize.ShloMosaic.StableHlo

variable {F : FTy → Type} [FloatOps F]

/-- The reference's operations, in order. -/
abbrev ops₀ : List (HloOp τ sig (Elt F)) :=
  [ unary main_arg0 main_v0 (extf .f32 · bitsLt_bf16_f32),
    unary main_arg1 main_v1 (extf .f32 · bitsLt_bf16_f32),
    binary main_v0 main_v1 main_v2 (fun l r => Host.dotGeneral dot_S32768x256_S256x128_S32768x128_1_0_0_1_n_n none l r),
    nullary main_cst (constant S_ .f32 0xFF800000#32),
    binary main_v2 main_cst main_v3 (fun x v => Host.reduce FloatOps.maximumf x v reducesTo_S32768x128_S32768_d1 h_S_),
    unary main_v3 main_v4 (broadcastInDim S32768x1 ![0] bcast_S32768_S32768x1_0),
    unary main_v4 main_v5 (broadcastInDim S32768x128 ![0, 1] bcast_S32768x1_S32768x128_0_1),
    binary main_v2 main_v5 main_v6 (subf),
    unary main_v6 main_v7 (Host.exp),
    nullary main_cst_0 (constant S_ .f32 0x00000000#32),
    binary main_v7 main_cst_0 main_v8 (fun x v => Host.reduceAdd x v reducesTo_S32768x128_S32768_d1 h_S_),
    unary main_v8 main_v9 (broadcastInDim S32768x1 ![0] bcast_S32768_S32768x1_0),
    unary main_v9 main_v10 (broadcastInDim S32768x128 ![0, 1] bcast_S32768x1_S32768x128_0_1),
    binary main_v7 main_v10 main_v11 (Host.divf),
    unary main_arg2 main_v12 (extractStridedSlice S32768x1 ![0, 0] · slices_S32768x2_S32768x1_0_0),
    reshape main_v12 main_v13 (rfl : (.i32 : EltTy) = .i32) shapeCasts_S32768x1_S32768,
    unary main_arg2 main_v14 (extractStridedSlice S32768x1 ![0, 1] · slices_S32768x2_S32768x1_0_1),
    reshape main_v14 main_v15 (rfl : (.i32 : EltTy) = .i32) shapeCasts_S32768x1_S32768,
    nullary main_v16 (iotaInDim S32768 32 0),
    nullary main_c (constantI S_ 32 0#32),
    unary main_c main_v17 (broadcastInDim S32768 ![] bcast_S_S32768),
    binary main_v16 main_v17 main_v18 (cmpi .slt),
    nullary main_c_1 (constantI S_ 32 32768#32),
    unary main_c_1 main_v19 (broadcastInDim S32768 ![] bcast_S_S32768),
    binary main_v16 main_v19 main_v20 (addi),
    ternary main_v18 main_v20 main_v16 main_v21 (select),
    nullary main_c_2 (constantI S_ 32 0#32),
    unary main_c_2 main_v22 (broadcastInDim S32768 ![] bcast_S_S32768),
    binary main_v13 main_v22 main_v23 (cmpi .slt),
    nullary main_c_3 (constantI S_ 32 128#32),
    unary main_c_3 main_v24 (broadcastInDim S32768 ![] bcast_S_S32768),
    binary main_v13 main_v24 main_v25 (addi),
    ternary main_v23 main_v25 main_v13 main_v26 (select),
    unary main_v21 main_v27 (broadcastInDim S32768x1 ![0] bcast_S32768_S32768x1_0),
    unary main_v26 main_v28 (broadcastInDim S32768x1 ![0] bcast_S32768_S32768x1_0),
    binary main_v27 main_v28 main_v29 (fun a b => concatenate S32768x2 1 [⟨S32768x1, a⟩, ⟨S32768x1, b⟩] concatenates_S32768x1_S32768x1_S32768x2_d1),
    binary main_v11 main_v29 main_v30 (fun x i => Host.gather gather_S32768x128_S32768x2_S32768_n_01_n_n_01_1_11 x i),
    nullary main_c_4 (constantI S_ 32 0#32),
    unary main_c_4 main_v31 (broadcastInDim S32768 ![] bcast_S_S32768),
    binary main_v16 main_v31 main_v32 (cmpi .slt),
    nullary main_c_5 (constantI S_ 32 32768#32),
    unary main_c_5 main_v33 (broadcastInDim S32768 ![] bcast_S_S32768),
    binary main_v16 main_v33 main_v34 (addi),
    ternary main_v32 main_v34 main_v16 main_v35 (select),
    nullary main_c_6 (constantI S_ 32 0#32),
    unary main_c_6 main_v36 (broadcastInDim S32768 ![] bcast_S_S32768),
    binary main_v15 main_v36 main_v37 (cmpi .slt),
    nullary main_c_7 (constantI S_ 32 128#32),
    unary main_c_7 main_v38 (broadcastInDim S32768 ![] bcast_S_S32768),
    binary main_v15 main_v38 main_v39 (addi),
    ternary main_v37 main_v39 main_v15 main_v40 (select),
    unary main_v35 main_v41 (broadcastInDim S32768x1 ![0] bcast_S32768_S32768x1_0),
    unary main_v40 main_v42 (broadcastInDim S32768x1 ![0] bcast_S32768_S32768x1_0),
    binary main_v41 main_v42 main_v43 (fun a b => concatenate S32768x2 1 [⟨S32768x1, a⟩, ⟨S32768x1, b⟩] concatenates_S32768x1_S32768x1_S32768x2_d1),
    binary main_v11 main_v43 main_v44 (fun x i => Host.gather gather_S32768x128_S32768x2_S32768_n_01_n_n_01_1_11 x i),
    binary main_v30 main_v44 main_v45 (addf),
    unary main_arg3 main_v46 (extf .f32 · bitsLt_bf16_f32),
    nullary main_c_8 (constantI S_ 32 0#32),
    unary main_c_8 main_v47 (broadcastInDim S32768 ![] bcast_S_S32768),
    binary main_v13 main_v47 main_v48 (cmpi .slt) ]
abbrev ops₁ : List (HloOp τ sig (Elt F)) :=
  [ nullary main_c_9 (constantI S_ 32 128#32),
    unary main_c_9 main_v49 (broadcastInDim S32768 ![] bcast_S_S32768),
    binary main_v13 main_v49 main_v50 (addi),
    ternary main_v48 main_v50 main_v13 main_v51 (select),
    unary main_v51 main_v52 (broadcastInDim S32768x1 ![0] bcast_S32768_S32768x1_0),
    binary main_v46 main_v52 main_v53 (fun x i => Host.gather gather_S128x256x512_S32768x1_S32768x256x512_12_0_n_n_0_1_1256512 x i),
    binary main_v0 main_v53 main_v54 (fun l r => Host.dotGeneral dot_S32768x256_S32768x256x512_S32768x512_1_1_n_2_0_0 none l r),
    nullary main_c_10 (constantI S_ 32 0#32),
    unary main_c_10 main_v55 (broadcastInDim S32768 ![] bcast_S_S32768),
    binary main_v15 main_v55 main_v56 (cmpi .slt),
    nullary main_c_11 (constantI S_ 32 128#32),
    unary main_c_11 main_v57 (broadcastInDim S32768 ![] bcast_S_S32768),
    binary main_v15 main_v57 main_v58 (addi),
    ternary main_v56 main_v58 main_v15 main_v59 (select),
    unary main_v59 main_v60 (broadcastInDim S32768x1 ![0] bcast_S32768_S32768x1_0),
    binary main_v46 main_v60 main_v61 (fun x i => Host.gather gather_S128x256x512_S32768x1_S32768x256x512_12_0_n_n_0_1_1256512 x i),
    binary main_v0 main_v61 main_v62 (fun l r => Host.dotGeneral dot_S32768x256_S32768x256x512_S32768x512_1_1_n_2_0_0 none l r),
    binary main_v30 main_v45 main_v63 (Host.divf),
    unary main_v63 main_v64 (broadcastInDim S32768x1 ![0] bcast_S32768_S32768x1_0),
    unary main_v64 main_v65 (broadcastInDim S32768x512 ![0, 1] bcast_S32768x1_S32768x512_0_1),
    binary main_v65 main_v54 main_v66 (mulf),
    binary main_v44 main_v45 main_v67 (Host.divf),
    unary main_v67 main_v68 (broadcastInDim S32768x1 ![0] bcast_S32768_S32768x1_0),
    unary main_v68 main_v69 (broadcastInDim S32768x512 ![0, 1] bcast_S32768x1_S32768x512_0_1),
    binary main_v69 main_v62 main_v70 (mulf),
    binary main_v66 main_v70 main_v71 (addf) ]
abbrev ops : List (HloOp τ sig (Elt F)) := ops₀ ++ ops₁

set_option maxRecDepth 4096 in
theorem part0_eq (c : Dev nD) : main_part0 (F := F) c = seq ops₀ := by
  simp only [main_part0, seq, bind_assoc, pure_bind]
  rfl
set_option maxRecDepth 4096 in
theorem part1_eq (c : Dev nD) : main_part1 (F := F) c = seq ops₁ := by
  simp only [main_part1, seq, bind_assoc, pure_bind]
  rfl
theorem main_eq (c : Dev nD) : main (F := F) c = seq ops := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops₀_sub : (ops₀ : List (HloOp τ sig (Elt F))).Forall fun op => op.bufs ⊆ tcRefs τ sig :=
  ⟨unary_bufs_sub .., unary_bufs_sub .., binary_bufs_sub .., nullary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., reshape_bufs_sub .., unary_bufs_sub .., reshape_bufs_sub ..,
    nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    binary_bufs_sub .., binary_bufs_sub .., unary_bufs_sub .., nullary_bufs_sub .., unary_bufs_sub .., binary_bufs_sub ..⟩
theorem ops₁_sub : (ops₁ : List (HloOp τ sig (Elt F))).Forall fun op => op.bufs ⊆ tcRefs τ sig :=
  ⟨nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., binary_bufs_sub ..⟩
theorem ops_sub : (ops : List (HloOp τ sig (Elt F))).Forall fun op => op.bufs ⊆ tcRefs τ sig :=
  List.forall_append.mpr ⟨ops₀_sub, ops₁_sub⟩

/-- From any memory with zero counters the reference runs, and every buffer ends at the operations' fold. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) : after ops V (main_arg0 : DevRef τ sig) = V (main_arg0 : DevRef τ sig) := by
  after_reads_simp
theorem arg1_eq (V : Valuation τ sig (Elt F)) : after ops V (main_arg1 : DevRef τ sig) = V (main_arg1 : DevRef τ sig) := by
  after_reads_simp
theorem arg2_eq (V : Valuation τ sig (Elt F)) : after ops V (main_arg2 : DevRef τ sig) = V (main_arg2 : DevRef τ sig) := by
  after_reads_simp
theorem arg3_eq (V : Valuation τ sig (Elt F)) : after ops V (main_arg3 : DevRef τ sig) = V (main_arg3 : DevRef τ sig) := by
  after_reads_simp

end Cert.Moe.Ref

end
-- ==== Proof.Frames.lean ====
/- The three frames: both printings of the kernel and the reference run, keep their arguments and end with every counter
   at zero. -/
module

public import proofs.«01_k».proof.Defs
public import proofs.«01_k».proof.Proof.Launch
public import proofs.«01_k».proof.Proof.Ref
public import proofs.«01_k».proof.Proof.Gen.Kernel
public import Idealize.ShloMosaic.Lib.Quiescent

@[expose] public section

noncomputable section

namespace Cert.Moe

open Idealize.ShloMosaic Idealize.ShloMosaic.TcCoe Idealize.SL.Sem

/-- The kernel's run: the result of every device is `resOf`, its arguments keep their contents, every counter is zero. -/
theorem kernel_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_v1) = finalA m c (4 : Fin 5)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h =>
    ⟨fun c => ⟨h.1 c 4, (h.1 c 0).trans (final_in m c 0 rfl), (h.1 c 1).trans (final_in m c 1 rfl),
      (h.1 c 2).trans (final_in m c 2 rfl), (h.1 c 3).trans (final_in m c 3 rfl)⟩, h.2⟩) (run_main m g)

/-- The same with the result left out. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (kernel_run m g)

/-- The two printings' body tables are one. -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  obtain ⟨l, hl⟩ := l
  cases l with
  | zero => rfl
  | succ n => exact absurd hl (Nat.not_lt.2 (Nat.le_add_left _ _))
theorem defs_same {F : FTy → Type} [FloatOps F] : Cert.Kernel.defs (F := F) = Cert.KernelIdeal.defs (F := F) :=
  congrArg (Pipeline.defs Cert.KernelIdeal.pcfgs) defs₀_same

theorem frame_kernel : Cert.quiescent_Kernel := fun m g _ => by
  rw [defs_same]
  exact kernel_frame (F := Bits) m g

theorem frame_kernelIdeal : Cert.quiescent_KernelIdeal := fun m g _ => kernel_frame (F := Ideal) m g

theorem frame_referenceIdeal : Cert.quiescent_ReferenceIdeal := fun m g _ =>
  (θ_run Cert.ReferenceIdeal.defs _ _).mono (fun _ h =>
    ⟨fun c => ⟨(h c _).trans (Ref.arg0_eq _), (h c _).trans (Ref.arg1_eq _), (h c _).trans (Ref.arg2_eq _), (h c _).trans (Ref.arg3_eq _)⟩,
      sem_eq_zero_of_no_sems rfl _⟩) (Ref.run_main (F := Ideal) m g)

end Cert.Moe

end
-- ==== Proof.Pack.lean ====
/- Packing the tokens of one device into slots: the arithmetic of ranks and positions, and of sums that
   a one-hot picks from. Nothing here mentions the kernel. -/
module

public import Mathlib.Data.EReal.Operations
public import Mathlib.Data.Fintype.BigOperators
public import Mathlib.Algebra.BigOperators.Fin
public import Mathlib.Data.Real.Basic

@[expose] public section

noncomputable section

namespace Cert.Moe

/-! ## Ranks -/

/-- The tokens whose choice `o` goes to owner `a`. -/
def goes (o : Fin 1024 → Fin 32) (a : Fin 32) : Finset (Fin 1024) := Finset.univ.filter fun c => o c = a
/-- Those of them that come before token `t`. -/
def before (o : Fin 1024 → Fin 32) (a : Fin 32) (t : Fin 1024) : Finset (Fin 1024) :=
  Finset.univ.filter fun c => o c = a ∧ c < t

/-- The rank of token `t`'s first choice among the first choices of its owner. -/
def rank0 (o0 : Fin 1024 → Fin 32) (t : Fin 1024) : ℕ := (before o0 (o0 t) t).card
/-- The rank of token `t`'s second choice: after all first choices of its owner. -/
def rank1 (o0 o1 : Fin 1024 → Fin 32) (t : Fin 1024) : ℕ := (goes o0 (o1 t)).card + (before o1 (o1 t) t).card

/-- No owner is given more than a slot holds. -/
def Fits (o0 o1 : Fin 1024 → Fin 32) : Prop := ∀ a, (goes o0 a).card + (goes o1 a).card ≤ 112

theorem before_lt (o : Fin 1024 → Fin 32) (t : Fin 1024) : (before o (o t) t).card < (goes o (o t)).card := by
  refine Finset.card_lt_card ((Finset.ssubset_iff_of_subset fun c hc => ?_).2 ⟨t, ?_, ?_⟩)
  · exact Finset.mem_filter.2 ⟨Finset.mem_univ _, (Finset.mem_filter.1 hc).2.1⟩
  · exact Finset.mem_filter.2 ⟨Finset.mem_univ _, rfl⟩
  · exact fun h => lt_irrefl _ (Finset.mem_filter.1 h).2.2

theorem before_mono (o : Fin 1024 → Fin 32) {t t' : Fin 1024} (h : o t = o t') (hl : t < t') :
    (before o (o t) t).card < (before o (o t') t').card := by
  refine Finset.card_lt_card ((Finset.ssubset_iff_of_subset fun c hc => ?_).2 ⟨t, ?_, ?_⟩)
  · have := (Finset.mem_filter.1 hc).2
    exact Finset.mem_filter.2 ⟨Finset.mem_univ _, this.1.trans h, this.2.trans hl⟩
  · exact Finset.mem_filter.2 ⟨Finset.mem_univ _, h, hl⟩
  · exact fun h => lt_irrefl _ (Finset.mem_filter.1 h).2.2

theorem before_inj (o : Fin 1024 → Fin 32) {t t' : Fin 1024} (h : o t = o t')
    (he : (before o (o t) t).card = (before o (o t') t').card) : t = t' := by
  rcases lt_trichotomy t t' with hl | hl | hl
  · exact absurd he (before_mono o h hl).ne
  · exact hl
  · exact absurd he (before_mono o h.symm hl).ne'

theorem rank0_lt {o0 o1 : Fin 1024 → Fin 32} (h : Fits o0 o1) (t : Fin 1024) : rank0 o0 t < 112 := by
  have := before_lt o0 t; have := h (o0 t); unfold rank0; omega
theorem rank1_lt {o0 o1 : Fin 1024 → Fin 32} (h : Fits o0 o1) (t : Fin 1024) : rank1 o0 o1 t < 112 := by
  have := before_lt o1 t; have := h (o1 t); unfold rank1; omega

/-! ## Positions -/

/-- Row `q` of slot `o`, among all slots' rows. -/
def at_ (o : Fin 32) (q : Fin 112) : Fin 3584 := ⟨112 * o.val + q.val, by omega⟩

theorem at_inj {o o' : Fin 32} {q q' : Fin 112} (h : at_ o q = at_ o' q') : o = o' ∧ q = q' := by
  have h := congrArg Fin.val h
  change 112 * o.val + q.val = 112 * o'.val + q'.val at h
  constructor <;> apply Fin.ext <;> omega

section
variable {o0 o1 : Fin 1024 → Fin 32} (h : Fits o0 o1)
include h

/-- The row of token `t`'s first choice in its slot, and of its second choice. -/
def q0 (t : Fin 1024) : Fin 112 := ⟨rank0 o0 t, rank0_lt h t⟩
def q1 (t : Fin 1024) : Fin 112 := ⟨rank1 o0 o1 t, rank1_lt h t⟩
def p0 (t : Fin 1024) : Fin 3584 := at_ (o0 t) (q0 h t)
def p1 (t : Fin 1024) : Fin 3584 := at_ (o1 t) (q1 h t)

theorem p0_inj {t t' : Fin 1024} (e : p0 h t = p0 h t') : t = t' := by
  have ⟨a, b⟩ := at_inj e
  exact before_inj o0 a (congrArg Fin.val b)

theorem p1_inj {t t' : Fin 1024} (e : p1 h t = p1 h t') : t = t' := by
  have ⟨a, b⟩ := at_inj e
  refine before_inj o1 a ?_
  have b := congrArg Fin.val b
  change (goes o0 (o1 t)).card + _ = (goes o0 (o1 t')).card + _ at b
  rw [a] at b ⊢
  omega

theorem p0_ne_p1 (t t' : Fin 1024) : p0 h t ≠ p1 h t' := fun e => by
  have ⟨a, b⟩ := at_inj e
  have b := congrArg Fin.val b
  change (before o0 (o0 t) t).card = (goes o0 (o1 t')).card + _ at b
  have := before_lt o0 t
  rw [a] at this b
  omega
end

/-! ## Sums that a one-hot picks from -/

/-- One where the proposition holds, zero elsewhere. -/
def one (p : Prop) [Decidable p] : EReal := if p then 1 else 0

theorem one_true {p : Prop} [Decidable p] (h : p) : one p = 1 := if_pos h
theorem one_false {p : Prop} [Decidable p] (h : ¬p) : one p = 0 := if_neg h
theorem one_mul_one {p q : Prop} [Decidable p] [Decidable q] : one p * one q = one (p ∧ q) := by
  unfold one; by_cases hp : p <;> by_cases hq : q <;> simp [hp, hq]
theorem one_congr {p q : Prop} [Decidable p] [Decidable q] (h : p ↔ q) : one p = one q := by
  unfold one; by_cases hp : p
  · rw [if_pos hp, if_pos (h.1 hp)]
  · rw [if_neg hp, if_neg fun hq => hp (h.2 hq)]

theorem sum_one {ι : Type} [Fintype ι] (p : ι → Prop) [DecidablePred p] :
    ∑ c, one (p c) = (((Finset.univ.filter p).card : ℝ) : EReal) := by
  unfold one
  rw [Finset.sum_ite, Finset.sum_const_zero, add_zero, Finset.sum_const, nsmul_one, EReal.coe_natCast]

/-- A one-hot on the right keeps the element that it names. -/
theorem sum_pick {ι : Type} [Fintype ι] [DecidableEq ι] (a : ι) (X : ι → EReal) (p : ι → Prop) [DecidablePred p]
    (hp : ∀ c, p c ↔ c = a) : ∑ c, one (p c) * X c = X a := by
  rw [Finset.sum_eq_single a]
  · rw [one_true ((hp a).2 rfl), one_mul]
  · intro c _ hc; rw [one_false fun h => hc ((hp c).1 h), zero_mul]
  · exact fun h => absurd (Finset.mem_univ a) h

theorem sum_none {ι : Type} [Fintype ι] (X : ι → EReal) (p : ι → Prop) [DecidablePred p] (hp : ∀ c, ¬p c) :
    ∑ c, one (p c) * X c = 0 :=
  Finset.sum_eq_zero fun c _ => by rw [one_false (hp c), zero_mul]

/-- Two one-hots that never meet distribute. -/
theorem one_add_mul {p q : Prop} [Decidable p] [Decidable q] (h : ¬(p ∧ q)) (X : EReal) :
    (one p + one q) * X = one p * X + one q * X := by
  by_cases hp : p
  · have hq : ¬q := fun hq => h ⟨hp, hq⟩
    rw [one_true hp, one_false hq, add_zero, one_mul, zero_mul, add_zero]
  · rw [one_false hp, zero_add, zero_mul, zero_add]

/-- Summed over all slots' rows, a one-hot of a position keeps that row. -/
theorem sum_slots (o : Fin 32) (q : Fin 112) (X : Fin 32 → Fin 112 → EReal) :
    ∑ o', ∑ q', one (at_ o' q' = at_ o q) * X o' q' = X o q := by
  rw [Finset.sum_eq_single o]
  · exact sum_pick q (X o) _ fun c => ⟨fun h => (at_inj h).2, fun h => by rw [h]⟩
  · intro o' _ ho; exact sum_none _ _ fun c h => ho (at_inj h).1
  · exact fun h => absurd (Finset.mem_univ o) h

end Cert.Moe
-- ==== Proof.Reads.lean ====
/- The dispatch read at an index, at the ideal instance. -/
module

public import proofs.«01_k».proof.Proof.Shape
public import Idealize.ShloMosaic.Lib.Pointwise
public import proofs.«01_k».proof.Proof.Pack
public import proofs.«01_k».proof.Proof.Experts

@[expose] public section

set_option maxRecDepth 16384

noncomputable section

namespace Cert.Moe

open Idealize.ShloMosaic Idealize.SL.Sem Cert.KernelIdeal Cert.KernelIdeal.Gen

/-! ## Words -/

/-- The floored quotient of a word by four, as the kernel computes it. -/
def divWord (v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt 4#32 0#32)) (Scalar.extui (Scalar.cmpi .slt 4#32 0#32))))
      (IntOp.cmpi .ne (IntOp.remsi .vector v 4#32) 0#32))
    (IntOp.subi (IntOp.divsi .vector v 4#32) 1#32)
    (IntOp.divsi .vector v 4#32)

/-- The floored remainder of a word, as the kernel computes it. -/
def modWord (n v : BitVec 32) : BitVec 32 :=
  Scalar.select
    (IntOp.andi (IntOp.xori (IntOp.cmpi .slt (IntOp.remsi .vector v n) 0#32) (Scalar.cmpi .slt n 0#32))
      (IntOp.cmpi .ne (IntOp.remsi .vector v n) 0#32))
    (IntOp.addi (IntOp.remsi .vector v n) n)
    (IntOp.remsi .vector v n)

/-- The owner of an expert, and how many places on from device `d` it is. -/
def owner (e : Fin 128) : Fin 32 := ⟨e.val / 4, by omega⟩
def offs (d : Dev nD) (e : Fin 128) : Fin 32 := owner e - (d : Fin 32)
/-- Which of its owner's four experts it is. -/
def loc4 (e : Fin 128) : Fin 4 := ⟨e.val % 4, by omega⟩

theorem plus_offs (d : Dev nD) (e : Fin 128) : plus d (offs d e) = (owner e : Dev nD) := by
  show (d : Fin 32) + (owner e - (d : Fin 32)) = owner e
  exact add_sub_cancel _ _

theorem offWord_eq : ∀ (d : Dev nD) (e : Fin 128),
    modWord (Scalar.select (Scalar.cmpi .eq 32#32 0#32) 1#32 32#32) (IntOp.subi (divWord (BitVec.ofNat 32 e.val)) (meWord d))
      = BitVec.ofNat 32 (offs d e).val := by decide +kernel

theorem locWord_eq : ∀ e : Fin 128,
    modWord (Scalar.select (Scalar.cmpi .eq 4#32 0#32) 1#32 4#32) (BitVec.ofNat 32 e.val) = BitVec.ofNat 32 (loc4 e).val := by
  decide +kernel

theorem posWord_eq : ∀ (o : Fin 32) (q : Fin 112),
    IntOp.addi (IntOp.muli (BitVec.ofNat 32 o.val) 112#32) (IntOp.minsi (BitVec.ofNat 32 q.val) 111#32)
      = BitVec.ofNat 32 (at_ o q).val := by decide +kernel

theorem ofNat_inj {a b : ℕ} (ha : a < 4096) (hb : b < 4096) : BitVec.ofNat 32 a = BitVec.ofNat 32 b ↔ a = b :=
  ⟨fun h => by
    have := congrArg BitVec.toNat h
    rw [BitVec.toNat_ofNat, BitVec.toNat_ofNat] at this
    omega, fun h => by rw [h]⟩

/-- The comparison of two words, widened and read as a float. -/
theorem eq_float (a b : BitVec 32) :
    FloatOps.sitofp (F := Ideal) .f32 (BitVec.setWidth 32 (IntOp.cmpi .eq a b)) = one (a = b) := by
  show (((BitVec.setWidth 32 (BitVec.ofBool (a == b))).toInt : ℝ) : EReal) = one (a = b)
  by_cases h : a = b
  · rw [one_true h, beq_iff_eq.2 h]
    rw [show (BitVec.setWidth 32 (BitVec.ofBool true)).toInt = 1 by decide]; norm_num
  · rw [one_false h, beq_eq_false_iff_ne.2 h]
    rw [show (BitVec.setWidth 32 (BitVec.ofBool false)).toInt = 0 by decide]; norm_num

theorem eq_float_nat {a b : ℕ} (ha : a < 4096) (hb : b < 4096) :
    FloatOps.sitofp (F := Ideal) .f32 (BitVec.setWidth 32 (IntOp.cmpi .eq (BitVec.ofNat 32 a) (BitVec.ofNat 32 b)))
      = one (a = b) := by
  rw [eq_float]; exact one_congr (ofNat_inj ha hb)

theorem gt_float {a b : ℕ} (ha : a < 4096) (hb : b < 4096) :
    FloatOps.sitofp (F := Ideal) .f32 (BitVec.setWidth 32 (IntOp.cmpi .sgt (BitVec.ofNat 32 a) (BitVec.ofNat 32 b)))
      = one (b < a) := by
  show (((BitVec.setWidth 32 (BitVec.ofBool ((BitVec.ofNat 32 b).slt (BitVec.ofNat 32 a)))).toInt : ℝ) : EReal) = _
  have e : (BitVec.ofNat 32 b).slt (BitVec.ofNat 32 a) = decide (b < a) := by
    rw [BitVec.slt, BitVec.toInt_ofNat', BitVec.toInt_ofNat']
    congr 1
    simp only [eq_iff_iff]
    rw [Int.bmod_eq_of_le (by omega) (by omega), Int.bmod_eq_of_le (by omega) (by omega)]
    omega
  rw [e]
  by_cases h : b < a
  · rw [one_true h, decide_eq_true h]
    rw [show (BitVec.setWidth 32 (BitVec.ofBool true)).toInt = 1 by decide]; norm_num
  · rw [one_false h, decide_eq_false h]
    rw [show (BitVec.setWidth 32 (BitVec.ofBool false)).toInt = 0 by decide]; norm_num

/-- A count, read back as a word. -/
theorem fptosi_nat (n : ℕ) (h : n < 4096) : Ideal.fptosi 32 (((n : ℝ)) : EReal) = BitVec.ofNat 32 n := by
  unfold Ideal.fptosi
  rw [Ideal.toIntClamped_coe, if_pos (Nat.cast_nonneg n), Int.floor_natCast, min_eq_right, max_eq_right]
  · exact BitVec.ofInt_natCast _ _
  · norm_num
  · norm_num; omega

/-! ## The payloads at an index -/

theorem pay11_at (me : BitVec 32) (i : IVec S1024x1 32) (r : Fin 1024) :
    k0_pay11 me i (ix2 r 0)
      = modWord (Scalar.select (Scalar.cmpi .eq 32#32 0#32) 1#32 32#32) (IntOp.subi (divWord (i (ix2 r 0))) me) := by
  pointwise [k0_pay11]
  rfl
theorem pay12_at (me : BitVec 32) (i : IVec S1024x1 32) (r : Fin 1024) :
    k0_pay12 me i 4#32 (ix2 r 0) = k0_pay11 me i (ix2 r 0) := by
  pointwise [k0_pay12, k0_pay11]
theorem pay2_at (i : Vec Ideal S1024x1 .i32) (r : Fin 1024) : k0_pay2 i (ix2 r 0) = i (ix2 r 0) := by
  pointwise [k0_pay2]
theorem pay3_at (i : Vec Ideal S1024x1 .i32) (r : Fin 1024) : k0_pay3 i (ix2 r 0) = i (ix2 r 0) := by
  pointwise [k0_pay3]
theorem pay14_at (i : IVec S1024x1 32) (r : Fin 1024) :
    k0_pay14 i (Scalar.select (Scalar.cmpi .eq 4#32 0#32) 1#32 4#32) k0_pay13 (ix2 r 0)
      = modWord (Scalar.select (Scalar.cmpi .eq 4#32 0#32) 1#32 4#32) (i (ix2 r 0)) := by
  pointwise [k0_pay14, k0_pay13]
  rfl
theorem pay15_at (i : IVec S1024x1 32) (r : Fin 1024) :
    k0_pay15 i (ix2 r 0) = modWord (Scalar.select (Scalar.cmpi .eq 4#32 0#32) 1#32 4#32) (i (ix2 r 0)) := by
  pointwise [k0_pay15]
  rfl
theorem pay16_at (i : IVec S1024x1 32) (r : Fin 1024) (o : Fin 32) :
    k0_pay16 (F := Ideal) i (ix2 r o)
      = FloatOps.sitofp (F := Ideal) .f32 (BitVec.setWidth 32 (IntOp.cmpi .eq (BitVec.ofNat 32 o.val) (i (ix2 r 0)))) := by
  pointwise [k0_pay16]
theorem pay17_at (i : IVec S1024x1 32) (r : Fin 1024) (o : Fin 32) :
    k0_pay17 (F := Ideal) i (ix2 r o)
      = FloatOps.sitofp (F := Ideal) .f32 (BitVec.setWidth 32 (IntOp.cmpi .eq (BitVec.ofNat 32 o.val) (i (ix2 r 0)))) := by
  pointwise [k0_pay17]
theorem pay18_at (i : IVec S1024x1 32) (r c : Fin 1024) :
    k0_pay18 (F := Ideal) i (ix2 r c) = ∑ o, k0_pay17 (F := Ideal) i (ix2 r o) * k0_pay17 (F := Ideal) i (ix2 c o) := by
  pointwise [k0_pay18]
theorem pay19_at (i j : IVec S1024x1 32) (r c : Fin 1024) :
    k0_pay19 (F := Ideal) i j (ix2 r c) = ∑ o, k0_pay17 (F := Ideal) j (ix2 r o) * k0_pay16 (F := Ideal) i (ix2 c o) := by
  pointwise [k0_pay19]
theorem pay20_at (r c : Fin 1024) : k0_pay20 (F := Ideal) (ix2 r c) = one (c < r) := by
  pointwise [k0_pay20]
  exact gt_float (by omega) (by omega)
theorem pay21_at (i : IVec S1024x1 32) (r c : Fin 1024) :
    k0_pay21 (F := Ideal) i (ix2 r c)
      = (∑ o, k0_pay16 (F := Ideal) i (ix2 r o) * k0_pay16 (F := Ideal) i (ix2 c o)) * k0_pay20 (F := Ideal) (ix2 r c) := by
  pointwise [k0_pay21]
theorem pay22_at (i : IVec S1024x1 32) (v : FVec Ideal S1024x1024 .f32) (r : Fin 1024) (p : Fin 3584) :
    k0_pay22 (F := Ideal) i v (ix2 r p)
      = FloatOps.sitofp (F := Ideal) .f32 (BitVec.setWidth 32 (IntOp.cmpi .eq (BitVec.ofNat 32 p.val)
          (IntOp.addi (IntOp.muli (i (ix2 r 0)) 112#32) (IntOp.minsi (Ideal.fptosi 32 (∑ c, v (ix2 r c))) 111#32)))) := by
  pointwise [k0_pay22]
  rfl
theorem pay23_at (i : IVec S1024x1 32) (u v w : FVec Ideal S1024x1024 .f32) (r : Fin 1024) (p : Fin 3584) :
    k0_pay23 (F := Ideal) i u v w (ix2 r p)
      = FloatOps.sitofp (F := Ideal) .f32 (BitVec.setWidth 32 (IntOp.cmpi .eq (BitVec.ofNat 32 p.val)
          (IntOp.addi (IntOp.muli (i (ix2 r 0)) 112#32)
            (IntOp.minsi (Ideal.fptosi 32 (∑ c, v (ix2 r c) + ∑ c, u (ix2 r c) * w (ix2 r c))) 111#32)))) := by
  pointwise [k0_pay23]
  rfl
theorem pay25_at (g : FVec Ideal S1024x1 .f32) (i : IVec S1024x1 32) (r : Fin 1024) (k : Fin 4) :
    k0_pay25 (F := Ideal) g i (ix2 r k)
      = FloatOps.sitofp (F := Ideal) .f32 (BitVec.setWidth 32 (IntOp.cmpi .eq (BitVec.ofNat 32 k.val) (i (ix2 r 0))))
        * g (ix2 r 0) := by
  pointwise [k0_pay25]
theorem pay26_at (g : FVec Ideal S1024x1 .f32) (i : IVec S1024x1 32) (r : Fin 1024) (k : Fin 4) :
    k0_pay26 (F := Ideal) g i (ix2 r k)
      = FloatOps.sitofp (F := Ideal) .f32 (BitVec.setWidth 32 (IntOp.cmpi .eq (BitVec.ofNat 32 k.val) (i (ix2 r 0))))
        * g (ix2 r 0) := by
  pointwise [k0_pay26]

theorem pay1_at (x : Vec Ideal S1024x256 .bf16) (rw : Vec Ideal S256x128 .bf16) (r : Fin 1024) (e : Fin 128) :
    k0_pay1 x rw (ix2 r e) = ∑ d, x (ix2 r d) * rw (ix2 d e) := by
  pointwise [k0_pay1]
theorem pay4_at (x : Vec Ideal S1024x256 .bf16) (rw : Vec Ideal S256x128 .bf16) (i : Vec Ideal S1024x1 .i32) (r : Fin 1024) :
    k0_pay4 x rw i (ix2 r 0) = ∑ e, k0_pay1 x rw (ix2 r e)
      * FloatOps.sitofp (F := Ideal) .f32 (BitVec.setWidth 32 (IntOp.cmpi .eq (BitVec.ofNat 32 e.val) (i (ix2 r 0)))) := by
  pointwise [k0_pay4, k0_pay2]
theorem pay5_at (x : Vec Ideal S1024x256 .bf16) (rw : Vec Ideal S256x128 .bf16) (i : Vec Ideal S1024x1 .i32) (r : Fin 1024) :
    k0_pay5 x rw i (ix2 r 0) = ∑ e, k0_pay1 x rw (ix2 r e)
      * FloatOps.sitofp (F := Ideal) .f32 (BitVec.setWidth 32 (IntOp.cmpi .eq (BitVec.ofNat 32 e.val) (i (ix2 r 0)))) := by
  pointwise [k0_pay5, k0_pay3]

/-- The gates of two scores: their exponentials under the larger one, shared out. -/
def gate0 (a b : EReal) : EReal :=
  Ideal.div (Ideal.exp (a - max a b)) (Ideal.exp (a - max a b) + Ideal.exp (b - max a b))
def gate1 (a b : EReal) : EReal :=
  Ideal.div (Ideal.exp (b - max a b)) (Ideal.exp (a - max a b) + Ideal.exp (b - max a b))

theorem g0_read (I : Ins Ideal) (r : Fin 1024) :
    I.g0 (ix2 r 0) = gate0 (k0_pay4 I.x I.rw I.i0 (ix2 r 0)) (k0_pay5 I.x I.rw I.i1 (ix2 r 0)) := by
  unfold Ins.g0
  pointwise [k0_pay9, k0_pay7, k0_pay8, k0_pay6]
  rfl
theorem g1_read (I : Ins Ideal) (r : Fin 1024) :
    I.g1 (ix2 r 0) = gate1 (k0_pay4 I.x I.rw I.i0 (ix2 r 0)) (k0_pay5 I.x I.rw I.i1 (ix2 r 0)) := by
  unfold Ins.g1
  pointwise [k0_pay10, k0_pay7, k0_pay8, k0_pay6]
  rfl

theorem bs_at (d : Dev nD) (I : Ins Ideal) (r : Fin 1024) (p : Fin 3584) :
    I.bs d (ix2 r p) = I.b0 d (ix2 r p) + I.b1 d (ix2 r p) := by
  pointwise [Ins.bs]

theorem group_at (o : Fin 32) (q : Fin 112) (h : 896 * (o.val / 8) + (o.val % 8 * 112 + q.val) < 3584) :
    (⟨896 * (o.val / 8) + (o.val % 8 * 112 + q.val), h⟩ : Fin 3584) = at_ o q := by
  apply Fin.ext; show 896 * (o.val / 8) + (o.val % 8 * 112 + q.val) = 112 * o.val + q.val; omega
theorem group_at' (o : Fin 32) (q : Fin 112) (h : 896 * (o.val / 8) + (112 * (o.val % 8) + q.val) < 3584) :
    (⟨896 * (o.val / 8) + (112 * (o.val % 8) + q.val), h⟩ : Fin 3584) = at_ o q := by
  apply Fin.ext; show 896 * (o.val / 8) + (112 * (o.val % 8) + q.val) = 112 * o.val + q.val; omega

theorem rowsP_at (d : Dev nD) (I : Ins Ideal) (x : Vec Ideal S1024x256 .bf16) (g : Fin 4) (j : Fin 8) (q : Fin 112) (l : Fin 256) :
    rowsP d I x g (ix3 j q l)
      = ∑ t, I.bs d (ix2 t ⟨896 * g.val + (j.val * 112 + q.val), by omega⟩) * x (ix2 t l) := by
  pointwise [rowsP, k0_pay27]
theorem selP_at (d : Dev nD) (I : Ins Ideal) (g : Fin 4) (j : Fin 8) (k : Fin 4) (q : Fin 112) :
    selP d I g j (ix3 0 k q)
      = ∑ t, I.s0 (ix2 t k) * I.b0 d (ix2 t ⟨896 * g.val + (112 * j.val + q.val), by omega⟩)
        + ∑ t, I.s1 (ix2 t k) * I.b1 d (ix2 t ⟨896 * g.val + (112 * j.val + q.val), by omega⟩) := by
  pointwise [selP, selG]

theorem rowsVal_at (d : Dev nD) (I : Ins Ideal) (o : Fin 32) (q : Fin 112) (l : Fin 256) :
    rowsVal d I o (ix3 0 q l) = ∑ t, I.bs d (ix2 t (at_ o q)) * I.x (ix2 t l) := by
  unfold rowsVal
  refine (rowsP_at d I I.x _ _ q l).trans ?_
  rw [group_at]
theorem selVal_at (d : Dev nD) (I : Ins Ideal) (o : Fin 32) (k : Fin 4) (q : Fin 112) :
    selVal d I o (ix3 0 k q) = ∑ t, I.s0 (ix2 t k) * I.b0 d (ix2 t (at_ o q)) + ∑ t, I.s1 (ix2 t k) * I.b1 d (ix2 t (at_ o q)) := by
  unfold selVal
  rw [selP_at, group_at']

theorem pay81_at (w4 : Vec Ideal S1x4x112 .bf16) (q : Fin 112) (k : Fin 4) :
    k0_pay81 w4 (ix2 q k) = w4 (ix3 0 k q) := by
  pointwise [k0_pay81, k0_pay78]
  refine Eq.trans (Finset.sum_congr rfl fun y _ => ?_) (sum_pick q (fun y => w4 (ix3 0 k y)) (fun y => q.val = y.val)
    fun y => ⟨fun h => Fin.ext h.symm, fun h => by rw [h]⟩)
  rw [eq_float_nat (by omega) (by omega)]

/-- What an owner computes of a row: each of its four experts' products, by the row's selector. -/
theorem compP_at (xo : Vec Ideal S1x112x256 .bf16) (w4 : Vec Ideal S1x4x112 .bf16) (w0 w1 w2 w3 : Vec Ideal S1x256x512 .bf16)
    (q : Fin 112) (l : Fin 512) :
    compP xo w4 w0 w1 w2 w3 (ix3 0 q l)
      = w4 (ix3 0 0 q) * (∑ d, xo (ix3 0 q d) * w0 (ix3 0 d l)) + w4 (ix3 0 1 q) * (∑ d, xo (ix3 0 q d) * w1 (ix3 0 d l))
        + w4 (ix3 0 2 q) * (∑ d, xo (ix3 0 q d) * w2 (ix3 0 d l)) + w4 (ix3 0 3 q) * (∑ d, xo (ix3 0 q d) * w3 (ix3 0 d l)) := by
  pointwise [compP, k0_pay84, k0_pay83, k0_pay82, k0_pay80]
  simp only [pay81_at]

theorem pay226_at (a : FVec Ideal S1024x3584 .bf16) (r : Vec Ideal S1x112x512 .bf16) (t : Fin 1024) (l : Fin 512) :
    k0_pay226 a r (ix2 t l) = ∑ q, a (ix2 t (at_ 0 q)) * r (ix3 0 q l) := by
  pointwise [k0_pay226]
  refine Finset.sum_congr rfl fun q _ => ?_
  congr 3
  apply Fin.ext; show q.val = 112 * 0 + q.val; omega
theorem accP_at (d : Dev nD) (I : Ins Ideal) (o : Fin 32) (acc : Vec Ideal S1024x512 .f32) (r : Vec Ideal S1x112x512 .bf16)
    (t : Fin 1024) (l : Fin 512) :
    accP d I o acc r (ix2 t l) = acc (ix2 t l) + ∑ q, I.bs d (ix2 t (at_ o q)) * r (ix3 0 q l) := by
  pointwise [accP]
  rfl

theorem wAt_at (W : WBuf Ideal) (k : Fin 4) (d : Fin 256) (l : Fin 512) : wAt W k (ix3 0 d l) = W (ix3 k d l) := by
  unfold wAt
  pointwise [k0_pay28]
  congr 1
  funext a
  match a with
  | ⟨0, _⟩ => apply Fin.ext; show k.val + 0 * 1 = k.val; omega
  | ⟨1, _⟩ => apply Fin.ext; show 0 + 1 * d.val = d.val; omega
  | ⟨2, _⟩ => apply Fin.ext; show 0 + 1 * l.val = l.val; omega

end Cert.Moe
-- ==== Proof.Dispatch.lean ====
/- What one device's output holds, given its routing: each token's two experts' products, by its gates. -/
module

public import proofs.«01_k».proof.Proof.Reads

@[expose] public section

set_option maxRecDepth 16384

noncomputable section

namespace Cert.Moe

open Idealize.ShloMosaic Idealize.SL.Sem Cert.KernelIdeal Cert.KernelIdeal.Gen

/-- The experts that a device's index columns name. -/
structure Names (I : Ins Ideal) (e0 e1 : Fin 1024 → Fin 128) : Prop where
  w0 : ∀ t, I.i0 (ix2 t 0) = BitVec.ofNat 32 (e0 t).val
  w1 : ∀ t, I.i1 (ix2 t 0) = BitVec.ofNat 32 (e1 t).val

/-- A token's score for an expert. -/
def score (x : Vec Ideal S1024x256 .bf16) (rw : Vec Ideal S256x128 .bf16) (t : Fin 1024) (e : Fin 128) : EReal :=
  ∑ d, x (ix2 t d) * rw (ix2 d e)

section
variable {I : Ins Ideal} {e0 e1 : Fin 1024 → Fin 128} (hN : Names I e0 e1)
include hN

theorem off0_at (d : Dev nD) (t : Fin 1024) : I.off0 d (ix2 t 0) = BitVec.ofNat 32 (offs d (e0 t)).val := by
  unfold Ins.off0
  rw [pay11_at, pay2_at, hN.w0, offWord_eq]
theorem off1_at (d : Dev nD) (t : Fin 1024) : I.off1 d (ix2 t 0) = BitVec.ofNat 32 (offs d (e1 t)).val := by
  unfold Ins.off1
  rw [pay12_at, pay11_at, pay3_at, hN.w1, offWord_eq]
theorem k0_at (t : Fin 1024) : I.k0 (ix2 t 0) = BitVec.ofNat 32 (loc4 (e0 t)).val := by
  unfold Ins.k0
  rw [pay14_at, pay2_at, hN.w0, locWord_eq]
theorem k1_at (t : Fin 1024) : I.k1 (ix2 t 0) = BitVec.ofNat 32 (loc4 (e1 t)).val := by
  unfold Ins.k1
  rw [pay15_at, pay3_at, hN.w1, locWord_eq]

theorem h0_at (d : Dev nD) (t : Fin 1024) (o : Fin 32) :
    k0_pay16 (F := Ideal) (I.off0 d) (ix2 t o) = one (o = offs d (e0 t)) := by
  rw [pay16_at, off0_at hN, eq_float_nat (by omega) (by omega)]; exact one_congr Fin.ext_iff.symm
theorem h1_at (d : Dev nD) (t : Fin 1024) (o : Fin 32) :
    k0_pay17 (F := Ideal) (I.off1 d) (ix2 t o) = one (o = offs d (e1 t)) := by
  rw [pay17_at, off1_at hN, eq_float_nat (by omega) (by omega)]; exact one_congr Fin.ext_iff.symm

omit hN in
theorem meet (a b : Fin 32) : ∑ o, one (o = a) * one (o = b) = one (b = a) :=
  (sum_pick a (fun o => one (o = b)) (fun o => o = a) fun _ => Iff.rfl).trans (one_congr eq_comm)

theorem sum_rank0 (d : Dev nD) (t : Fin 1024) :
    ∑ c, k0_pay21 (F := Ideal) (I.off0 d) (ix2 t c) = (((rank0 (fun t => offs d (e0 t)) t : ℕ) : ℝ) : EReal) := by
  refine Eq.trans (Finset.sum_congr rfl fun c _ => ?_)
    (sum_one fun c => offs d (e0 c) = offs d (e0 t) ∧ c < t)
  rw [pay21_at, pay20_at, ← one_mul_one, ← meet]
  simp only [h0_at hN]

theorem sum_rank1 (d : Dev nD) (t : Fin 1024) :
    (∑ c, k0_pay19 (F := Ideal) (I.off0 d) (I.off1 d) (ix2 t c)
      + ∑ c, k0_pay18 (F := Ideal) (I.off1 d) (ix2 t c) * k0_pay20 (F := Ideal) (ix2 t c))
      = (((rank1 (fun t => offs d (e0 t)) (fun t => offs d (e1 t)) t : ℕ) : ℝ) : EReal) := by
  have hA : ∑ c, k0_pay19 (F := Ideal) (I.off0 d) (I.off1 d) (ix2 t c)
      = (((goes (fun t => offs d (e0 t)) (offs d (e1 t))).card : ℝ) : EReal) := by
    refine Eq.trans (Finset.sum_congr rfl fun c _ => ?_) (sum_one fun c => offs d (e0 c) = offs d (e1 t))
    rw [pay19_at, ← meet]
    simp only [h0_at hN, h1_at hN]
  have hB : ∑ c, k0_pay18 (F := Ideal) (I.off1 d) (ix2 t c) * k0_pay20 (F := Ideal) (ix2 t c)
      = (((before (fun t => offs d (e1 t)) (offs d (e1 t)) t).card : ℝ) : EReal) := by
    refine Eq.trans (Finset.sum_congr rfl fun c _ => ?_) (sum_one fun c => offs d (e1 c) = offs d (e1 t) ∧ c < t)
    rw [pay18_at, pay20_at, ← one_mul_one, ← meet]
    simp only [h1_at hN]
  rw [hA, hB, ← EReal.coe_add]
  unfold rank1
  rw [Nat.cast_add]

theorem g0_at (t : Fin 1024) : I.g0 (ix2 t 0) = gate0 (score I.x I.rw t (e0 t)) (score I.x I.rw t (e1 t)) := by
  rw [g0_read, pay4_at, pay5_at]
  congr 1
  · refine Eq.trans (Finset.sum_congr rfl fun e _ => ?_)
      (sum_pick (e0 t) (fun e => score I.x I.rw t e) (fun e => e.val = (e0 t).val) fun e => Fin.ext_iff.symm)
    rw [pay1_at, hN.w0, eq_float_nat (by omega) (by omega), mul_comm]; rfl
  · refine Eq.trans (Finset.sum_congr rfl fun e _ => ?_)
      (sum_pick (e1 t) (fun e => score I.x I.rw t e) (fun e => e.val = (e1 t).val) fun e => Fin.ext_iff.symm)
    rw [pay1_at, hN.w1, eq_float_nat (by omega) (by omega), mul_comm]; rfl
theorem g1_at (t : Fin 1024) : I.g1 (ix2 t 0) = gate1 (score I.x I.rw t (e0 t)) (score I.x I.rw t (e1 t)) := by
  rw [g1_read, pay4_at, pay5_at]
  congr 1
  · refine Eq.trans (Finset.sum_congr rfl fun e _ => ?_)
      (sum_pick (e0 t) (fun e => score I.x I.rw t e) (fun e => e.val = (e0 t).val) fun e => Fin.ext_iff.symm)
    rw [pay1_at, hN.w0, eq_float_nat (by omega) (by omega), mul_comm]; rfl
  · refine Eq.trans (Finset.sum_congr rfl fun e _ => ?_)
      (sum_pick (e1 t) (fun e => score I.x I.rw t e) (fun e => e.val = (e1 t).val) fun e => Fin.ext_iff.symm)
    rw [pay1_at, hN.w1, eq_float_nat (by omega) (by omega), mul_comm]; rfl

theorem s0_at (t : Fin 1024) (k : Fin 4) :
    I.s0 (ix2 t k) = one (k = loc4 (e0 t)) * gate0 (score I.x I.rw t (e0 t)) (score I.x I.rw t (e1 t)) := by
  unfold Ins.s0
  rw [pay25_at, k0_at hN, eq_float_nat (by omega) (by omega), g0_at hN, one_congr Fin.ext_iff.symm]
theorem s1_at (t : Fin 1024) (k : Fin 4) :
    I.s1 (ix2 t k) = one (k = loc4 (e1 t)) * gate1 (score I.x I.rw t (e0 t)) (score I.x I.rw t (e1 t)) := by
  unfold Ins.s1
  rw [pay26_at, k1_at hN, eq_float_nat (by omega) (by omega), g1_at hN, one_congr Fin.ext_iff.symm]

variable {d : Dev nD} (hF : Fits (fun t => offs d (e0 t)) (fun t => offs d (e1 t)))

theorem b0_at (t : Fin 1024) (p : Fin 3584) : I.b0 d (ix2 t p) = one (p = p0 hF t) := by
  unfold Ins.b0
  rw [pay22_at, sum_rank0 hN, fptosi_nat _ (lt_trans (rank0_lt hF t) (by norm_num)), off0_at hN,
    show rank0 (fun t => offs d (e0 t)) t = (q0 hF t).val from rfl, posWord_eq, eq_float_nat (by omega) (by omega)]
  exact one_congr Fin.ext_iff.symm
theorem b1_at (t : Fin 1024) (p : Fin 3584) : I.b1 d (ix2 t p) = one (p = p1 hF t) := by
  unfold Ins.b1
  rw [pay23_at, sum_rank1 hN, fptosi_nat _ (lt_trans (rank1_lt hF t) (by norm_num)), off1_at hN,
    show rank1 (fun t => offs d (e0 t)) (fun t => offs d (e1 t)) t = (q1 hF t).val from rfl, posWord_eq,
    eq_float_nat (by omega) (by omega)]
  exact one_congr Fin.ext_iff.symm
theorem bs_one (t : Fin 1024) (p : Fin 3584) : I.bs d (ix2 t p) = one (p = p0 hF t) + one (p = p1 hF t) := by
  rw [bs_at, b0_at hN hF, b1_at hN hF]

omit hN in
theorem apart (t : Fin 1024) (p : Fin 3584) : ¬(p = p0 hF t ∧ p = p1 hF t) :=
  fun h => p0_ne_p1 hF t t (h.1.symm.trans h.2)

/-- The rows that a device sends are its tokens, each at its two positions. -/
theorem rows_p0 (t : Fin 1024) (l : Fin 256) :
    rowsVal d I (offs d (e0 t)) (ix3 0 (q0 hF t) l) = I.x (ix2 t l) := by
  rw [rowsVal_at]
  simp only [bs_one hN hF, one_add_mul (apart hF _ _), Finset.sum_add_distrib]
  rw [show at_ (offs d (e0 t)) (q0 hF t) = p0 hF t from rfl]
  rw [sum_pick t (fun c => I.x (ix2 c l)) _ fun c => ⟨fun h => (p0_inj hF h).symm, fun h => by rw [h]⟩,
    sum_none _ _ fun c h => p0_ne_p1 hF t c h, add_zero]
theorem rows_p1 (t : Fin 1024) (l : Fin 256) :
    rowsVal d I (offs d (e1 t)) (ix3 0 (q1 hF t) l) = I.x (ix2 t l) := by
  rw [rowsVal_at]
  simp only [bs_one hN hF, one_add_mul (apart hF _ _), Finset.sum_add_distrib]
  rw [show at_ (offs d (e1 t)) (q1 hF t) = p1 hF t from rfl]
  rw [sum_none _ _ fun c h => p0_ne_p1 hF c t h.symm,
    sum_pick t (fun c => I.x (ix2 c l)) _ fun c => ⟨fun h => (p1_inj hF h).symm, fun h => by rw [h]⟩, zero_add]

/-- And so are the selector rows: a token's gate at its expert's row. -/
theorem sel_p0 (t : Fin 1024) (k : Fin 4) :
    selVal d I (offs d (e0 t)) (ix3 0 k (q0 hF t))
      = one (k = loc4 (e0 t)) * gate0 (score I.x I.rw t (e0 t)) (score I.x I.rw t (e1 t)) := by
  rw [selVal_at]
  simp only [b0_at hN hF, b1_at hN hF, mul_comm (I.s0 _), mul_comm (I.s1 _)]
  rw [show at_ (offs d (e0 t)) (q0 hF t) = p0 hF t from rfl]
  rw [sum_pick t (fun c => I.s0 (ix2 c k)) _ fun c => ⟨fun h => (p0_inj hF h).symm, fun h => by rw [h]⟩,
    sum_none _ _ fun c h => p0_ne_p1 hF t c h, add_zero, s0_at hN]
theorem sel_p1 (t : Fin 1024) (k : Fin 4) :
    selVal d I (offs d (e1 t)) (ix3 0 k (q1 hF t))
      = one (k = loc4 (e1 t)) * gate1 (score I.x I.rw t (e0 t)) (score I.x I.rw t (e1 t)) := by
  rw [selVal_at]
  simp only [b0_at hN hF, b1_at hN hF, mul_comm (I.s0 _), mul_comm (I.s1 _)]
  rw [show at_ (offs d (e1 t)) (q1 hF t) = p1 hF t from rfl]
  rw [sum_none _ _ fun c h => p0_ne_p1 hF c t h.symm,
    sum_pick t (fun c => I.s1 (ix2 c k)) _ fun c => ⟨fun h => (p1_inj hF h).symm, fun h => by rw [h]⟩, zero_add, s1_at hN]

omit hN in
theorem pick4 (κ : Fin 4) (g : EReal) (X : Fin 4 → EReal) :
    one (0 = κ) * g * X 0 + one (1 = κ) * g * X 1 + one (2 = κ) * g * X 2 + one (3 = κ) * g * X 3 = g * X κ := by
  fin_cases κ <;> simp [one]
end

section
variable {I : Dev nD → Ins Ideal} {Wt : Dev nD → WBuf Ideal} {c : Dev nD} {e0 e1 : Fin 1024 → Fin 128} (hN : Names (I c) e0 e1)
  (hF : Fits (fun t => offs c (e0 t)) (fun t => offs c (e1 t)))
include hN

/-- A token's product with an expert's weights. -/
def prod (x : Vec Ideal S1024x256 .bf16) (W : Dev nD → WBuf Ideal) (t : Fin 1024) (e : Fin 128) (l : Fin 512) : EReal :=
  ∑ d, x (ix2 t d) * W (owner e) (ix3 (loc4 e) d l)

theorem res_p0 (t : Fin 1024) (l : Fin 512) :
    resVal I Wt c (offs c (e0 t)) (ix3 0 (q0 hF t) l)
      = gate0 (score (I c).x (I c).rw t (e0 t)) (score (I c).x (I c).rw t (e1 t)) * prod (I c).x Wt t (e0 t) l := by
  unfold resVal
  rw [compP_at]
  simp only [rows_p0 hN hF, sel_p0 hN hF, wAt_at, plus_offs]
  exact pick4 (loc4 (e0 t)) _ fun k => ∑ d, (I c).x (ix2 t d) * Wt (owner (e0 t)) (ix3 k d l)
theorem res_p1 (t : Fin 1024) (l : Fin 512) :
    resVal I Wt c (offs c (e1 t)) (ix3 0 (q1 hF t) l)
      = gate1 (score (I c).x (I c).rw t (e0 t)) (score (I c).x (I c).rw t (e1 t)) * prod (I c).x Wt t (e1 t) l := by
  unfold resVal
  rw [compP_at]
  simp only [rows_p1 hN hF, sel_p1 hN hF, wAt_at, plus_offs]
  exact pick4 (loc4 (e1 t)) _ fun k => ∑ d, (I c).x (ix2 t d) * Wt (owner (e1 t)) (ix3 k d l)

omit hN in
theorem accTo_at (n : ℕ) (t : Fin 1024) (l : Fin 512) :
    accTo I Wt c n (ix2 t l)
      = ∑ i ∈ Finset.range (n + 1), ∑ q, (I c).bs c (ix2 t (at_ (Fin.ofNat 32 i) q)) * resVal I Wt c (Fin.ofNat 32 i) (ix3 0 q l) := by
  induction n with
  | zero => rw [Finset.sum_range_one]; exact pay226_at _ _ t l
  | succ n ih => rw [Finset.sum_range_succ, ← ih]; exact accP_at _ _ _ _ _ t l

include hF in
theorem out_at (t : Fin 1024) (l : Fin 512) :
    accTo I Wt c 31 (ix2 t l)
      = gate0 (score (I c).x (I c).rw t (e0 t)) (score (I c).x (I c).rw t (e1 t)) * prod (I c).x Wt t (e0 t) l
        + gate1 (score (I c).x (I c).rw t (e0 t)) (score (I c).x (I c).rw t (e1 t)) * prod (I c).x Wt t (e1 t) l := by
  rw [accTo_at, Finset.sum_range]
  have hi : ∀ i : Fin 32, Fin.ofNat 32 i.val = i := fun i => Fin.ext (Nat.mod_eq_of_lt i.isLt)
  simp only [hi, bs_one hN hF, one_add_mul (apart hF _ _), Finset.sum_add_distrib]
  rw [← res_p0 hN hF, ← res_p1 hN hF]
  exact congrArg₂ (· + ·) (sum_slots _ _ fun o q => resVal I Wt c o (ix3 0 q l)) (sum_slots _ _ fun o q => resVal I Wt c o (ix3 0 q l))
end

end Cert.Moe
-- ==== Proof.Final.lean ====
/- What the memory holds at the start and at the end, as whole arrays. -/
module

public import proofs.«01_k».proof.Proof.Frames
public import proofs.«01_k».proof.Proof.Dispatch
public import Idealize.ShloMosaic.Lib.Pipeline.ValueKit.Geometry

@[expose] public section

noncomputable section

namespace Cert.Moe

open Cert.KernelIdeal Cert.KernelIdeal.Gen
open Idealize.ShloMosaic
open Idealize.ShloMosaic.TcCoe
open Idealize.SL Idealize.SL.Sem
open Idealize.ShloMosaic.Pipeline (Dat Cfg Window)

section
variable {F : FTy → Type} [FloatOps F] (m : (ℓ : Loc nD τ sig) → Buf (Elt F) ℓ)

theorem index_0 : ∀ a, win0_0.index (0 : Fin 1) a = 0 := by decide +kernel
theorem index_1 : ∀ a, win0_1.index (0 : Fin 1) a = 0 := by decide +kernel
theorem index_2 : ∀ a, win0_2.index (0 : Fin 1) a = 0 := by decide +kernel
theorem index_3 : ∀ a, win0_3.index (0 : Fin 1) a = 0 := by decide +kernel

theorem xOf_eq (c : Dev nD) : xOf m c = m ((c.tc : Thread nD τ).loc main_arg0) :=
  funext fun i => congrArg (m ((c.tc : Thread nD τ).loc main_arg0)) (funext fun a => Fin.ext (Window.rect_emb_val_of_index_zero win0_0 (0 : Fin 1) a (index_0 a) i))
theorem rwOf_eq (c : Dev nD) : rwOf m c = m ((c.tc : Thread nD τ).loc main_arg1) :=
  funext fun i => congrArg (m ((c.tc : Thread nD τ).loc main_arg1)) (funext fun a => Fin.ext (Window.rect_emb_val_of_index_zero win0_1 (0 : Fin 1) a (index_1 a) i))
theorem ixOf_eq (c : Dev nD) : ixOf m c = m ((c.tc : Thread nD τ).loc main_arg2) :=
  funext fun i => congrArg (m ((c.tc : Thread nD τ).loc main_arg2)) (funext fun a => Fin.ext (Window.rect_emb_val_of_index_zero win0_2 (0 : Fin 1) a (index_2 a) i))
theorem wtOf_eq (c : Dev nD) : wtOf m c = m ((c.tc : Thread nD τ).loc main_arg3) :=
  funext fun i => congrArg (m ((c.tc : Thread nD τ).loc main_arg3)) (funext fun a => Fin.ext (Window.rect_emb_val_of_index_zero win0_3 (0 : Fin 1) a (index_3 a) i))

/-- The result array ends holding the device's result. -/
theorem final_out (c : Dev nD) : finalA m c (4 : Fin 5) = resOf m c := by
  exact (dats m 0 c).arrAt_eq_of_after_last 4 t0_0 (by decide +kernel) _ fun j => rfl
end

end Cert.Moe

end
-- ==== Proof.Softmax.lean ====
/- Two entries of a softmax, renormalised, are the two scores' own softmax. -/
module

public import proofs.«01_k».proof.Proof.Reads

@[expose] public section

noncomputable section

namespace Cert.Moe

open Idealize.ShloMosaic

/-- An extended real that is a real number. -/
def Fin' (x : EReal) : Prop := ∃ r : ℝ, x = (r : EReal)

theorem sum_coe {ι : Type} (S : Finset ι) (f : ι → ℝ) : ∑ i ∈ S, ((f i : ℝ) : EReal) = ((∑ i ∈ S, f i : ℝ) : EReal) := by
  classical
  induction S using Finset.induction_on with
  | empty => rfl
  | insert a S ha ih => rw [Finset.sum_insert ha, Finset.sum_insert ha, ih, EReal.coe_add]

theorem dot_real {ι : Type} [Fintype ι] (f g : ι → EReal) (hf : ∀ i, Fin' (f i)) (hg : ∀ i, Fin' (g i)) :
    Fin' (∑ i, f i * g i) := by
  choose a ha using hf
  choose b hb using hg
  refine ⟨∑ i, a i * b i, ?_⟩
  rw [← sum_coe]
  exact Finset.sum_congr rfl fun i _ => by rw [ha, hb, EReal.coe_mul]

theorem fold_max_real {ι : Type} (f : ι → ℝ) (S : Finset ι) (hS : S.Nonempty) :
    ∃ μ : ℝ, S.fold max (⊥ : EReal) (fun i => ((f i : ℝ) : EReal)) = (μ : EReal) := by
  classical
  induction hS using Finset.Nonempty.cons_induction with
  | singleton a => exact ⟨f a, by rw [Finset.fold_singleton, max_eq_left bot_le]⟩
  | cons a S ha hS ih =>
    obtain ⟨μ, h⟩ := ih
    refine ⟨max (f a) μ, ?_⟩
    rw [Finset.fold_cons, h]
    exact (EReal.coe_strictMono.monotone.map_max).symm

theorem div_real {a b : ℝ} (h : b ≠ 0) : Ideal.div (a : EReal) (b : EReal) = ((a / b : ℝ) : EReal) := by
  rw [Ideal.div_coe h, ← EReal.coe_mul, mul_one_div]

/-- The softmax of finite scores, entry by entry. -/
def soft {n : ℕ} (s : Fin n → EReal) (e : Fin n) : EReal :=
  Ideal.div (Ideal.exp (s e - Finset.univ.fold max ⊥ s)) (∑ k, Ideal.exp (s k - Finset.univ.fold max ⊥ s))

theorem soft_real (s : Fin 128 → ℝ) :
    ∃ c : ℝ, 0 < c ∧ ∀ e, soft (fun k => ((s k : ℝ) : EReal)) e = ((Real.exp (s e) * c : ℝ) : EReal) := by
  obtain ⟨μ, hμ⟩ := fold_max_real s Finset.univ Finset.univ_nonempty
  have hZ : 0 < ∑ k, Real.exp (s k - μ) := Finset.sum_pos (fun k _ => Real.exp_pos _) Finset.univ_nonempty
  refine ⟨Real.exp (-μ) / ∑ k, Real.exp (s k - μ), div_pos (Real.exp_pos _) hZ, fun e => ?_⟩
  unfold soft
  rw [hμ]
  simp only [← EReal.coe_sub, Ideal.exp_coe]
  rw [sum_coe, div_real hZ.ne', sub_eq_add_neg, Real.exp_add, mul_div_assoc]

theorem gate_real (a b : ℝ) :
    gate0 (a : EReal) (b : EReal) = ((Real.exp a / (Real.exp a + Real.exp b) : ℝ) : EReal)
      ∧ gate1 (a : EReal) (b : EReal) = ((Real.exp b / (Real.exp a + Real.exp b) : ℝ) : EReal) := by
  have hm : max (a : EReal) (b : EReal) = ((max a b : ℝ) : EReal) := (EReal.coe_strictMono.monotone.map_max).symm
  have hp : Real.exp (a - max a b) + Real.exp (b - max a b) ≠ 0 := (add_pos (Real.exp_pos _) (Real.exp_pos _)).ne'
  have hq : Real.exp a + Real.exp b ≠ 0 := (add_pos (Real.exp_pos _) (Real.exp_pos _)).ne'
  unfold gate0 gate1
  rw [hm]
  simp only [← EReal.coe_sub, Ideal.exp_coe, ← EReal.coe_add]
  rw [div_real hp, div_real hp]
  have he : Real.exp (max a b) ≠ 0 := (Real.exp_pos _).ne'
  rw [Real.exp_sub, Real.exp_sub] at *
  constructor <;> · congr 1; field_simp

theorem soft_gate (s : Fin 128 → EReal) (hs : ∀ e, Fin' (s e)) (e0 e1 : Fin 128) :
    Ideal.div (soft s e0) (soft s e0 + soft s e1) = gate0 (s e0) (s e1)
      ∧ Ideal.div (soft s e1) (soft s e0 + soft s e1) = gate1 (s e0) (s e1) := by
  choose r hr using hs
  obtain rfl : s = fun e => ((r e : ℝ) : EReal) := funext hr
  obtain ⟨c, hc, h⟩ := soft_real r
  obtain ⟨h0, h1⟩ := gate_real (r e0) (r e1)
  have ha := Real.exp_pos (r e0)
  have hb := Real.exp_pos (r e1)
  have hq : Real.exp (r e0) * c + Real.exp (r e1) * c ≠ 0 := (add_pos (mul_pos ha hc) (mul_pos hb hc)).ne'
  have hd : Real.exp (r e0) + Real.exp (r e1) ≠ 0 := (add_pos ha hb).ne'
  rw [h0, h1, h, h, ← EReal.coe_add, div_real hq, div_real hq]
  have hc' := hc.ne'
  constructor <;> · rw [← add_mul, mul_div_mul_right _ _ hc']

end Cert.Moe
-- ==== Proof.Routed.lean ====
/- What the precondition says of a device's blocks. -/
module

public import proofs.«01_k».proof.Pre_routed_KernelIdeal
public import proofs.«01_k».proof.Proof.Dispatch
public import proofs.«01_k».proof.Proof.Softmax
public import Idealize.ShloMosaic.Lib.StableHlo.Predicate
public import Idealize.ShloMosaic.Lib.IndicatorCount

@[expose] public section

set_option maxRecDepth 16384

noncomputable section

namespace Cert.Moe.Routed

open Idealize.ShloMosaic Cert.Pre_routed_KernelIdeal Idealize.ShloMosaic.StableHlo.Predicate

instance facts : Facts where
  bcast_S_S32 := by decide
  bcast_S1024x2_S1024x2x1_0_1 := by decide
  bcast_S32_S1x1x32_2 := by decide
  bcast_S1024x2x1_S1024x2x32_0_1_2 := by decide
  bcast_S1x1x32_S1024x2x32_0_1_2 := by decide
  bitsLt_bf16_f32 := by decide
  bcast_S_S1024x256 := by decide
  bcast_S_S256x128 := by decide
  bcast_S_S1024x2 := by decide
  natLt_1_32 := by decide
  reducesTo_S1024x2x32_S32_d0_1 := by decide
  h_S_ := by decide

open Facts

variable (x : FVec Ideal S1024x256 .bf16) (rw : FVec Ideal S256x128 .bf16) (ix : IVec S1024x2 32) (w : FVec Ideal S4x256x512 .bf16)

/-- Whether a route goes to a device. -/
def sent : IVec S1024x2x32 1 :=
  andi
    (cmpi .sge (broadcastInDim S1024x2x32 ![0, 1, 2] bcast_S1024x2x1_S1024x2x32_0_1_2 (broadcastInDim S1024x2x1 ![0, 1] bcast_S1024x2_S1024x2x1_0_1 ix))
      (broadcastInDim S1024x2x32 ![0, 1, 2] bcast_S1x1x32_S1024x2x32_0_1_2 (broadcastInDim S1x1x32 ![2] bcast_S32_S1x1x32_2
        (muli (broadcastInDim S32 ![] bcast_S_S32 (constantI S_ 32 4#32)) (iotaInDim S32 32 0)))))
    (cmpi .slt (broadcastInDim S1024x2x32 ![0, 1, 2] bcast_S1024x2x1_S1024x2x32_0_1_2 (broadcastInDim S1024x2x1 ![0, 1] bcast_S1024x2_S1024x2x1_0_1 ix))
      (broadcastInDim S1024x2x32 ![0, 1, 2] bcast_S1x1x32_S1024x2x32_0_1_2 (broadcastInDim S1x1x32 ![2] bcast_S32_S1x1x32_2
        (addi (muli (broadcastInDim S32 ![] bcast_S_S32 (constantI S_ 32 4#32)) (iotaInDim S32 32 0))
          (broadcastInDim S32 ![] bcast_S_S32 (constantI S_ 32 4#32))))))

def count : IVec S32 32 :=
  Host.reduce IntOp.addi (extui 32 (sent ix) natLt_1_32) (constantI S_ 32 0#32) reducesTo_S1024x2x32_S32_d0_1 h_S_

theorem sent_at (t : Fin 1024) (j : Fin 2) (a : Fin 32) :
    sent ix (ix3 t j a) = IntOp.andi (IntOp.cmpi .sge (ix (ix2 t j)) (IntOp.muli 4#32 (BitVec.ofNat 32 a.val)))
      (IntOp.cmpi .slt (ix (ix2 t j)) (IntOp.addi (IntOp.muli 4#32 (BitVec.ofNat 32 a.val)) 4#32)) := by
  pointwise [sent]

theorem fin_x_at (t : Fin 1024) (d : Fin 256) :
    (fn x rw ix w).1 (ix2 t d) = Ideal.cmp .olt (max (x (ix2 t d)) (-x (ix2 t d))) (Ideal.ofBits .f32 0x7F800000#32) := by
  pointwise [fn, fn_part1]
  rfl
theorem fin_rw_at (d : Fin 256) (e : Fin 128) :
    (fn x rw ix w).2.1 (ix2 d e) = Ideal.cmp .olt (max (rw (ix2 d e)) (-rw (ix2 d e))) (Ideal.ofBits .f32 0x7F800000#32) := by
  pointwise [fn, fn_part1]
  rfl
theorem range_at (t : Fin 1024) (j : Fin 2) :
    (fn x rw ix w).2.2.1 (ix2 t j) = IntOp.andi (IntOp.cmpi .sge (ix (ix2 t j)) 0#32) (IntOp.cmpi .slt (ix (ix2 t j)) 128#32) := by
  pointwise [fn, fn_part1]
theorem room_eq :
    (fn x rw ix w).2.2.2 = cmpi .sle (count ix) (broadcastInDim S32 ![] bcast_S_S32 (constantI S_ 32 112#32)) := by
  simp only [fn, fn_part1, count, sent]
theorem room_at (a : Fin 32) :
    (fn x rw ix w).2.2.2 (ix1 a) = IntOp.cmpi .sle (count ix (ix1 a)) 112#32 := by
  rw [room_eq]
  generalize count ix = v
  pointwise

theorem and_one {a b : BitVec 1} (h : IntOp.andi a b = 1#1) : a = 1#1 ∧ b = 1#1 := by
  revert a b; decide

/-- A magnitude below infinity is a real number. -/
theorem real_of_lt (v : EReal) (h : Ideal.cmp .olt (max v (-v)) (Ideal.ofBits .f32 0x7F800000#32) = 1#1) : Fin' v := by
  rw [show Ideal.ofBits FTy.f32 0x7F800000#32 = (⊤ : EReal) by simp [Ideal.ofBits, Ideal.ieee]] at h
  have h' : max v (-v) < ⊤ := of_decide_eq_true ((ofBool_eq_one_iff _).1 h)
  induction v with
  | bot => simp at h'
  | coe r => exact ⟨r, rfl⟩
  | top => simp at h'

/-- A word that is neither negative nor 128 or more names an expert. -/
theorem expert_of (v : BitVec 32) (h : IntOp.andi (IntOp.cmpi .sge v 0#32) (IntOp.cmpi .slt v 128#32) = 1#1) :
    ∃ e : Fin 128, v = BitVec.ofNat 32 e.val := by
  obtain ⟨h0, h1⟩ := and_one h
  have h0' : (0#32).toInt ≤ v.toInt := of_decide_eq_true ((ofBool_eq_one_iff _).1 h0)
  have h1' : v.toInt < (128#32).toInt := of_decide_eq_true ((ofBool_eq_one_iff _).1 h1)
  rw [show (0#32).toInt = 0 from rfl, BitVec.toInt_eq_toNat_cond] at h0'
  rw [show (128#32).toInt = 128 from rfl, BitVec.toInt_eq_toNat_cond] at h1'
  have hv := v.isLt
  have hlt : v.toNat < 128 := by
    split at h0' <;> omega
  exact ⟨⟨v.toNat, hlt⟩, by simp⟩

theorem sent_word : ∀ e : Fin 128,
    IntOp.andi (IntOp.cmpi .sge (BitVec.ofNat 32 e.val) (IntOp.muli 4#32 (BitVec.ofNat 32 (owner e).val)))
      (IntOp.cmpi .slt (BitVec.ofNat 32 e.val) (IntOp.addi (IntOp.muli 4#32 (BitVec.ofNat 32 (owner e).val)) 4#32)) = 1#1 := by
  decide +kernel

/-- The routes to a device. -/
def routes (a : Fin 32) : Finset S1024x2x32.Idx :=
  Finset.univ.filter fun i => reducesTo_S1024x2x32_S32_d0_1.drop i = ix1 a ∧ sent ix i = 1#1

theorem count_eq (a : Fin 32) : count ix (ix1 a) = BitVec.ofNat 32 (routes ix a).card := by
  unfold count routes
  rw [Host.reduce_eq_fold, ← Finset.filter_filter]
  exact IndicatorCount.fold_addi_setWidth_eq_card (sent ix) _

theorem routes_lt (a : Fin 32) : (routes ix a).card < 2 ^ 31 := by
  refine lt_of_le_of_lt (Finset.card_le_univ _) ?_
  rw [Shape.card_idx]
  decide

theorem routes_le (h : (fn x rw ix w).2.2.2 = fun _ => 1#1) (a : Fin 32) : (routes ix a).card ≤ 112 := by
  have h1 := congrFun h (ix1 a)
  rw [room_at, count_eq] at h1
  exact (sle_ofNat_iff _ _ (routes_lt ix a) (by norm_num)).1 h1

theorem mem_routes (t : Fin 1024) (j : Fin 2) (e : Fin 128) (h : ix (ix2 t j) = BitVec.ofNat 32 e.val) :
    (ix3 t j (owner e) : S1024x2x32.Idx) ∈ routes ix (owner e) := by
  refine Finset.mem_filter.2 ⟨Finset.mem_univ _, ?_, ?_⟩
  · funext b
    obtain rfl : b = 0 := Subsingleton.elim _ _
    exact Fin.ext (Shape.ReducesTo.drop_apply_val reducesTo_S1024x2x32_S32_d0_1 _ 0)
  · rw [sent_at, h]; exact sent_word e

/-- No device is sent more rows than it has. -/
theorem fits (e0 e1 : Fin 1024 → Fin 128) (h0 : ∀ t, ix (ix2 t 0) = BitVec.ofNat 32 (e0 t).val)
    (h1 : ∀ t, ix (ix2 t 1) = BitVec.ofNat 32 (e1 t).val) (h : (fn x rw ix w).2.2.2 = fun _ => 1#1) (a : Fin 32) :
    (goes (fun t => owner (e0 t)) a).card + (goes (fun t => owner (e1 t)) a).card ≤ 112 := by
  classical
  refine le_trans ?_ (routes_le x rw ix w h a)
  let f (j : Fin 2) (t : Fin 1024) : S1024x2x32.Idx := ix3 t j a
  have hf : ∀ j, Function.Injective (f j) := fun j t t' e => congrFun e 0
  rw [← Finset.card_image_of_injective _ (hf 0), ← Finset.card_image_of_injective (goes (fun t => owner (e1 t)) a) (hf 1),
    ← Finset.card_union_of_disjoint]
  · refine Finset.card_le_card fun i hi => ?_
    rcases Finset.mem_union.1 hi with hi | hi
    · obtain ⟨t, ht, rfl⟩ := Finset.mem_image.1 hi
      obtain rfl : owner (e0 t) = a := (Finset.mem_filter.1 ht).2
      exact mem_routes ix t 0 (e0 t) (h0 t)
    · obtain ⟨t, ht, rfl⟩ := Finset.mem_image.1 hi
      obtain rfl : owner (e1 t) = a := (Finset.mem_filter.1 ht).2
      exact mem_routes ix t 1 (e1 t) (h1 t)
  · refine Finset.disjoint_left.2 fun i hi hi' => ?_
    obtain ⟨t, -, rfl⟩ := Finset.mem_image.1 hi
    obtain ⟨t', -, e⟩ := Finset.mem_image.1 hi'
    exact absurd (congrFun e 1) (show ¬((1 : Fin 2) = 0) by decide)

theorem goes_offs (d : Fin 32) (e : Fin 1024 → Fin 128) (a : Fin 32) :
    goes (fun t => offs d (e t)) a = goes (fun t => owner (e t)) (a + d) :=
  Finset.filter_congr fun _ _ => sub_eq_iff_eq_add

theorem fits_offs (d : Fin 32) (e0 e1 : Fin 1024 → Fin 128) (h0 : ∀ t, ix (ix2 t 0) = BitVec.ofNat 32 (e0 t).val)
    (h1 : ∀ t, ix (ix2 t 1) = BitVec.ofNat 32 (e1 t).val) (h : (fn x rw ix w).2.2.2 = fun _ => 1#1) :
    Fits (fun t => offs d (e0 t)) (fun t => offs d (e1 t)) := fun a => by
  rw [goes_offs, goes_offs]
  exact fits x rw ix w e0 e1 h0 h1 h _

end Cert.Moe.Routed
-- ==== Proof.RefValue.lean ====
/- The reference's result, in closed form. -/
module

public import proofs.«01_k».proof.Proof.Ref
public import Idealize.ShloMosaic.Lib.Pointwise

@[expose] public section

set_option maxRecDepth 16384

noncomputable section

namespace Cert.Moe.Ref

open Cert.ReferenceIdeal Cert.ReferenceIdeal.Gen
open Idealize.ShloMosaic Idealize.ShloMosaic.TcCoe Idealize.SL Idealize.SL.Sem Idealize.ShloMosaic.StableHlo

/-! ## The reference's lines, named -/

/-- An index with Python's reading of negative ones. -/
def wrap (n : BitVec 32) (i : IVec S32768 32) : IVec S32768 32 :=
  select (cmpi .slt i (broadcastInDim S32768 ![] bcast_S_S32768 (constantI S_ 32 0#32)))
    (addi i (broadcastInDim S32768 ![] bcast_S_S32768 (constantI S_ 32 n))) i
def col0 (ix : IVec S32768x2 32) : IVec S32768 32 :=
  shapeCast S32768 (extractStridedSlice S32768x1 ![0, 0] ix slices_S32768x2_S32768x1_0_0) shapeCasts_S32768x1_S32768
def col1 (ix : IVec S32768x2 32) : IVec S32768 32 :=
  shapeCast S32768 (extractStridedSlice S32768x1 ![0, 1] ix slices_S32768x2_S32768x1_0_1) shapeCasts_S32768x1_S32768
/-- Each token's row, and the expert its index names, as one index pair. -/
def pairs (i : IVec S32768 32) : IVec S32768x2 32 :=
  concatenate S32768x2 1
    [⟨S32768x1, broadcastInDim S32768x1 ![0] bcast_S32768_S32768x1_0 (wrap 32768#32 (iotaInDim S32768 32 0))⟩,
     ⟨S32768x1, broadcastInDim S32768x1 ![0] bcast_S32768_S32768x1_0 (wrap 128#32 i)⟩]
    concatenates_S32768x1_S32768x1_S32768x2_d1
def scores (x : FVec Ideal S32768x256 .bf16) (rw : FVec Ideal S256x128 .bf16) : FVec Ideal S32768x128 .f32 :=
  Host.dotGeneral dot_S32768x256_S256x128_S32768x128_1_0_0_1_n_n none (extf .f32 x bitsLt_bf16_f32) (extf .f32 rw bitsLt_bf16_f32)
def top (s : FVec Ideal S32768x128 .f32) : FVec Ideal S32768 .f32 :=
  Host.reduce FloatOps.maximumf s (constant S_ .f32 0xFF800000#32) reducesTo_S32768x128_S32768_d1 h_S_
def expo (s : FVec Ideal S32768x128 .f32) : FVec Ideal S32768x128 .f32 :=
  Host.exp (subf s (broadcastInDim S32768x128 ![0, 1] bcast_S32768x1_S32768x128_0_1
    (broadcastInDim S32768x1 ![0] bcast_S32768_S32768x1_0 (top s))))
def probs (s : FVec Ideal S32768x128 .f32) : FVec Ideal S32768x128 .f32 :=
  Host.divf (expo s) (broadcastInDim S32768x128 ![0, 1] bcast_S32768x1_S32768x128_0_1
    (broadcastInDim S32768x1 ![0] bcast_S32768_S32768x1_0
      (Host.reduceAdd (expo s) (constant S_ .f32 0x00000000#32) reducesTo_S32768x128_S32768_d1 h_S_)))
def chosen (p : FVec Ideal S32768x128 .f32) (i : IVec S32768 32) : FVec Ideal S32768 .f32 :=
  Host.gather gather_S32768x128_S32768x2_S32768_n_01_n_n_01_1_11 p (pairs i)
def experts (w : FVec Ideal S128x256x512 .bf16) (i : IVec S32768 32) : FVec Ideal S32768x256x512 .f32 :=
  Host.gather gather_S128x256x512_S32768x1_S32768x256x512_12_0_n_n_0_1_1256512 (extf .f32 w bitsLt_bf16_f32)
    (broadcastInDim S32768x1 ![0] bcast_S32768_S32768x1_0 (wrap 128#32 i))
def prods (x : FVec Ideal S32768x256 .bf16) (w : FVec Ideal S128x256x512 .bf16) (i : IVec S32768 32) : FVec Ideal S32768x512 .f32 :=
  Host.dotGeneral dot_S32768x256_S32768x256x512_S32768x512_1_1_n_2_0_0 none (extf .f32 x bitsLt_bf16_f32) (experts w i)
def weigh (g : FVec Ideal S32768 .f32) (s : FVec Ideal S32768 .f32) (y : FVec Ideal S32768x512 .f32) : FVec Ideal S32768x512 .f32 :=
  mulf (broadcastInDim S32768x512 ![0, 1] bcast_S32768x1_S32768x512_0_1
    (broadcastInDim S32768x1 ![0] bcast_S32768_S32768x1_0 (Host.divf g s))) y
def result (x : FVec Ideal S32768x256 .bf16) (rw : FVec Ideal S256x128 .bf16) (ix : IVec S32768x2 32)
    (w : FVec Ideal S128x256x512 .bf16) : FVec Ideal S32768x512 .f32 :=
  let p := probs (scores x rw)
  let g0 := chosen p (col0 ix)
  let g1 := chosen p (col1 ix)
  addf (weigh g0 (addf g0 g1) (prods x w (col0 ix))) (weigh g1 (addf g0 g1) (prods x w (col1 ix)))

theorem result_eq (V : Valuation τ sig (Elt Ideal)) :
    after ops V (main_v71 : DevRef τ sig)
      = result (V (main_arg0 : DevRef τ sig)) (V (main_arg1 : DevRef τ sig)) (V (main_arg2 : DevRef τ sig)) (V (main_arg3 : DevRef τ sig)) := by
  after_reads_simp
  rfl

end Cert.Moe.Ref
-- ==== Proof.RefReads.lean ====
/- The reference's result read at an index. -/
module

public import proofs.«01_k».proof.Proof.RefValue
public import proofs.«01_k».proof.Proof.Pack

@[expose] public section

set_option maxRecDepth 16384

noncomputable section

namespace Cert.Moe.Ref

open Cert.ReferenceIdeal Cert.ReferenceIdeal.Gen
open Idealize.ShloMosaic Idealize.ShloMosaic.TcCoe Idealize.SL Idealize.SL.Sem Idealize.ShloMosaic.StableHlo

theorem scores_at (x : FVec Ideal S32768x256 .bf16) (rw : FVec Ideal S256x128 .bf16) (t : Fin 32768) (e : Fin 128) :
    scores x rw (ix2 t e) = ∑ d, x (ix2 t d) * rw (ix2 d e) := by
  pointwise [scores]
theorem top_at (s : FVec Ideal S32768x128 .f32) (t : Fin 32768) :
    top s (ix1 t) = Finset.univ.fold max ⊥ fun e => s (ix2 t e) := by
  pointwise [top]
  rw [show Ideal.ofBits FTy.f32 4286578688#32 = (⊥ : EReal) by simp [Ideal.ofBits, Ideal.ieee]]
theorem expo_at (s : FVec Ideal S32768x128 .f32) (t : Fin 32768) (e : Fin 128) :
    expo s (ix2 t e) = Ideal.exp (s (ix2 t e) - top s (ix1 t)) := by
  pointwise [expo]
theorem probs_at (s : FVec Ideal S32768x128 .f32) (t : Fin 32768) (e : Fin 128) :
    probs s (ix2 t e) = Ideal.div (expo s (ix2 t e)) (∑ k, expo s (ix2 t k)) := by
  pointwise [probs]
theorem weigh_at (g s : FVec Ideal S32768 .f32) (y : FVec Ideal S32768x512 .f32) (t : Fin 32768) (l : Fin 512) :
    weigh g s y (ix2 t l) = Ideal.div (g (ix1 t)) (s (ix1 t)) * y (ix2 t l) := by
  pointwise [weigh]
theorem prods_at (x : FVec Ideal S32768x256 .bf16) (w : FVec Ideal S128x256x512 .bf16) (i : IVec S32768 32) (t : Fin 32768) (l : Fin 512) :
    prods x w i (ix2 t l) = ∑ d, x (ix2 t d) * experts w i (ix3 t d l) := by
  pointwise [prods]
theorem col0_at (ix : IVec S32768x2 32) (t : Fin 32768) : col0 ix (ix1 t) = ix (ix2 t 0) := by
  pointwise [col0]
theorem col1_at (ix : IVec S32768x2 32) (t : Fin 32768) : col1 ix (ix1 t) = ix (ix2 t 1) := by
  pointwise [col1]
theorem wrap_at (n : BitVec 32) (i : IVec S32768 32) (t : Fin 32768) :
    wrap n i (ix1 t) = Scalar.select (IntOp.cmpi .slt (i (ix1 t)) 0#32) (IntOp.addi (i (ix1 t)) n) (i (ix1 t)) := by
  pointwise [wrap]
theorem pairs_at0 (i : IVec S32768 32) (t : Fin 32768) :
    pairs i (ix2 t 0) = wrap 32768#32 (iotaInDim S32768 32 0) (ix1 t) := by
  pointwise [pairs]
theorem pairs_at1 (i : IVec S32768 32) (t : Fin 32768) :
    pairs i (ix2 t 1) = wrap 128#32 i (ix1 t) := by
  pointwise [pairs]
theorem iota_at (t : Fin 32768) : iotaInDim S32768 32 0 (ix1 t) = BitVec.ofNat 32 t.val := by
  pointwise

/-- A word that is not negative stays. -/
theorem wrap_nat (n : BitVec 32) (i : IVec S32768 32) (t : Fin 32768) (a : ℕ) (ha : a < 2 ^ 31) (h : i (ix1 t) = BitVec.ofNat 32 a) :
    wrap n i (ix1 t) = BitVec.ofNat 32 a := by
  rw [wrap_at, h]
  have : IntOp.cmpi .slt (BitVec.ofNat 32 a) 0#32 = 0#1 := by
    show BitVec.ofBool ((BitVec.ofNat 32 a).slt 0#32) = 0#1
    rw [BitVec.slt, BitVec.toInt_ofNat', BitVec.toInt_zero, Int.bmod_eq_of_le (by omega) (by omega),
      decide_eq_false (by omega)]
    rfl
  rw [this]; rfl

theorem clamp_nat (a n : ℕ) (ha : a < n) (hn : n ≤ 32768) : min (BitVec.ofNat 32 a).toInt.toNat (n - 1) = a := by
  rw [BitVec.toInt_ofNat', Int.bmod_eq_of_le (by omega) (by omega)]
  omega

/-- The gather of single scores, and of whole experts. -/
abbrev G2 : GatherDims S32768x128 S32768x2 S32768 := gather_S32768x128_S32768x2_S32768_n_01_n_n_01_1_11
abbrev G3 : GatherDims S128x256x512 S32768x1 S32768x256x512 := gather_S128x256x512_S32768x1_S32768x256x512_12_0_n_n_0_1_1256512

theorem G2_si (t : Fin 32768) (c : Fin G2.startIndexMap.length) (k : Fin 2) (hc : c.val = k.val) :
    G2.siIdx (ix1 t) c = ix2 t k := by
  have e0 : ∀ X : Fin 1, (ix1 t X).val = t.val := fun X => by obtain rfl : X = 0 := Subsingleton.elim _ _; rfl
  funext b
  apply Fin.ext
  match b with
  | ⟨0, _⟩ =>
    unfold GatherDims.siIdx
    rw [dif_neg (by show ¬(0 = 1); decide)]
    unfold GatherDims.siCoord
    simp only [Fin.val_cast]
    exact e0 _
  | ⟨1, _⟩ =>
    unfold GatherDims.siIdx
    rw [dif_pos (by show 1 = 1; rfl)]
    exact hc

theorem G3_si (t : Fin 32768) (d : Fin 256) (l : Fin 512) (c : Fin G3.startIndexMap.length) (hc : c.val = 0) :
    G3.siIdx (ix3 t d l) c = ix2 t 0 := by
  have e0 : ∀ X : Fin 3, X = 0 → (ix3 t d l X).val = t.val := fun X h => by subst h; rfl
  have hk : ∀ k ∈ G3.batchDims, k = (0 : Fin 3) := fun k hk => by
    have hk' : k ∉ ([1, 2] : List (Fin 3)) := of_decide_eq_true (List.mem_filter.1 hk).2
    clear hk; revert k; decide
  funext b
  apply Fin.ext
  match b with
  | ⟨0, _⟩ =>
    unfold GatherDims.siIdx
    rw [dif_neg (by show ¬(0 = 1); decide)]
    unfold GatherDims.siCoord
    simp only [Fin.val_cast]
    exact e0 _ (hk _ (List.getElem_mem _))
  | ⟨1, _⟩ =>
    unfold GatherDims.siIdx
    rw [dif_pos (by show 1 = 1; rfl)]
    exact hc

theorem chosen_at (p : FVec Ideal S32768x128 .f32) (i : IVec S32768 32) (t : Fin 32768) (e : Fin 128)
    (h : i (ix1 t) = BitVec.ofNat 32 e.val) : chosen p i (ix1 t) = p (ix2 t e) := by
  have h0 : pairs i (ix2 t 0) = BitVec.ofNat 32 t.val := by
    rw [pairs_at0, wrap_nat _ _ _ t.val (by omega) (iota_at t)]
  have h1 : pairs i (ix2 t 1) = BitVec.ofNat 32 e.val := by
    rw [pairs_at1, wrap_nat _ _ _ e.val (by omega) h]
  unfold chosen Host.gather
  refine congrArg p (funext fun a => Fin.ext ?_)
  match a with
  | ⟨0, _⟩ =>
    show G2.start (ix1 t) (pairs i) 0 + G2.batchCoord (ix1 t) 0 + G2.offCoord (ix1 t) 0 = t.val
    rw [G2.batchCoord_eq_zero _ _ (show (0 : Fin 2) ∉ ([] : List (Fin 2)) by decide),
      G2.offCoord_eq_zero _ _ fun h => ((G2.mem_sKept 0).1 h).1 (show (0 : Fin 2) ∈ ([0, 1] : List (Fin 2)) by decide)]
    unfold GatherDims.start
    have hm : (0 : Fin 2) ∈ G2.startIndexMap := (by decide : (0 : Fin 2) ∈ ([0, 1] : List (Fin 2)))
    rw [dif_pos hm, G2_si t ⟨G2.startIndexMap.idxOf 0, List.idxOf_lt_length_iff.2 hm⟩ 0 rfl, h0]
    exact clamp_nat _ _ t.isLt (le_refl _)
  | ⟨1, _⟩ =>
    show G2.start (ix1 t) (pairs i) 1 + G2.batchCoord (ix1 t) 1 + G2.offCoord (ix1 t) 1 = e.val
    rw [G2.batchCoord_eq_zero _ _ (show (1 : Fin 2) ∉ ([] : List (Fin 2)) by decide),
      G2.offCoord_eq_zero _ _ fun h => ((G2.mem_sKept 1).1 h).1 (show (1 : Fin 2) ∈ ([0, 1] : List (Fin 2)) by decide)]
    unfold GatherDims.start
    have hm : (1 : Fin 2) ∈ G2.startIndexMap := (by decide : (1 : Fin 2) ∈ ([0, 1] : List (Fin 2)))
    rw [dif_pos hm, G2_si t ⟨G2.startIndexMap.idxOf 1, List.idxOf_lt_length_iff.2 hm⟩ 1 rfl, h1]
    exact clamp_nat _ 128 e.isLt (by omega)

theorem experts_at (w : FVec Ideal S128x256x512 .bf16) (i : IVec S32768 32) (t : Fin 32768) (e : Fin 128) (d : Fin 256) (l : Fin 512)
    (h : i (ix1 t) = BitVec.ofNat 32 e.val) : experts w i (ix3 t d l) = w (ix3 e d l) := by
  have h1 : broadcastInDim S32768x1 ![0] bcast_S32768_S32768x1_0 (wrap 128#32 i) (ix2 t 0) = BitVec.ofNat 32 e.val := by
    pointwise
    exact wrap_nat _ _ _ e.val (by omega) h
  unfold experts Host.gather
  refine Eq.trans (b := w _) rfl ?_
  refine congrArg w (funext fun a => Fin.ext ?_)
  have hs : G3.sKept = [1, 2] := rfl
  match a with
  | ⟨0, _⟩ =>
    show G3.start (ix3 t d l) _ 0 + G3.batchCoord (ix3 t d l) 0 + G3.offCoord (ix3 t d l) 0 = e.val
    rw [G3.batchCoord_eq_zero _ _ (show (0 : Fin 3) ∉ ([] : List (Fin 3)) by decide),
      G3.offCoord_eq_zero _ _ fun h => ((G3.mem_sKept 0).1 h).1 (show (0 : Fin 3) ∈ ([0] : List (Fin 3)) by decide)]
    unfold GatherDims.start
    rw [dif_pos (show (0 : Fin 3) ∈ G3.startIndexMap from (by decide : (0 : Fin 3) ∈ ([0] : List (Fin 3)))), G3_si t d l _ rfl, h1]
    exact clamp_nat _ 128 e.isLt (by omega)
  | ⟨1, _⟩ =>
    show G3.start (ix3 t d l) _ 1 + G3.batchCoord (ix3 t d l) 1 + G3.offCoord (ix3 t d l) 1 = d.val
    rw [G3.batchCoord_eq_zero _ _ (show (1 : Fin 3) ∉ ([] : List (Fin 3)) by decide)]
    unfold GatherDims.start GatherDims.offCoord
    rw [dif_neg (show (1 : Fin 3) ∉ G3.startIndexMap from (by decide : (1 : Fin 3) ∉ ([0] : List (Fin 3)))), dif_pos (show (1 : Fin 3) ∈ G3.sKept by rw [hs]; decide),
      Nat.zero_add]
    rfl
  | ⟨2, _⟩ =>
    show G3.start (ix3 t d l) _ 2 + G3.batchCoord (ix3 t d l) 2 + G3.offCoord (ix3 t d l) 2 = l.val
    rw [G3.batchCoord_eq_zero _ _ (show (2 : Fin 3) ∉ ([] : List (Fin 3)) by decide)]
    unfold GatherDims.start GatherDims.offCoord
    rw [dif_neg (show (2 : Fin 3) ∉ G3.startIndexMap from (by decide : (2 : Fin 3) ∉ ([0] : List (Fin 3)))), dif_pos (show (2 : Fin 3) ∈ G3.sKept by rw [hs]; decide),
      Nat.zero_add]
    rfl

end Cert.Moe.Ref
-- ==== Proof.RefAt.lean ====
/- The reference's result at a token, from the two experts its route names. -/
module

public import proofs.«01_k».proof.Proof.RefReads
public import proofs.«01_k».proof.Proof.Softmax

@[expose] public section

set_option maxRecDepth 16384

noncomputable section

namespace Cert.Moe.Ref

open Cert.ReferenceIdeal Cert.ReferenceIdeal.Gen
open Idealize.ShloMosaic Idealize.ShloMosaic.TcCoe Idealize.SL Idealize.SL.Sem Idealize.ShloMosaic.StableHlo

theorem probs_soft (s : FVec Ideal S32768x128 .f32) (t : Fin 32768) (e : Fin 128) :
    probs s (ix2 t e) = soft (fun k => s (ix2 t k)) e := by
  rw [probs_at]
  simp only [expo_at, top_at]
  rfl

variable (x : FVec Ideal S32768x256 .bf16) (rw : FVec Ideal S256x128 .bf16) (ix : IVec S32768x2 32) (w : FVec Ideal S128x256x512 .bf16)

theorem result_at (t : Fin 32768) (l : Fin 512) (e0 e1 : Fin 128) (h0 : ix (ix2 t 0) = BitVec.ofNat 32 e0.val)
    (h1 : ix (ix2 t 1) = BitVec.ofNat 32 e1.val) (hx : ∀ d, Fin' (x (ix2 t d))) (hrw : ∀ d e, Fin' (rw (ix2 d e))) :
    result x rw ix w (ix2 t l)
      = gate0 (∑ d, x (ix2 t d) * rw (ix2 d e0)) (∑ d, x (ix2 t d) * rw (ix2 d e1)) * (∑ d, x (ix2 t d) * w (ix3 e0 d l))
        + gate1 (∑ d, x (ix2 t d) * rw (ix2 d e0)) (∑ d, x (ix2 t d) * rw (ix2 d e1)) * (∑ d, x (ix2 t d) * w (ix3 e1 d l)) := by
  have c0 : col0 ix (ix1 t) = BitVec.ofNat 32 e0.val := (col0_at ix t).trans h0
  have c1 : col1 ix (ix1 t) = BitVec.ofNat 32 e1.val := (col1_at ix t).trans h1
  obtain ⟨g0, g1⟩ := soft_gate (fun e => ∑ d, x (ix2 t d) * rw (ix2 d e)) (fun e => dot_real _ _ hx fun d => hrw d e) e0 e1
  have ps : ∀ e, probs (scores x rw) (ix2 t e) = soft (fun e => ∑ d, x (ix2 t d) * rw (ix2 d e)) e := fun e => by
    rw [probs_soft]; simp only [scores_at]
  show weigh (chosen (probs (scores x rw)) (col0 ix)) (addf (chosen (probs (scores x rw)) (col0 ix)) (chosen (probs (scores x rw)) (col1 ix)))
        (prods x w (col0 ix)) (ix2 t l)
      + weigh (chosen (probs (scores x rw)) (col1 ix)) (addf (chosen (probs (scores x rw)) (col0 ix)) (chosen (probs (scores x rw)) (col1 ix)))
        (prods x w (col1 ix)) (ix2 t l) = _
  have hs : addf (chosen (probs (scores x rw)) (col0 ix)) (chosen (probs (scores x rw)) (col1 ix)) (ix1 t)
      = chosen (probs (scores x rw)) (col0 ix) (ix1 t) + chosen (probs (scores x rw)) (col1 ix) (ix1 t) := rfl
  rw [weigh_at, weigh_at, prods_at, prods_at, hs, chosen_at _ _ t e0 c0, chosen_at _ _ t e1 c1, ps, ps, g0, g1]
  simp only [experts_at w _ t e0 _ l c0, experts_at w _ t e1 _ l c1]

end Cert.Moe.Ref
-- ==== Proof.Algebraic.lean ====
/- The kernel's result on every device is its block of the reference's. -/
module

public import proofs.«01_k».proof.Proof.Final
public import proofs.«01_k».proof.Proof.Routed
public import proofs.«01_k».proof.Proof.RefAt

@[expose] public section

set_option maxRecDepth 16384

noncomputable section

namespace Cert.Moe

open Idealize.ShloMosaic Idealize.ShloMosaic.TcCoe Idealize.SL.Sem

/-- The token that device `c` holds as its row `t`. -/
def tok (c : Fin 32) (t : Fin 1024) : Fin 32768 := ⟨c.val * 1024 + t.val, by omega⟩

theorem block_x {α : Type} (c : Fin 32) (v : (⟨2, ![32768, 256]⟩ : Shape).Idx → α) (t : Fin 1024) (d : Fin 256) :
    Layout.block ⟨2, ![1024, 256]⟩ ⟨2, ![32768, 256]⟩ 0 32 c v (by decide) (ix2 t d) = v (ix2 (tok c t) d) :=
  congrArg v (funext fun a => Fin.ext (match a with | ⟨0, _⟩ => rfl | ⟨1, _⟩ => rfl))
theorem block_i {α : Type} (c : Fin 32) (v : (⟨2, ![32768, 2]⟩ : Shape).Idx → α) (t : Fin 1024) (j : Fin 2) :
    Layout.block ⟨2, ![1024, 2]⟩ ⟨2, ![32768, 2]⟩ 0 32 c v (by decide) (ix2 t j) = v (ix2 (tok c t) j) :=
  congrArg v (funext fun a => Fin.ext (match a with | ⟨0, _⟩ => rfl | ⟨1, _⟩ => rfl))
theorem block_o {α : Type} (c : Fin 32) (v : (⟨2, ![32768, 512]⟩ : Shape).Idx → α) (t : Fin 1024) (l : Fin 512) :
    Layout.block ⟨2, ![1024, 512]⟩ ⟨2, ![32768, 512]⟩ 0 32 c v (by decide) (ix2 t l) = v (ix2 (tok c t) l) :=
  congrArg v (funext fun a => Fin.ext (match a with | ⟨0, _⟩ => rfl | ⟨1, _⟩ => rfl))
theorem block_w {α : Type} (v : (⟨3, ![128, 256, 512]⟩ : Shape).Idx → α) (e : Fin 128) (d : Fin 256) (l : Fin 512) :
    Layout.block ⟨3, ![4, 256, 512]⟩ ⟨3, ![128, 256, 512]⟩ 0 32 (owner e) v (by decide) (ix3 (loc4 e) d l) = v (ix3 e d l) :=
  congrArg v (funext fun a => Fin.ext (match a with
    | ⟨0, _⟩ => (show e.val / 4 * 4 + e.val % 4 = e.val by omega)
    | ⟨1, _⟩ => rfl
    | ⟨2, _⟩ => rfl))

open Cert.KernelIdeal Cert.KernelIdeal.Gen in
theorem col_i0 (x : Vec Ideal S1024x256 .bf16) (rw : Vec Ideal S256x128 .bf16) (ix : Vec Ideal S1024x2 .i32) (t : Fin 1024) :
    (insOf x rw ix).i0 (ix2 t 0) = ix (ix2 t 0) :=
  congrArg ix (funext fun a => Fin.ext (match a with
    | ⟨0, _⟩ => (ValueKit.rect_emb_unit_val (s := S1024x2) ![0, 0] S1024x1.size inb_S1024x2_S1024x1_0_0 (ix2 t 0) _).trans (by simp [ix2])
    | ⟨1, _⟩ => (ValueKit.rect_emb_unit_val (s := S1024x2) ![0, 0] S1024x1.size inb_S1024x2_S1024x1_0_0 (ix2 t 0) _).trans (by simp [ix2])))
open Cert.KernelIdeal Cert.KernelIdeal.Gen in
theorem col_i1 (x : Vec Ideal S1024x256 .bf16) (rw : Vec Ideal S256x128 .bf16) (ix : Vec Ideal S1024x2 .i32) (t : Fin 1024) :
    (insOf x rw ix).i1 (ix2 t 0) = ix (ix2 t 1) :=
  congrArg ix (funext fun a => Fin.ext (match a with
    | ⟨0, _⟩ => (ValueKit.rect_emb_unit_val (s := S1024x2) ![0, 1] S1024x1.size inb_S1024x2_S1024x1_0_1 (ix2 t 0) _).trans (by simp [ix2])
    | ⟨1, _⟩ => (ValueKit.rect_emb_unit_val (s := S1024x2) ![0, 1] S1024x1.size inb_S1024x2_S1024x1_0_1 (ix2 t 0) _).trans (by simp [ix2])))

/-- The value of one device's block. -/
theorem block_eq (c : Fin 32) (I : Dev Cert.KernelIdeal.nD → Ins Ideal) (Wt : Dev Cert.KernelIdeal.nD → WBuf Ideal)
    (X : FVec Ideal Cert.ReferenceIdeal.S32768x256 .bf16) (R : FVec Ideal Cert.ReferenceIdeal.S256x128 .bf16)
    (N : IVec Cert.ReferenceIdeal.S32768x2 32) (W : FVec Ideal Cert.ReferenceIdeal.S128x256x512 .bf16)
    (ix : IVec ⟨2, ![1024, 2]⟩ 32) (x : FVec Ideal ⟨2, ![1024, 256]⟩ .bf16) (w : FVec Ideal ⟨3, ![4, 256, 512]⟩ .bf16)
    (hI : I c = insOf x R ix)
    (hx : x = Layout.block ⟨2, ![1024, 256]⟩ ⟨2, ![32768, 256]⟩ 0 32 c X)
    (hi : ix = Layout.block ⟨2, ![1024, 2]⟩ ⟨2, ![32768, 2]⟩ 0 32 c N)
    (hW : ∀ c : Fin 32, Wt c = Layout.block ⟨3, ![4, 256, 512]⟩ ⟨3, ![128, 256, 512]⟩ 0 32 c W)
    (p0 : (Cert.Pre_routed_KernelIdeal.fn x R ix w).1 = fun _ => 1#1)
    (p1 : (Cert.Pre_routed_KernelIdeal.fn x R ix w).2.1 = fun _ => 1#1)
    (p2 : (Cert.Pre_routed_KernelIdeal.fn x R ix w).2.2.1 = fun _ => 1#1)
    (p3 : (Cert.Pre_routed_KernelIdeal.fn x R ix w).2.2.2 = fun _ => 1#1) :
    accTo I Wt c 31 = Layout.block ⟨2, ![1024, 512]⟩ ⟨2, ![32768, 512]⟩ 0 32 c (Ref.result X R N W) := by
  have hX : ∀ t d, Fin' (x (ix2 t d)) := fun t d =>
    Routed.real_of_lt _ ((Routed.fin_x_at x R ix w t d).symm.trans (congrFun p0 _))
  have hR : ∀ d e, Fin' (R (ix2 d e)) := fun d e =>
    Routed.real_of_lt _ ((Routed.fin_rw_at x R ix w d e).symm.trans (congrFun p1 _))
  have hE : ∀ t j, ∃ e : Fin 128, ix (ix2 t j) = BitVec.ofNat 32 e.val := fun t j =>
    Routed.expert_of _ ((Routed.range_at x R ix w t j).symm.trans (congrFun p2 _))
  choose e he using hE
  have hN : Names (I c) (fun t => e t 0) (fun t => e t 1) := by
    rw [hI]
    exact ⟨fun t => (col_i0 x R ix t).trans (he t 0), fun t => (col_i1 x R ix t).trans (he t 1)⟩
  have hF := Routed.fits_offs x R ix w c (fun t => e t 0) (fun t => e t 1) (fun t => he t 0) (fun t => he t 1) p3
  have xt : ∀ t d, x (ix2 t d) = X (ix2 (tok c t) d) := fun t d => by rw [hx]; exact block_x c X t d
  have wt : ∀ e d l, Wt (owner e) (ix3 (loc4 e) d l) = W (ix3 e d l) := fun e d l => by rw [hW]; exact block_w W e d l
  have nt : ∀ t j, N (ix2 (tok c t) j) = BitVec.ofNat 32 (e t j).val := fun t j => by
    rw [← he t j, hi]; exact (block_i c N t j).symm
  funext i
  obtain ⟨t, l, rfl⟩ : ∃ (t : Fin 1024) (l : Fin 512), i = ix2 t l :=
    ⟨i 0, i 1, funext fun a => match a with | ⟨0, _⟩ => rfl | ⟨1, _⟩ => rfl⟩
  refine (out_at hN hF t l).trans (Eq.trans ?_ (block_o c _ t l).symm)
  rw [Ref.result_at X R N W (tok c t) l (e t 0) (e t 1) (nt t 0) (nt t 1) (fun d => by rw [← xt]; exact hX t d) hR]
  rw [hI]
  unfold score prod
  simp only [wt]
  show gate0 (∑ d, x (ix2 t d) * R (ix2 d (e t 0))) (∑ d, x (ix2 t d) * R (ix2 d (e t 1))) * (∑ d, x (ix2 t d) * W (ix3 (e t 0) d l))
    + gate1 (∑ d, x (ix2 t d) * R (ix2 d (e t 0))) (∑ d, x (ix2 t d) * R (ix2 d (e t 1))) * (∑ d, x (ix2 t d) * W (ix3 (e t 1) d l)) = _
  simp only [xt]

theorem algebraic : Cert.algebraic_KernelIdeal_ReferenceIdeal_pre_routed_KernelIdeal := fun m g m' g' hp hm => by
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (kernel_run (F := Ideal) m g)
    refine ⟨((h.1 c).1.trans (final_out m c)).trans ?_, (h.1 c).2⟩
    refine block_eq c (inOf m) (wtOf m) _ _ _ _ _ _ (m ((c.tc : Thread Cert.KernelIdeal.nD Cert.KernelIdeal.τ).loc Cert.KernelIdeal.main_arg3)) ?_ (hm c).1 (hm c).2.2.1 (fun d => (wtOf_eq m d).trans (hm d).2.2.2)
      ?_ ?_ ?_ ?_
    · unfold inOf
      rw [xOf_eq, rwOf_eq, ixOf_eq, (hm c).2.1]
    · rw [← (hm c).2.1]; exact (hp c).1
    · rw [← (hm c).2.1]; exact (hp c).2.1
    · rw [← (hm c).2.1]; exact (hp c).2.2.1
    · rw [← (hm c).2.1]; exact (hp c).2.2.2
  · exact (θ_run Cert.ReferenceIdeal.defs _ _).mono (fun _ h =>
      ⟨(h 0 _).trans (Ref.result_eq _), (h 0 _).trans (Ref.arg0_eq _), (h 0 _).trans (Ref.arg1_eq _), (h 0 _).trans (Ref.arg2_eq _),
        (h 0 _).trans (Ref.arg3_eq _)⟩) (Ref.run_main (F := Ideal) m' g')

end Cert.Moe

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- The shape relations of the predicate read at the reference's whole arrays. -/
theorem facts_ref : Cert.Pre_routed_ReferenceIdeal.Facts where
  bcast_S_S32 := by decide
  bcast_S32768x2_S32768x2x1_0_1 := by decide
  bcast_S32_S1x1x32_2 := by decide
  bcast_S32768x2x1_S32768x2x32_0_1_2 := by decide
  bcast_S1x1x32_S32768x2x32_0_1_2 := by decide
  bitsLt_bf16_f32 := by decide
  bcast_S_S32768x256 := by decide
  bcast_S_S256x128 := by decide
  bcast_S_S32768x2 := by decide
  natLt_1_32 := by decide
  reducesTo_S32768x2x32_S32_d0_1 := by decide
  h_S_ := by decide

theorem claim : Cert.Claim := ⟨Cert.Kernel.Gen.facts, Cert.KernelIdeal.Gen.facts, Cert.ReferenceIdeal.Gen.facts,
  Cert.Moe.Routed.facts, facts_ref,
  Cert.Moe.frame_kernel, Cert.Moe.frame_kernelIdeal, fun m g _ => Cert.Moe.frame_kernelIdeal m g trivial,
  Cert.Moe.frame_referenceIdeal, fun m g _ => Cert.Moe.frame_referenceIdeal m g trivial, trivial, Cert.Moe.algebraic⟩

end Cert.Proof

end
